-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_same_invertible_pose [hPre_same_invertible_pose : Cert.Pre_same_invertible_pose.Facts] (m : (ℓ : Loc Cert.KernelIdeal.nD Cert.KernelIdeal.τ Cert.KernelIdeal.sig) → Buf (Elt Ideal) ℓ) : Prop :=
  ∀ c : Dev Cert.KernelIdeal.nD,
    (Cert.Pre_same_invertible_pose.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_same_invertible_pose.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_same_invertible_pose.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_same_invertible_pose.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_same_invertible_pose.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2.1 = (fun _ => 1#1)
    ∧ (Cert.Pre_same_invertible_pose.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2.2.1 = (fun _ => 1#1)
    ∧ (Cert.Pre_same_invertible_pose.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2.2.2.1 = (fun _ => 1#1)
    ∧ (Cert.Pre_same_invertible_pose.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2.2.2.2.1 = (fun _ => 1#1)
    ∧ (Cert.Pre_same_invertible_pose.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2.2.2.2.2.1 = (fun _ => 1#1)
    ∧ (Cert.Pre_same_invertible_pose.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2.2.2.2.2.2.1 = (fun _ => 1#1)
    ∧ (Cert.Pre_same_invertible_pose.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_same_invertible_pose [hPre_same_invertible_pose : Cert.Pre_same_invertible_pose.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_same_invertible_pose.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_same_invertible_pose.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_same_invertible_pose.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_same_invertible_pose.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_same_invertible_pose.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2.1 = (fun _ => 1#1)
    ∧ (Cert.Pre_same_invertible_pose.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2.2.1 = (fun _ => 1#1)
    ∧ (Cert.Pre_same_invertible_pose.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2.2.2.1 = (fun _ => 1#1)
    ∧ (Cert.Pre_same_invertible_pose.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2.2.2.2.1 = (fun _ => 1#1)
    ∧ (Cert.Pre_same_invertible_pose.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2.2.2.2.2.1 = (fun _ => 1#1)
    ∧ (Cert.Pre_same_invertible_pose.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2.2.2.2.2.2.1 = (fun _ => 1#1)
    ∧ (Cert.Pre_same_invertible_pose.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_same_invertible_pose [hKernelIdeal : Cert.KernelIdeal.Facts] [hPre_same_invertible_pose : Cert.Pre_same_invertible_pose.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_same_invertible_pose m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_same_invertible_pose [hReferenceIdeal : Cert.ReferenceIdeal.Facts] [hPre_same_invertible_pose : Cert.Pre_same_invertible_pose.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_same_invertible_pose m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_same_invertible_pose [hKernelIdeal : Cert.KernelIdeal.Facts] [hReferenceIdeal : Cert.ReferenceIdeal.Facts] [hPre_same_invertible_pose : Cert.Pre_same_invertible_pose.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_same_invertible_pose m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v247) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_same_invertible_pose : Cert.Pre_same_invertible_pose.Facts),
    quiescent_Kernel (hKernel := hKernel)
    ∧ quiescent_KernelIdeal (hKernelIdeal := hKernelIdeal)
    ∧ quiescent_KernelIdeal_pre_same_invertible_pose (hKernelIdeal := hKernelIdeal) (hPre_same_invertible_pose := hPre_same_invertible_pose)
    ∧ quiescent_ReferenceIdeal (hReferenceIdeal := hReferenceIdeal)
    ∧ quiescent_ReferenceIdeal_pre_same_invertible_pose (hReferenceIdeal := hReferenceIdeal) (hPre_same_invertible_pose := hPre_same_invertible_pose)
    ∧ preserves_Kernel_KernelIdeal
    ∧ algebraic_KernelIdeal_ReferenceIdeal_pre_same_invertible_pose (hKernelIdeal := hKernelIdeal) (hReferenceIdeal := hReferenceIdeal) (hPre_same_invertible_pose := hPre_same_invertible_pose)
-- ==== Pre_same_invertible_pose.lean ====
abbrev S1080x1920 : Shape := ⟨2, ![1080, 1920]⟩
abbrev S3x3 : Shape := ⟨2, ![3, 3]⟩
abbrev S4x4 : Shape := ⟨2, ![4, 4]⟩
abbrev S1x1 : Shape := ⟨2, ![1, 1]⟩
abbrev S_ : Shape := ⟨0, ![]⟩

class Facts : Prop where
  slices_S4x4_S1x1_0_0 : S4x4.Slices ![0, 0] S1x1
  shapeCasts_S1x1_S_ : S1x1.ShapeCasts S_
  slices_S4x4_S1x1_0_1 : S4x4.Slices ![0, 1] S1x1
  slices_S4x4_S1x1_0_2 : S4x4.Slices ![0, 2] S1x1
  slices_S4x4_S1x1_0_3 : S4x4.Slices ![0, 3] S1x1
  slices_S4x4_S1x1_1_0 : S4x4.Slices ![1, 0] S1x1
  slices_S4x4_S1x1_1_1 : S4x4.Slices ![1, 1] S1x1
  slices_S4x4_S1x1_1_2 : S4x4.Slices ![1, 2] S1x1
  slices_S4x4_S1x1_1_3 : S4x4.Slices ![1, 3] S1x1
  slices_S4x4_S1x1_2_0 : S4x4.Slices ![2, 0] S1x1
  slices_S4x4_S1x1_2_1 : S4x4.Slices ![2, 1] S1x1
  slices_S4x4_S1x1_2_2 : S4x4.Slices ![2, 2] S1x1
  slices_S4x4_S1x1_2_3 : S4x4.Slices ![2, 3] S1x1
  slices_S4x4_S1x1_3_0 : S4x4.Slices ![3, 0] S1x1
  slices_S4x4_S1x1_3_1 : S4x4.Slices ![3, 1] S1x1
  slices_S4x4_S1x1_3_2 : S4x4.Slices ![3, 2] S1x1
  slices_S4x4_S1x1_3_3 : S4x4.Slices ![3, 3] S1x1
  slices_S3x3_S1x1_0_0 : S3x3.Slices ![0, 0] S1x1
  slices_S3x3_S1x1_0_2 : S3x3.Slices ![0, 2] S1x1
  slices_S3x3_S1x1_1_1 : S3x3.Slices ![1, 1] S1x1
  slices_S3x3_S1x1_1_2 : S3x3.Slices ![1, 2] S1x1
  bcast_S_S1080x1920 : S_.BroadcastsInDim S1080x1920 (![] : Fin 0 → Fin S1080x1920.rank)
  bcast_S_S1x1 : S_.BroadcastsInDim S1x1 (![] : Fin 0 → Fin S1x1.rank)
  bcast_S_S4x4 : S_.BroadcastsInDim S4x4 (![] : Fin 0 → Fin S4x4.rank)

variable [Facts]

def fn_part4 {F : FTy → Type} [FloatOps F] (main_arg3 : FVec F S4x4 .f32) (main_arg4 : FVec F S4x4 .f32) (main_v78 : FVec F S_ .f32) (main_v79 : FVec F S1x1 .f32) (main_v80 : FVec F S1x1 .f32) (main_v81 : FVec F S1x1 .f32) (main_v82 : FVec F S1x1 .f32) (main_v85 : IVec S1080x1920 1) (main_v88 : IVec S1080x1920 1) (main_v91 : IVec S1x1 1) (main_cst_2 : FVec F S_ .f32) : IVec S1080x1920 1 × IVec S1080x1920 1 × IVec S1x1 1 × IVec S1x1 1 × IVec S1x1 1 × IVec S1x1 1 × IVec S1x1 1 × IVec S1x1 1 × IVec S4x4 1 × IVec S4x4 1 × IVec S_ 1 :=
  let main_v92 : FVec F S1x1 .f32 := broadcastInDim S1x1 ![] bcast_S_S1x1 main_cst_2
  let main_v93 : IVec S1x1 1 := cmpf .une main_v79 main_v92
  let main_v94 : FVec F S1x1 .f32 := Host.absf main_v80
  let main_cst_3 : FVec F S_ .f32 := constant S_ .f32 0x7F800000#32
  let main_v95 : FVec F S1x1 .f32 := broadcastInDim S1x1 ![] bcast_S_S1x1 main_cst_3
  let main_v96 : IVec S1x1 1 := cmpf .olt main_v94 main_v95
  let main_v97 : FVec F S1x1 .f32 := Host.absf main_v81
  let main_cst_4 : FVec F S_ .f32 := constant S_ .f32 0x7F800000#32
  let main_v98 : FVec F S1x1 .f32 := broadcastInDim S1x1 ![] bcast_S_S1x1 main_cst_4
  let main_v99 : IVec S1x1 1 := cmpf .olt main_v97 main_v98
  let main_cst_5 : FVec F S_ .f32 := constant S_ .f32 0x00000000#32
  let main_v100 : FVec F S1x1 .f32 := broadcastInDim S1x1 ![] bcast_S_S1x1 main_cst_5
  let main_v101 : IVec S1x1 1 := cmpf .une main_v81 main_v100
  let main_v102 : FVec F S1x1 .f32 := Host.absf main_v82
  let main_cst_6 : FVec F S_ .f32 := constant S_ .f32 0x7F800000#32
  let main_v103 : FVec F S1x1 .f32 := broadcastInDim S1x1 ![] bcast_S_S1x1 main_cst_6
  let main_v104 : IVec S1x1 1 := cmpf .olt main_v102 main_v103
  let main_v105 : FVec F S4x4 .f32 := Host.absf main_arg4
  let main_cst_7 : FVec F S_ .f32 := constant S_ .f32 0x7F800000#32
  let main_v106 : FVec F S4x4 .f32 := broadcastInDim S4x4 ![] bcast_S_S4x4 main_cst_7
  let main_v107 : IVec S4x4 1 := cmpf .olt main_v105 main_v106
  let main_v108 : IVec S4x4 1 := cmpf .oeq main_arg3 main_arg4
  let main_cst_8 : FVec F S_ .f32 := constant S_ .f32 0x00000000#32
  let main_v109 : IVec S_ 1 := cmpf .une main_v78 main_cst_8
  (main_v85, main_v88, main_v91, main_v93, main_v96, main_v99, main_v101, main_v104, main_v107, main_v108, main_v109)

def fn_part3 {F : FTy → Type} [FloatOps F] (main_arg0 : FVec F S1080x1920 .f32) (main_arg1 : FVec F S1080x1920 .f32) (main_arg2 : FVec F S3x3 .f32) (main_arg3 : FVec F S4x4 .f32) (main_arg4 : FVec F S4x4 .f32) (main_v7 : FVec F S_ .f32) (main_v13 : FVec F S_ .f32) (main_v17 : FVec F S_ .f32) (main_v19 : FVec F S_ .f32) (main_v25 : FVec F S_ .f32) (main_v27 : FVec F S_ .f32) (main_v70 : FVec F S_ .f32) (main_v71 : FVec F S_ .f32) : IVec S1080x1920 1 × IVec S1080x1920 1 × IVec S1x1 1 × IVec S1x1 1 × IVec S1x1 1 × IVec S1x1 1 × IVec S1x1 1 × IVec S1x1 1 × IVec S4x4 1 × IVec S4x4 1 × IVec S_ 1 :=
  let main_v72 : FVec F S_ .f32 := mulf main_v7 main_v13
  let main_v73 : FVec F S_ .f32 := subf main_v71 main_v72
  let main_v74 : FVec F S_ .f32 := mulf main_v17 main_v27
  let main_v75 : FVec F S_ .f32 := mulf main_v19 main_v25
  let main_v76 : FVec F S_ .f32 := subf main_v74 main_v75
  let main_v77 : FVec F S_ .f32 := mulf main_v73 main_v76
  let main_v78 : FVec F S_ .f32 := addf main_v70 main_v77
  let main_v79 : FVec F S1x1 .f32 := (extractStridedSlice S1x1 ![0, 0] · slices_S3x3_S1x1_0_0) main_arg2
  let main_v80 : FVec F S1x1 .f32 := (extractStridedSlice S1x1 ![0, 2] · slices_S3x3_S1x1_0_2) main_arg2
  let main_v81 : FVec F S1x1 .f32 := (extractStridedSlice S1x1 ![1, 1] · slices_S3x3_S1x1_1_1) main_arg2
  let main_v82 : FVec F S1x1 .f32 := (extractStridedSlice S1x1 ![1, 2] · slices_S3x3_S1x1_1_2) main_arg2
  let main_v83 : FVec F S1080x1920 .f32 := Host.absf main_arg0
  let main_cst : FVec F S_ .f32 := constant S_ .f32 0x7F800000#32
  let main_v84 : FVec F S1080x1920 .f32 := broadcastInDim S1080x1920 ![] bcast_S_S1080x1920 main_cst
  let main_v85 : IVec S1080x1920 1 := cmpf .olt main_v83 main_v84
  let main_v86 : FVec F S1080x1920 .f32 := Host.absf main_arg1
  let main_cst_0 : FVec F S_ .f32 := constant S_ .f32 0x7F800000#32
  let main_v87 : FVec F S1080x1920 .f32 := broadcastInDim S1080x1920 ![] bcast_S_S1080x1920 main_cst_0
  let main_v88 : IVec S1080x1920 1 := cmpf .olt main_v86 main_v87
  let main_v89 : FVec F S1x1 .f32 := Host.absf main_v79
  let main_cst_1 : FVec F S_ .f32 := constant S_ .f32 0x7F800000#32
  let main_v90 : FVec F S1x1 .f32 := broadcastInDim S1x1 ![] bcast_S_S1x1 main_cst_1
  let main_v91 : IVec S1x1 1 := cmpf .olt main_v89 main_v90
  let main_cst_2 : FVec F S_ .f32 := constant S_ .f32 0x00000000#32
  fn_part4 (F := F) main_arg3 main_arg4 main_v78 main_v79 main_v80 main_v81 main_v82 main_v85 main_v88 main_v91 main_cst_2

def fn_part2 {F : FTy → Type} [FloatOps F] (main_arg0 : FVec F S1080x1920 .f32) (main_arg1 : FVec F S1080x1920 .f32) (main_arg2 : FVec F S3x3 .f32) (main_arg3 : FVec F S4x4 .f32) (main_arg4 : FVec F S4x4 .f32) (main_v3 : FVec F S_ .f32) (main_v5 : FVec F S_ .f32) (main_v7 : FVec F S_ .f32) (main_v9 : FVec F S_ .f32) (main_v11 : FVec F S_ .f32) (main_v13 : FVec F S_ .f32) (main_v15 : FVec F S_ .f32) (main_v17 : FVec F S_ .f32) (main_v19 : FVec F S_ .f32) (main_v21 : FVec F S_ .f32) (main_v23 : FVec F S_ .f32) (main_v25 : FVec F S_ .f32) (main_v27 : FVec F S_ .f32) (main_v29 : FVec F S_ .f32) (main_v31 : FVec F S_ .f32) (main_v46 : FVec F S_ .f32) (main_v47 : FVec F S_ .f32) : IVec S1080x1920 1 × IVec S1080x1920 1 × IVec S1x1 1 × IVec S1x1 1 × IVec S1x1 1 × IVec S1x1 1 × IVec S1x1 1 × IVec S1x1 1 × IVec S4x4 1 × IVec S4x4 1 × IVec S_ 1 :=
  let main_v48 : FVec F S_ .f32 := mulf main_v7 main_v9
  let main_v49 : FVec F S_ .f32 := subf main_v47 main_v48
  let main_v50 : FVec F S_ .f32 := mulf main_v19 main_v29
  let main_v51 : FVec F S_ .f32 := mulf main_v21 main_v27
  let main_v52 : FVec F S_ .f32 := subf main_v50 main_v51
  let main_v53 : FVec F S_ .f32 := mulf main_v49 main_v52
  let main_v54 : FVec F S_ .f32 := addf main_v46 main_v53
  let main_v55 : FVec F S_ .f32 := mulf main_v3 main_v13
  let main_v56 : FVec F S_ .f32 := mulf main_v5 main_v11
  let main_v57 : FVec F S_ .f32 := subf main_v55 main_v56
  let main_v58 : FVec F S_ .f32 := mulf main_v17 main_v31
  let main_v59 : FVec F S_ .f32 := mulf main_v23 main_v25
  let main_v60 : FVec F S_ .f32 := subf main_v58 main_v59
  let main_v61 : FVec F S_ .f32 := mulf main_v57 main_v60
  let main_v62 : FVec F S_ .f32 := addf main_v54 main_v61
  let main_v63 : FVec F S_ .f32 := mulf main_v3 main_v15
  let main_v64 : FVec F S_ .f32 := mulf main_v7 main_v11
  let main_v65 : FVec F S_ .f32 := subf main_v63 main_v64
  let main_v66 : FVec F S_ .f32 := mulf main_v17 main_v29
  let main_v67 : FVec F S_ .f32 := mulf main_v21 main_v25
  let main_v68 : FVec F S_ .f32 := subf main_v66 main_v67
  let main_v69 : FVec F S_ .f32 := mulf main_v65 main_v68
  let main_v70 : FVec F S_ .f32 := subf main_v62 main_v69
  let main_v71 : FVec F S_ .f32 := mulf main_v5 main_v15
  fn_part3 (F := F) main_arg0 main_arg1 main_arg2 main_arg3 main_arg4 main_v7 main_v13 main_v17 main_v19 main_v25 main_v27 main_v70 main_v71

def fn_part1 {F : FTy → Type} [FloatOps F] (main_arg0 : FVec F S1080x1920 .f32) (main_arg1 : FVec F S1080x1920 .f32) (main_arg2 : FVec F S3x3 .f32) (main_arg3 : FVec F S4x4 .f32) (main_arg4 : FVec F S4x4 .f32) (main_v1 : FVec F S_ .f32) (main_v3 : FVec F S_ .f32) (main_v5 : FVec F S_ .f32) (main_v7 : FVec F S_ .f32) (main_v9 : FVec F S_ .f32) (main_v11 : FVec F S_ .f32) (main_v13 : FVec F S_ .f32) (main_v15 : FVec F S_ .f32) (main_v17 : FVec F S_ .f32) (main_v19 : FVec F S_ .f32) (main_v21 : FVec F S_ .f32) (main_v23 : FVec F S_ .f32) : IVec S1080x1920 1 × IVec S1080x1920 1 × IVec S1x1 1 × IVec S1x1 1 × IVec S1x1 1 × IVec S1x1 1 × IVec S1x1 1 × IVec S1x1 1 × IVec S4x4 1 × IVec S4x4 1 × IVec S_ 1 :=
  let main_v24 : FVec F S1x1 .f32 := (extractStridedSlice S1x1 ![3, 0] · slices_S4x4_S1x1_3_0) main_arg4
  let main_v25 : FVec F S_ .f32 := shapeCast S_ main_v24 shapeCasts_S1x1_S_
  let main_v26 : FVec F S1x1 .f32 := (extractStridedSlice S1x1 ![3, 1] · slices_S4x4_S1x1_3_1) main_arg4
  let main_v27 : FVec F S_ .f32 := shapeCast S_ main_v26 shapeCasts_S1x1_S_
  let main_v28 : FVec F S1x1 .f32 := (extractStridedSlice S1x1 ![3, 2] · slices_S4x4_S1x1_3_2) main_arg4
  let main_v29 : FVec F S_ .f32 := shapeCast S_ main_v28 shapeCasts_S1x1_S_
  let main_v30 : FVec F S1x1 .f32 := (extractStridedSlice S1x1 ![3, 3] · slices_S4x4_S1x1_3_3) main_arg4
  let main_v31 : FVec F S_ .f32 := shapeCast S_ main_v30 shapeCasts_S1x1_S_
  let main_v32 : FVec F S_ .f32 := mulf main_v1 main_v11
  let main_v33 : FVec F S_ .f32 := mulf main_v3 main_v9
  let main_v34 : FVec F S_ .f32 := subf main_v32 main_v33
  let main_v35 : FVec F S_ .f32 := mulf main_v21 main_v31
  let main_v36 : FVec F S_ .f32 := mulf main_v23 main_v29
  let main_v37 : FVec F S_ .f32 := subf main_v35 main_v36
  let main_v38 : FVec F S_ .f32 := mulf main_v34 main_v37
  let main_v39 : FVec F S_ .f32 := mulf main_v1 main_v13
  let main_v40 : FVec F S_ .f32 := mulf main_v5 main_v9
  let main_v41 : FVec F S_ .f32 := subf main_v39 main_v40
  let main_v42 : FVec F S_ .f32 := mulf main_v19 main_v31
  let main_v43 : FVec F S_ .f32 := mulf main_v23 main_v27
  let main_v44 : FVec F S_ .f32 := subf main_v42 main_v43
  let main_v45 : FVec F S_ .f32 := mulf main_v41 main_v44
  let main_v46 : FVec F S_ .f32 := subf main_v38 main_v45
  let main_v47 : FVec F S_ .f32 := mulf main_v1 main_v15
  fn_part2 (F := F) main_arg0 main_arg1 main_arg2 main_arg3 main_arg4 main_v3 main_v5 main_v7 main_v9 main_v11 main_v13 main_v15 main_v17 main_v19 main_v21 main_v23 main_v25 main_v27 main_v29 main_v31 main_v46 main_v47

def fn {F : FTy → Type} [FloatOps F] (main_arg0 : FVec F S1080x1920 .f32) (main_arg1 : FVec F S1080x1920 .f32) (main_arg2 : FVec F S3x3 .f32) (main_arg3 : FVec F S4x4 .f32) (main_arg4 : FVec F S4x4 .f32) : IVec S1080x1920 1 × IVec S1080x1920 1 × IVec S1x1 1 × IVec S1x1 1 × IVec S1x1 1 × IVec S1x1 1 × IVec S1x1 1 × IVec S1x1 1 × IVec S4x4 1 × IVec S4x4 1 × IVec S_ 1 :=
  let main_v0 : FVec F S1x1 .f32 := (extractStridedSlice S1x1 ![0, 0] · slices_S4x4_S1x1_0_0) main_arg4
  let main_v1 : FVec F S_ .f32 := shapeCast S_ main_v0 shapeCasts_S1x1_S_
  let main_v2 : FVec F S1x1 .f32 := (extractStridedSlice S1x1 ![0, 1] · slices_S4x4_S1x1_0_1) main_arg4
  let main_v3 : FVec F S_ .f32 := shapeCast S_ main_v2 shapeCasts_S1x1_S_
  let main_v4 : FVec F S1x1 .f32 := (extractStridedSlice S1x1 ![0, 2] · slices_S4x4_S1x1_0_2) main_arg4
  let main_v5 : FVec F S_ .f32 := shapeCast S_ main_v4 shapeCasts_S1x1_S_
  let main_v6 : FVec F S1x1 .f32 := (extractStridedSlice S1x1 ![0, 3] · slices_S4x4_S1x1_0_3) main_arg4
  let main_v7 : FVec F S_ .f32 := shapeCast S_ main_v6 shapeCasts_S1x1_S_
  let main_v8 : FVec F S1x1 .f32 := (extractStridedSlice S1x1 ![1, 0] · slices_S4x4_S1x1_1_0) main_arg4
  let main_v9 : FVec F S_ .f32 := shapeCast S_ main_v8 shapeCasts_S1x1_S_
  let main_v10 : FVec F S1x1 .f32 := (extractStridedSlice S1x1 ![1, 1] · slices_S4x4_S1x1_1_1) main_arg4
  let main_v11 : FVec F S_ .f32 := shapeCast S_ main_v10 shapeCasts_S1x1_S_
  let main_v12 : FVec F S1x1 .f32 := (extractStridedSlice S1x1 ![1, 2] · slices_S4x4_S1x1_1_2) main_arg4
  let main_v13 : FVec F S_ .f32 := shapeCast S_ main_v12 shapeCasts_S1x1_S_
  let main_v14 : FVec F S1x1 .f32 := (extractStridedSlice S1x1 ![1, 3] · slices_S4x4_S1x1_1_3) main_arg4
  let main_v15 : FVec F S_ .f32 := shapeCast S_ main_v14 shapeCasts_S1x1_S_
  let main_v16 : FVec F S1x1 .f32 := (extractStridedSlice S1x1 ![2, 0] · slices_S4x4_S1x1_2_0) main_arg4
  let main_v17 : FVec F S_ .f32 := shapeCast S_ main_v16 shapeCasts_S1x1_S_
  let main_v18 : FVec F S1x1 .f32 := (extractStridedSlice S1x1 ![2, 1] · slices_S4x4_S1x1_2_1) main_arg4
  let main_v19 : FVec F S_ .f32 := shapeCast S_ main_v18 shapeCasts_S1x1_S_
  let main_v20 : FVec F S1x1 .f32 := (extractStridedSlice S1x1 ![2, 2] · slices_S4x4_S1x1_2_2) main_arg4
  let main_v21 : FVec F S_ .f32 := shapeCast S_ main_v20 shapeCasts_S1x1_S_
  let main_v22 : FVec F S1x1 .f32 := (extractStridedSlice S1x1 ![2, 3] · slices_S4x4_S1x1_2_3) main_arg4
  let main_v23 : FVec F S_ .f32 := shapeCast S_ main_v22 shapeCasts_S1x1_S_
  fn_part1 (F := F) main_arg0 main_arg1 main_arg2 main_arg3 main_arg4 main_v1 main_v3 main_v5 main_v7 main_v9 main_v11 main_v13 main_v15 main_v17 main_v19 main_v21 main_v23
-- ==== Kernel.lean ====
abbrev S1080x1920 : Shape := ⟨2, ![1080, 1920]⟩
abbrev S3x3 : Shape := ⟨2, ![3, 3]⟩
abbrev S4x4 : Shape := ⟨2, ![4, 4]⟩
abbrev S1x2 : Shape := ⟨2, ![1, 2]⟩
abbrev S40x1920 : Shape := ⟨2, ![40, 1920]⟩
abbrev S1x1 : Shape := ⟨2, ![1, 1]⟩
abbrev S5x1920 : Shape := ⟨2, ![5, 1920]⟩
abbrev S50x1920 : Shape := ⟨2, ![50, 1920]⟩
abbrev S50x7 : Shape := ⟨2, ![50, 7]⟩
abbrev S50x1913 : Shape := ⟨2, ![50, 1913]⟩
abbrev S50x6 : Shape := ⟨2, ![50, 6]⟩
abbrev S50x1914 : Shape := ⟨2, ![50, 1914]⟩
abbrev S50x5 : Shape := ⟨2, ![50, 5]⟩
abbrev S50x1915 : Shape := ⟨2, ![50, 1915]⟩
abbrev S50x4 : Shape := ⟨2, ![50, 4]⟩
abbrev S50x1916 : Shape := ⟨2, ![50, 1916]⟩
abbrev S50x3 : Shape := ⟨2, ![50, 3]⟩
abbrev S50x1917 : Shape := ⟨2, ![50, 1917]⟩
abbrev S50x2 : Shape := ⟨2, ![50, 2]⟩
abbrev S50x1918 : Shape := ⟨2, ![50, 1918]⟩
abbrev S50x1 : Shape := ⟨2, ![50, 1]⟩
abbrev S50x1919 : Shape := ⟨2, ![50, 1919]⟩
abbrev S50x8 : Shape := ⟨2, ![50, 8]⟩
abbrev S50x1912 : Shape := ⟨2, ![50, 1912]⟩
abbrev S1x40x1920 : Shape := ⟨3, ![1, 40, 1920]⟩
abbrev S1 : Shape := ⟨1, ![1]⟩
abbrev S1x1x1 : Shape := ⟨3, ![1, 1, 1]⟩
abbrev S_ : Shape := ⟨0, ![]⟩
abbrev S4x1920 : Shape := ⟨2, ![4, 1920]⟩
abbrev S48x1920 : Shape := ⟨2, ![48, 1920]⟩
abbrev S48x7 : Shape := ⟨2, ![48, 7]⟩
abbrev S48x1913 : Shape := ⟨2, ![48, 1913]⟩
abbrev S48x6 : Shape := ⟨2, ![48, 6]⟩
abbrev S48x1914 : Shape := ⟨2, ![48, 1914]⟩
abbrev S48x5 : Shape := ⟨2, ![48, 5]⟩
abbrev S48x1915 : Shape := ⟨2, ![48, 1915]⟩
abbrev S48x4 : Shape := ⟨2, ![48, 4]⟩
abbrev S48x1916 : Shape := ⟨2, ![48, 1916]⟩
abbrev S48x3 : Shape := ⟨2, ![48, 3]⟩
abbrev S48x1917 : Shape := ⟨2, ![48, 1917]⟩
abbrev S48x2 : Shape := ⟨2, ![48, 2]⟩
abbrev S48x1918 : Shape := ⟨2, ![48, 1918]⟩
abbrev S48x1 : Shape := ⟨2, ![48, 1]⟩
abbrev S48x1919 : Shape := ⟨2, ![48, 1919]⟩
abbrev S48x8 : Shape := ⟨2, ![48, 8]⟩
abbrev S48x1912 : Shape := ⟨2, ![48, 1912]⟩
abbrev S3x1920 : Shape := ⟨2, ![3, 1920]⟩
abbrev S46x1920 : Shape := ⟨2, ![46, 1920]⟩
abbrev S46x7 : Shape := ⟨2, ![46, 7]⟩
abbrev S46x1913 : Shape := ⟨2, ![46, 1913]⟩
abbrev S46x6 : Shape := ⟨2, ![46, 6]⟩
abbrev S46x1914 : Shape := ⟨2, ![46, 1914]⟩
abbrev S46x5 : Shape := ⟨2, ![46, 5]⟩
abbrev S46x1915 : Shape := ⟨2, ![46, 1915]⟩
abbrev S46x4 : Shape := ⟨2, ![46, 4]⟩
abbrev S46x1916 : Shape := ⟨2, ![46, 1916]⟩
abbrev S46x3 : Shape := ⟨2, ![46, 3]⟩
abbrev S46x1917 : Shape := ⟨2, ![46, 1917]⟩
abbrev S46x2 : Shape := ⟨2, ![46, 2]⟩
abbrev S46x1918 : Shape := ⟨2, ![46, 1918]⟩
abbrev S46x1 : Shape := ⟨2, ![46, 1]⟩
abbrev S46x1919 : Shape := ⟨2, ![46, 1919]⟩
abbrev S46x8 : Shape := ⟨2, ![46, 8]⟩
abbrev S46x1912 : Shape := ⟨2, ![46, 1912]⟩
abbrev S2x1920 : Shape := ⟨2, ![2, 1920]⟩
abbrev S44x1920 : Shape := ⟨2, ![44, 1920]⟩
abbrev S44x7 : Shape := ⟨2, ![44, 7]⟩
abbrev S44x1913 : Shape := ⟨2, ![44, 1913]⟩
abbrev S44x6 : Shape := ⟨2, ![44, 6]⟩
abbrev S44x1914 : Shape := ⟨2, ![44, 1914]⟩
abbrev S44x5 : Shape := ⟨2, ![44, 5]⟩
abbrev S44x1915 : Shape := ⟨2, ![44, 1915]⟩
abbrev S44x4 : Shape := ⟨2, ![44, 4]⟩
abbrev S44x1916 : Shape := ⟨2, ![44, 1916]⟩
abbrev S44x3 : Shape := ⟨2, ![44, 3]⟩
abbrev S44x1917 : Shape := ⟨2, ![44, 1917]⟩
abbrev S44x2 : Shape := ⟨2, ![44, 2]⟩
abbrev S44x1918 : Shape := ⟨2, ![44, 1918]⟩
abbrev S44x1 : Shape := ⟨2, ![44, 1]⟩
abbrev S44x1919 : Shape := ⟨2, ![44, 1919]⟩
abbrev S44x8 : Shape := ⟨2, ![44, 8]⟩
abbrev S44x1912 : Shape := ⟨2, ![44, 1912]⟩
abbrev S1x1920 : Shape := ⟨2, ![1, 1920]⟩
abbrev S42x1920 : Shape := ⟨2, ![42, 1920]⟩
abbrev S42x7 : Shape := ⟨2, ![42, 7]⟩
abbrev S42x1913 : Shape := ⟨2, ![42, 1913]⟩
abbrev S42x6 : Shape := ⟨2, ![42, 6]⟩
abbrev S42x1914 : Shape := ⟨2, ![42, 1914]⟩
abbrev S42x5 : Shape := ⟨2, ![42, 5]⟩
abbrev S42x1915 : Shape := ⟨2, ![42, 1915]⟩
abbrev S42x4 : Shape := ⟨2, ![42, 4]⟩
abbrev S42x1916 : Shape := ⟨2, ![42, 1916]⟩
abbrev S42x3 : Shape := ⟨2, ![42, 3]⟩
abbrev S42x1917 : Shape := ⟨2, ![42, 1917]⟩
abbrev S42x2 : Shape := ⟨2, ![42, 2]⟩
abbrev S42x1918 : Shape := ⟨2, ![42, 1918]⟩
abbrev S42x1 : Shape := ⟨2, ![42, 1]⟩
abbrev S42x1919 : Shape := ⟨2, ![42, 1919]⟩
abbrev S42x8 : Shape := ⟨2, ![42, 8]⟩
abbrev S42x1912 : Shape := ⟨2, ![42, 1912]⟩

abbrev nBuf : Space → Nat
  | .hbm => 39
  | .vmem => 96
  | .smem => 36
  | _ => 0

abbrev bufTy : (tb : Table) → Fin (tcTables nBuf tb) → BufTy
  | .hbm, ⟨0, _⟩ => ⟨S1080x1920, .f32⟩
  | .hbm, ⟨1, _⟩ => ⟨S1080x1920, .f32⟩
  | .hbm, ⟨2, _⟩ => ⟨S3x3, .f32⟩
  | .hbm, ⟨3, _⟩ => ⟨S4x4, .f32⟩
  | .hbm, ⟨4, _⟩ => ⟨S4x4, .f32⟩
  | .hbm, ⟨5, _⟩ => ⟨S1x2, .f32⟩
  | .hbm, ⟨6, _⟩ => ⟨S1x1, .f32⟩
  | .hbm, ⟨7, _⟩ => ⟨S_, .f32⟩
  | .hbm, ⟨8, _⟩ => ⟨S1x1, .f32⟩
  | .hbm, ⟨9, _⟩ => ⟨S_, .f32⟩
  | .hbm, ⟨10, _⟩ => ⟨S1x1, .f32⟩
  | .hbm, ⟨11, _⟩ => ⟨S_, .f32⟩
  | .hbm, ⟨12, _⟩ => ⟨S_, .f32⟩
  | .hbm, ⟨13, _⟩ => ⟨S1x1, .f32⟩
  | .hbm, ⟨14, _⟩ => ⟨S_, .f32⟩
  | .hbm, ⟨15, _⟩ => ⟨S_, .f32⟩
  | .hbm, ⟨16, _⟩ => ⟨S1x1, .f32⟩
  | .hbm, ⟨17, _⟩ => ⟨S_, .f32⟩
  | .hbm, ⟨18, _⟩ => ⟨S_, .f32⟩
  | .hbm, ⟨19, _⟩ => ⟨S1x1, .f32⟩
  | .hbm, ⟨20, _⟩ => ⟨S_, .f32⟩
  | .hbm, ⟨21, _⟩ => ⟨S_, .f32⟩
  | .hbm, ⟨22, _⟩ => ⟨S1x1, .f32⟩
  | .hbm, ⟨23, _⟩ => ⟨S_, .f32⟩
  | .hbm, ⟨24, _⟩ => ⟨S_, .f32⟩
  | .hbm, ⟨25, _⟩ => ⟨S1x1, .f32⟩
  | .hbm, ⟨26, _⟩ => ⟨S_, .f32⟩
  | .hbm, ⟨27, _⟩ => ⟨S_, .f32⟩
  | .hbm, ⟨28, _⟩ => ⟨S1x1, .f32⟩
  | .hbm, ⟨29, _⟩ => ⟨S_, .f32⟩
  | .hbm, ⟨30, _⟩ => ⟨S_, .f32⟩
  | .hbm, ⟨31, _⟩ => ⟨S1x1, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .local _ .vmem, ⟨0, _⟩ => ⟨S40x1920, .f32⟩
  | .local _ .vmem, ⟨1, _⟩ => ⟨S40x1920, .f32⟩
  | .local _ .vmem, ⟨2, _⟩ => ⟨S40x1920, .f32⟩
  | .local _ .vmem, ⟨3, _⟩ => ⟨S40x1920, .f32⟩
  | .local _ .vmem, ⟨4, _⟩ => ⟨S40x1920, .f32⟩
  | .local _ .vmem, ⟨5, _⟩ => ⟨S40x1920, .f32⟩
  | .local _ .vmem, ⟨6, _⟩ => ⟨S40x1920, .f32⟩
  | .local _ .vmem, ⟨7, _⟩ => ⟨S40x1920, .f32⟩
  | .local _ .vmem, ⟨8, _⟩ => ⟨S40x1920, .f32⟩
  | .local _ .vmem, ⟨9, _⟩ => ⟨S40x1920, .f32⟩
  | .local _ .vmem, ⟨10, _⟩ => ⟨S40x1920, .f32⟩
  | .local _ .vmem, ⟨11, _⟩ => ⟨S40x1920, .f32⟩
  | .local _ .vmem, ⟨12, _⟩ => ⟨S40x1920, .f32⟩
  | .local _ .vmem, ⟨13, _⟩ => ⟨S40x1920, .f32⟩
  | .local _ .vmem, ⟨14, _⟩ => ⟨S40x1920, .f32⟩
  | .local _ .vmem, ⟨15, _⟩ => ⟨S40x1920, .f32⟩
  | .local _ .vmem, ⟨16, _⟩ => ⟨S40x1920, .f32⟩
  | .local _ .vmem, ⟨17, _⟩ => ⟨S40x1920, .f32⟩
  | .local _ .vmem, ⟨18, _⟩ => ⟨S40x1920, .f32⟩
  | .local _ .vmem, ⟨19, _⟩ => ⟨S40x1920, .f32⟩
  | .local _ .vmem, ⟨20, _⟩ => ⟨S40x1920, .f32⟩
  | .local _ .vmem, ⟨21, _⟩ => ⟨S40x1920, .f32⟩
  | .local _ .vmem, ⟨22, _⟩ => ⟨S40x1920, .f32⟩
  | .local _ .vmem, ⟨23, _⟩ => ⟨S40x1920, .f32⟩
  | .local _ .vmem, ⟨24, _⟩ => ⟨S40x1920, .f32⟩
  | .local _ .vmem, ⟨25, _⟩ => ⟨S40x1920, .f32⟩
  | .local _ .vmem, ⟨26, _⟩ => ⟨S40x1920, .f32⟩
  | .local _ .vmem, ⟨27, _⟩ => ⟨S40x1920, .f32⟩
  | .local _ .vmem, ⟨28, _⟩ => ⟨S40x1920, .f32⟩
  | .local _ .vmem, ⟨29, _⟩ => ⟨S40x1920, .f32⟩
  | .local _ .vmem, ⟨30, _⟩ => ⟨S40x1920, .f32⟩
  | .local _ .vmem, ⟨31, _⟩ => ⟨S40x1920, .f32⟩
  | .local _ .vmem, ⟨32, _⟩ => ⟨S40x1920, .f32⟩
  | .local _ .vmem, ⟨33, _⟩ => ⟨S40x1920, .f32⟩
  | .local _ .vmem, ⟨34, _⟩ => ⟨S40x1920, .f32⟩
  | .local _ .vmem, ⟨35, _⟩ => ⟨S40x1920, .f32⟩
  | .local _ .vmem, ⟨36, _⟩ => ⟨S40x1920, .f32⟩
  | .local _ .vmem, ⟨37, _⟩ => ⟨S40x1920, .f32⟩
  | .local _ .vmem, ⟨38, _⟩ => ⟨S40x1920, .f32⟩
  | .local _ .vmem, ⟨39, _⟩ => ⟨S40x1920, .f32⟩
  | .local _ .vmem, ⟨40, _⟩ => ⟨S40x1920, .f32⟩
  | .local _ .vmem, ⟨41, _⟩ => ⟨S40x1920, .f32⟩
  | .local _ .vmem, ⟨42, _⟩ => ⟨S40x1920, .f32⟩
  | .local _ .vmem, ⟨43, _⟩ => ⟨S40x1920, .f32⟩
  | .local _ .vmem, ⟨44, _⟩ => ⟨S40x1920, .f32⟩
  | .local _ .vmem, ⟨45, _⟩ => ⟨S40x1920, .f32⟩
  | .local _ .vmem, ⟨46, _⟩ => ⟨S40x1920, .f32⟩
  | .local _ .vmem, ⟨47, _⟩ => ⟨S40x1920, .f32⟩
  | .local _ .vmem, ⟨48, _⟩ => ⟨S40x1920, .f32⟩
  | .local _ .vmem, ⟨49, _⟩ => ⟨S40x1920, .f32⟩
  | .local _ .vmem, ⟨50, _⟩ => ⟨S40x1920, .f32⟩
  | .local _ .vmem, ⟨51, _⟩ => ⟨S40x1920, .f32⟩
  | .local _ .vmem, ⟨52, _⟩ => ⟨S40x1920, .f32⟩
  | .local _ .vmem, ⟨53, _⟩ => ⟨S40x1920, .f32⟩
  | .local _ .vmem, ⟨54, _⟩ => ⟨S40x1920, .f32⟩
  | .local _ .vmem, ⟨55, _⟩ => ⟨S40x1920, .f32⟩
  | .local _ .vmem, ⟨56, _⟩ => ⟨S40x1920, .f32⟩
  | .local _ .vmem, ⟨57, _⟩ => ⟨S40x1920, .f32⟩
  | .local _ .vmem, ⟨58, _⟩ => ⟨S40x1920, .f32⟩
  | .local _ .vmem, ⟨59, _⟩ => ⟨S40x1920, .f32⟩
  | .local _ .vmem, ⟨60, _⟩ => ⟨S40x1920, .f32⟩
  | .local _ .vmem, ⟨61, _⟩ => ⟨S40x1920, .f32⟩
  | .local _ .vmem, ⟨62, _⟩ => ⟨S40x1920, .f32⟩
  | .local _ .vmem, ⟨63, _⟩ => ⟨S40x1920, .f32⟩
  | .local _ .vmem, ⟨64, _⟩ => ⟨S40x1920, .f32⟩
  | .local _ .vmem, ⟨65, _⟩ => ⟨S40x1920, .f32⟩
  | .local _ .vmem, ⟨66, _⟩ => ⟨S40x1920, .f32⟩
  | .local _ .vmem, ⟨67, _⟩ => ⟨S40x1920, .f32⟩
  | .local _ .vmem, ⟨68, _⟩ => ⟨S40x1920, .f32⟩
  | .local _ .vmem, ⟨69, _⟩ => ⟨S40x1920, .f32⟩
  | .local _ .vmem, ⟨70, _⟩ => ⟨S40x1920, .f32⟩
  | .local _ .vmem, ⟨71, _⟩ => ⟨S40x1920, .f32⟩
  | .local _ .vmem, ⟨72, _⟩ => ⟨S40x1920, .f32⟩
  | .local _ .vmem, ⟨73, _⟩ => ⟨S40x1920, .f32⟩
  | .local _ .vmem, ⟨74, _⟩ => ⟨S40x1920, .f32⟩
  | .local _ .vmem, ⟨75, _⟩ => ⟨S40x1920, .f32⟩
  | .local _ .vmem, ⟨76, _⟩ => ⟨S40x1920, .f32⟩
  | .local _ .vmem, ⟨77, _⟩ => ⟨S40x1920, .f32⟩
  | .local _ .vmem, ⟨78, _⟩ => ⟨S40x1920, .f32⟩
  | .local _ .vmem, ⟨79, _⟩ => ⟨S40x1920, .f32⟩
  | .local _ .vmem, ⟨80, _⟩ => ⟨S40x1920, .f32⟩
  | .local _ .vmem, ⟨81, _⟩ => ⟨S40x1920, .f32⟩
  | .local _ .vmem, ⟨82, _⟩ => ⟨S40x1920, .f32⟩
  | .local _ .vmem, ⟨83, _⟩ => ⟨S40x1920, .f32⟩
  | .local _ .vmem, ⟨84, _⟩ => ⟨S40x1920, .f32⟩
  | .local _ .vmem, ⟨85, _⟩ => ⟨S40x1920, .f32⟩
  | .local _ .vmem, ⟨86, _⟩ => ⟨S40x1920, .f32⟩
  | .local _ .vmem, ⟨87, _⟩ => ⟨S40x1920, .f32⟩
  | .local _ .vmem, ⟨88, _⟩ => ⟨S40x1920, .f32⟩
  | .local _ .vmem, ⟨89, _⟩ => ⟨S40x1920, .f32⟩
  | .local _ .vmem, ⟨90, _⟩ => ⟨S40x1920, .f32⟩
  | .local _ .vmem, ⟨91, _⟩ => ⟨S40x1920, .f32⟩
  | .local _ .vmem, ⟨92, _⟩ => ⟨S40x1920, .f32⟩
  | .local _ .vmem, ⟨93, _⟩ => ⟨S40x1920, .f32⟩
  | .local _ .vmem, ⟨94, _⟩ => ⟨S40x1920, .f32⟩
  | .local _ .vmem, ⟨95, _⟩ => ⟨S40x1920, .f32⟩
  | .local _ .smem, ⟨0, _⟩ => ⟨S3x3, .f32⟩
  | .local _ .smem, ⟨1, _⟩ => ⟨S4x4, .f32⟩
  | .local _ .smem, ⟨2, _⟩ => ⟨S4x4, .f32⟩
  | .local _ .smem, ⟨3, _⟩ => ⟨S1x2, .f32⟩
  | .local _ .smem, ⟨4, _⟩ => ⟨S3x3, .f32⟩
  | .local _ .smem, ⟨5, _⟩ => ⟨S4x4, .f32⟩
  | .local _ .smem, ⟨6, _⟩ => ⟨S4x4, .f32⟩
  | .local _ .smem, ⟨7, _⟩ => ⟨S1x1, .f32⟩
  | .local _ .smem, ⟨8, _⟩ => ⟨S3x3, .f32⟩
  | .local _ .smem, ⟨9, _⟩ => ⟨S4x4, .f32⟩
  | .local _ .smem, ⟨10, _⟩ => ⟨S4x4, .f32⟩
  | .local _ .smem, ⟨11, _⟩ => ⟨S1x1, .f32⟩
  | .local _ .smem, ⟨12, _⟩ => ⟨S3x3, .f32⟩
  | .local _ .smem, ⟨13, _⟩ => ⟨S4x4, .f32⟩
  | .local _ .smem, ⟨14, _⟩ => ⟨S4x4, .f32⟩
  | .local _ .smem, ⟨15, _⟩ => ⟨S1x1, .f32⟩
  | .local _ .smem, ⟨16, _⟩ => ⟨S3x3, .f32⟩
  | .local _ .smem, ⟨17, _⟩ => ⟨S4x4, .f32⟩
  | .local _ .smem, ⟨18, _⟩ => ⟨S4x4, .f32⟩
  | .local _ .smem, ⟨19, _⟩ => ⟨S1x1, .f32⟩
  | .local _ .smem, ⟨20, _⟩ => ⟨S3x3, .f32⟩
  | .local _ .smem, ⟨21, _⟩ => ⟨S4x4, .f32⟩
  | .local _ .smem, ⟨22, _⟩ => ⟨S4x4, .f32⟩
  | .local _ .smem, ⟨23, _⟩ => ⟨S1x1, .f32⟩
  | .local _ .smem, ⟨24, _⟩ => ⟨S3x3, .f32⟩
  | .local _ .smem, ⟨25, _⟩ => ⟨S4x4, .f32⟩
  | .local _ .smem, ⟨26, _⟩ => ⟨S4x4, .f32⟩
  | .local _ .smem, ⟨27, _⟩ => ⟨S1x1, .f32⟩
  | .local _ .smem, ⟨28, _⟩ => ⟨S3x3, .f32⟩
  | .local _ .smem, ⟨29, _⟩ => ⟨S4x4, .f32⟩
  | .local _ .smem, ⟨30, _⟩ => ⟨S4x4, .f32⟩
  | .local _ .smem, ⟨31, _⟩ => ⟨S1x1, .f32⟩
  | .local _ .smem, ⟨32, _⟩ => ⟨S3x3, .f32⟩
  | .local _ .smem, ⟨33, _⟩ => ⟨S4x4, .f32⟩
  | .local _ .smem, ⟨34, _⟩ => ⟨S4x4, .f32⟩
  | .local _ .smem, ⟨35, _⟩ => ⟨S1x1, .f32⟩
  | _, _ => ⟨S1080x1920, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .smem, ⟨0, _⟩ => true
  | .smem, ⟨1, _⟩ => true
  | .smem, ⟨2, _⟩ => true
  | .smem, ⟨3, _⟩ => true
  | .smem, ⟨4, _⟩ => true
  | .smem, ⟨5, _⟩ => true
  | .smem, ⟨6, _⟩ => true
  | .smem, ⟨7, _⟩ => true
  | .smem, ⟨8, _⟩ => true
  | .smem, ⟨9, _⟩ => true
  | .smem, ⟨10, _⟩ => true
  | .smem, ⟨11, _⟩ => true
  | .smem, ⟨12, _⟩ => true
  | .smem, ⟨13, _⟩ => true
  | .smem, ⟨14, _⟩ => true
  | .smem, ⟨15, _⟩ => true
  | .smem, ⟨16, _⟩ => true
  | .smem, ⟨17, _⟩ => true
  | .smem, ⟨18, _⟩ => true
  | .smem, ⟨19, _⟩ => true
  | .smem, ⟨20, _⟩ => true
  | .smem, ⟨21, _⟩ => true
  | .smem, ⟨22, _⟩ => true
  | .smem, ⟨23, _⟩ => true
  | .smem, ⟨24, _⟩ => true
  | .smem, ⟨25, _⟩ => true
  | .smem, ⟨26, _⟩ => true
  | .smem, ⟨27, _⟩ => true
  | .smem, ⟨28, _⟩ => true
  | .smem, ⟨29, _⟩ => true
  | .smem, ⟨30, _⟩ => true
  | .smem, ⟨31, _⟩ => true
  | .smem, ⟨32, _⟩ => true
  | .smem, ⟨33, _⟩ => true
  | .smem, ⟨34, _⟩ => true
  | .smem, ⟨35, _⟩ => true
  | _, _ => false

abbrev semScoped : Fin 0 → Bool
  | ⟨_, h⟩ => absurd h (Nat.not_lt_zero _)

abbrev dmaSemScoped : Fin 132 → Bool
  | ⟨i, _⟩ => dmaSemScopedAt i

abbrev sig : RefSig :=
  ofTc nBuf bufTy 0 132 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_cst : Ref sig .tc := ⟨.hbm, 34, rfl⟩
abbrev main_v29 : Ref sig .tc := ⟨.hbm, 35, rfl⟩
abbrev main_cst_0 : Ref sig .tc := ⟨.hbm, 36, rfl⟩
abbrev main_v30 : Ref sig .tc := ⟨.hbm, 37, rfl⟩
abbrev main_v31 : Ref sig .tc := ⟨.hbm, 38, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg3_1 : Ref sig .tc := ⟨.vmem, 25, rfl⟩
abbrev cc2_stg4_0 : Ref sig .tc := ⟨.vmem, 26, rfl⟩
abbrev cc2_stg4_1 : Ref sig .tc := ⟨.vmem, 27, rfl⟩
abbrev cc2_stg5_0 : Ref sig .tc := ⟨.vmem, 28, rfl⟩
abbrev cc2_stg5_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg2_1 : Ref sig .tc := ⟨.vmem, 35, rfl⟩
abbrev cc3_stg3_0 : Ref sig .tc := ⟨.vmem, 36, rfl⟩
abbrev cc3_stg3_1 : Ref sig .tc := ⟨.vmem, 37, rfl⟩
abbrev cc3_stg4_0 : Ref sig .tc := ⟨.vmem, 38, rfl⟩
abbrev cc3_stg4_1 : Ref sig .tc := ⟨.vmem, 39, rfl⟩
abbrev cc3_stg5_0 : Ref sig .tc := ⟨.vmem, 40, rfl⟩
abbrev cc3_stg5_1 : Ref sig .tc := ⟨.vmem, 41, rfl⟩
abbrev cc4_stg0_0 : Ref sig .tc := ⟨.vmem, 42, rfl⟩
abbrev cc4_stg0_1 : Ref sig .tc := ⟨.vmem, 43, rfl⟩
abbrev cc4_stg1_0 : Ref sig .tc := ⟨.vmem, 44, rfl⟩
abbrev cc4_stg1_1 : Ref sig .tc := ⟨.vmem, 45, rfl⟩
abbrev cc4_stg2_0 : Ref sig .tc := ⟨.vmem, 46, rfl⟩
abbrev cc4_stg2_1 : Ref sig .tc := ⟨.vmem, 47, rfl⟩
abbrev cc4_stg3_0 : Ref sig .tc := ⟨.vmem, 48, rfl⟩
abbrev cc4_stg3_1 : Ref sig .tc := ⟨.vmem, 49, rfl⟩
abbrev cc4_stg4_0 : Ref sig .tc := ⟨.vmem, 50, rfl⟩
abbrev cc4_stg4_1 : Ref sig .tc := ⟨.vmem, 51, rfl⟩
abbrev cc4_stg5_0 : Ref sig .tc := ⟨.vmem, 52, rfl⟩
abbrev cc4_stg5_1 : Ref sig .tc := ⟨.vmem, 53, rfl⟩
abbrev cc5_stg0_0 : Ref sig .tc := ⟨.vmem, 54, rfl⟩
abbrev cc5_stg0_1 : Ref sig .tc := ⟨.vmem, 55, rfl⟩
abbrev cc5_stg1_0 : Ref sig .tc := ⟨.vmem, 56, rfl⟩
abbrev cc5_stg1_1 : Ref sig .tc := ⟨.vmem, 57, rfl⟩
abbrev cc5_stg2_0 : Ref sig .tc := ⟨.vmem, 58, rfl⟩
abbrev cc5_stg2_1 : Ref sig .tc := ⟨.vmem, 59, rfl⟩
abbrev cc5_stg3_0 : Ref sig .tc := ⟨.vmem, 60, rfl⟩
abbrev cc5_stg3_1 : Ref sig .tc := ⟨.vmem, 61, rfl⟩
abbrev cc5_stg4_0 : Ref sig .tc := ⟨.vmem, 62, rfl⟩
abbrev cc5_stg4_1 : Ref sig .tc := ⟨.vmem, 63, rfl⟩
abbrev cc5_stg5_0 : Ref sig .tc := ⟨.vmem, 64, rfl⟩
abbrev cc5_stg5_1 : Ref sig .tc := ⟨.vmem, 65, rfl⟩
abbrev cc6_stg0_0 : Ref sig .tc := ⟨.vmem, 66, rfl⟩
abbrev cc6_stg0_1 : Ref sig .tc := ⟨.vmem, 67, rfl⟩
abbrev cc6_stg1_0 : Ref sig .tc := ⟨.vmem, 68, rfl⟩
abbrev cc6_stg1_1 : Ref sig .tc := ⟨.vmem, 69, rfl⟩
abbrev cc6_stg2_0 : Ref sig .tc := ⟨.vmem, 70, rfl⟩
abbrev cc6_stg2_1 : Ref sig .tc := ⟨.vmem, 71, rfl⟩
abbrev cc6_stg3_0 : Ref sig .tc := ⟨.vmem, 72, rfl⟩
abbrev cc6_stg3_1 : Ref sig .tc := ⟨.vmem, 73, rfl⟩
abbrev cc6_stg4_0 : Ref sig .tc := ⟨.vmem, 74, rfl⟩
abbrev cc6_stg4_1 : Ref sig .tc := ⟨.vmem, 75, rfl⟩
abbrev cc6_stg5_0 : Ref sig .tc := ⟨.vmem, 76, rfl⟩
abbrev cc6_stg5_1 : Ref sig .tc := ⟨.vmem, 77, rfl⟩
abbrev cc7_stg0_0 : Ref sig .tc := ⟨.vmem, 78, rfl⟩
abbrev cc7_stg0_1 : Ref sig .tc := ⟨.vmem, 79, rfl⟩
abbrev cc7_stg1_0 : Ref sig .tc := ⟨.vmem, 80, rfl⟩
abbrev cc7_stg1_1 : Ref sig .tc := ⟨.vmem, 81, rfl⟩
abbrev cc7_stg2_0 : Ref sig .tc := ⟨.vmem, 82, rfl⟩
abbrev cc7_stg2_1 : Ref sig .tc := ⟨.vmem, 83, rfl⟩
abbrev cc7_stg3_0 : Ref sig .tc := ⟨.vmem, 84, rfl⟩
abbrev cc7_stg3_1 : Ref sig .tc := ⟨.vmem, 85, rfl⟩
abbrev cc7_stg4_0 : Ref sig .tc := ⟨.vmem, 86, rfl⟩
abbrev cc7_stg4_1 : Ref sig .tc := ⟨.vmem, 87, rfl⟩
abbrev cc7_stg5_0 : Ref sig .tc := ⟨.vmem, 88, rfl⟩
abbrev cc7_stg5_1 : Ref sig .tc := ⟨.vmem, 89, rfl⟩
abbrev cc8_stg0_0 : Ref sig .tc := ⟨.vmem, 90, rfl⟩
abbrev cc8_stg1_0 : Ref sig .tc := ⟨.vmem, 91, rfl⟩
abbrev cc8_stg2_0 : Ref sig .tc := ⟨.vmem, 92, rfl⟩
abbrev cc8_stg3_0 : Ref sig .tc := ⟨.vmem, 93, rfl⟩
abbrev cc8_stg4_0 : Ref sig .tc := ⟨.vmem, 94, rfl⟩
abbrev cc8_stg5_0 : Ref sig .tc := ⟨.vmem, 95, rfl⟩
abbrev cc0_stg6_0 : Ref sig .tc := ⟨.smem, 0, rfl⟩
abbrev cc0_stg7_0 : Ref sig .tc := ⟨.smem, 1, rfl⟩
abbrev cc0_stg8_0 : Ref sig .tc := ⟨.smem, 2, rfl⟩
abbrev cc0_stg9_0 : Ref sig .tc := ⟨.smem, 3, rfl⟩
abbrev cc1_stg6_0 : Ref sig .tc := ⟨.smem, 4, rfl⟩
abbrev cc1_stg7_0 : Ref sig .tc := ⟨.smem, 5, rfl⟩
abbrev cc1_stg8_0 : Ref sig .tc := ⟨.smem, 6, rfl⟩
abbrev cc1_stg9_0 : Ref sig .tc := ⟨.smem, 7, rfl⟩
abbrev cc2_stg6_0 : Ref sig .tc := ⟨.smem, 8, rfl⟩
abbrev cc2_stg7_0 : Ref sig .tc := ⟨.smem, 9, rfl⟩
abbrev cc2_stg8_0 : Ref sig .tc := ⟨.smem, 10, rfl⟩
abbrev cc2_stg9_0 : Ref sig .tc := ⟨.smem, 11, rfl⟩
abbrev cc3_stg6_0 : Ref sig .tc := ⟨.smem, 12, rfl⟩
abbrev cc3_stg7_0 : Ref sig .tc := ⟨.smem, 13, rfl⟩
abbrev cc3_stg8_0 : Ref sig .tc := ⟨.smem, 14, rfl⟩
abbrev cc3_stg9_0 : Ref sig .tc := ⟨.smem, 15, rfl⟩
abbrev cc4_stg6_0 : Ref sig .tc := ⟨.smem, 16, rfl⟩
abbrev cc4_stg7_0 : Ref sig .tc := ⟨.smem, 17, rfl⟩
abbrev cc4_stg8_0 : Ref sig .tc := ⟨.smem, 18, rfl⟩
abbrev cc4_stg9_0 : Ref sig .tc := ⟨.smem, 19, rfl⟩
abbrev cc5_stg6_0 : Ref sig .tc := ⟨.smem, 20, rfl⟩
abbrev cc5_stg7_0 : Ref sig .tc := ⟨.smem, 21, rfl⟩
abbrev cc5_stg8_0 : Ref sig .tc := ⟨.smem, 22, rfl⟩
abbrev cc5_stg9_0 : Ref sig .tc := ⟨.smem, 23, rfl⟩
abbrev cc6_stg6_0 : Ref sig .tc := ⟨.smem, 24, rfl⟩
abbrev cc6_stg7_0 : Ref sig .tc := ⟨.smem, 25, rfl⟩
abbrev cc6_stg8_0 : Ref sig .tc := ⟨.smem, 26, rfl⟩
abbrev cc6_stg9_0 : Ref sig .tc := ⟨.smem, 27, rfl⟩
abbrev cc7_stg6_0 : Ref sig .tc := ⟨.smem, 28, rfl⟩
abbrev cc7_stg7_0 : Ref sig .tc := ⟨.smem, 29, rfl⟩
abbrev cc7_stg8_0 : Ref sig .tc := ⟨.smem, 30, rfl⟩
abbrev cc7_stg9_0 : Ref sig .tc := ⟨.smem, 31, rfl⟩
abbrev cc8_stg6_0 : Ref sig .tc := ⟨.smem, 32, rfl⟩
abbrev cc8_stg7_0 : Ref sig .tc := ⟨.smem, 33, rfl⟩
abbrev cc8_stg8_0 : Ref sig .tc := ⟨.smem, 34, rfl⟩
abbrev cc8_stg9_0 : Ref sig .tc := ⟨.smem, 35, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem7_0 : DmaSem sig := 23
abbrev cc1_sem8_0 : DmaSem sig := 24
abbrev cc1_sem9_0 : DmaSem sig := 25
abbrev cc2_sem0_0 : DmaSem sig := 26
abbrev cc2_sem0_1 : DmaSem sig := 27
abbrev cc2_sem1_0 : DmaSem sig := 28
abbrev cc2_sem1_1 : DmaSem sig := 29
abbrev cc2_sem2_0 : DmaSem sig := 30
abbrev cc2_sem2_1 : DmaSem sig := 31
abbrev cc2_sem3_0 : DmaSem sig := 32
abbrev cc2_sem3_1 : DmaSem sig := 33
abbrev cc2_sem4_0 : DmaSem sig := 34
abbrev cc2_sem4_1 : DmaSem sig := 35
abbrev cc2_sem5_0 : DmaSem sig := 36
abbrev cc2_sem5_1 : DmaSem sig := 37
abbrev cc2_sem6_0 : DmaSem sig := 38
abbrev cc2_sem7_0 : DmaSem sig := 39
abbrev cc2_sem8_0 : DmaSem sig := 40
abbrev cc2_sem9_0 : DmaSem sig := 41
abbrev cc3_sem0_0 : DmaSem sig := 42
abbrev cc3_sem0_1 : DmaSem sig := 43
abbrev cc3_sem1_0 : DmaSem sig := 44
abbrev cc3_sem1_1 : DmaSem sig := 45
abbrev cc3_sem2_0 : DmaSem sig := 46
abbrev cc3_sem2_1 : DmaSem sig := 47
abbrev cc3_sem3_0 : DmaSem sig := 48
abbrev cc3_sem3_1 : DmaSem sig := 49
abbrev cc3_sem4_0 : DmaSem sig := 50
abbrev cc3_sem4_1 : DmaSem sig := 51
abbrev cc3_sem5_0 : DmaSem sig := 52
abbrev cc3_sem5_1 : DmaSem sig := 53
abbrev cc3_sem6_0 : DmaSem sig := 54
abbrev cc3_sem7_0 : DmaSem sig := 55
abbrev cc3_sem8_0 : DmaSem sig := 56
abbrev cc3_sem9_0 : DmaSem sig := 57
abbrev cc4_sem0_0 : DmaSem sig := 58
abbrev cc4_sem0_1 : DmaSem sig := 59
abbrev cc4_sem1_0 : DmaSem sig := 60
abbrev cc4_sem1_1 : DmaSem sig := 61
abbrev cc4_sem2_0 : DmaSem sig := 62
abbrev cc4_sem2_1 : DmaSem sig := 63
abbrev cc4_sem3_0 : DmaSem sig := 64
abbrev cc4_sem3_1 : DmaSem sig := 65
abbrev cc4_sem4_0 : DmaSem sig := 66
abbrev cc4_sem4_1 : DmaSem sig := 67
abbrev cc4_sem5_0 : DmaSem sig := 68
abbrev cc4_sem5_1 : DmaSem sig := 69
abbrev cc4_sem6_0 : DmaSem sig := 70
abbrev cc4_sem7_0 : DmaSem sig := 71
abbrev cc4_sem8_0 : DmaSem sig := 72
abbrev cc4_sem9_0 : DmaSem sig := 73
abbrev cc5_sem0_0 : DmaSem sig := 74
abbrev cc5_sem0_1 : DmaSem sig := 75
abbrev cc5_sem1_0 : DmaSem sig := 76
abbrev cc5_sem1_1 : DmaSem sig := 77
abbrev cc5_sem2_0 : DmaSem sig := 78
abbrev cc5_sem2_1 : DmaSem sig := 79
abbrev cc5_sem3_0 : DmaSem sig := 80
abbrev cc5_sem3_1 : DmaSem sig := 81
abbrev cc5_sem4_0 : DmaSem sig := 82
abbrev cc5_sem4_1 : DmaSem sig := 83
abbrev cc5_sem5_0 : DmaSem sig := 84
abbrev cc5_sem5_1 : DmaSem sig := 85
abbrev cc5_sem6_0 : DmaSem sig := 86
abbrev cc5_sem7_0 : DmaSem sig := 87
abbrev cc5_sem8_0 : DmaSem sig := 88
abbrev cc5_sem9_0 : DmaSem sig := 89
abbrev cc6_sem0_0 : DmaSem sig := 90
abbrev cc6_sem0_1 : DmaSem sig := 91
abbrev cc6_sem1_0 : DmaSem sig := 92
abbrev cc6_sem1_1 : DmaSem sig := 93
abbrev cc6_sem2_0 : DmaSem sig := 94
abbrev cc6_sem2_1 : DmaSem sig := 95
abbrev cc6_sem3_0 : DmaSem sig := 96
abbrev cc6_sem3_1 : DmaSem sig := 97
abbrev cc6_sem4_0 : DmaSem sig := 98
abbrev cc6_sem4_1 : DmaSem sig := 99
abbrev cc6_sem5_0 : DmaSem sig := 100
abbrev cc6_sem5_1 : DmaSem sig := 101
abbrev cc6_sem6_0 : DmaSem sig := 102
abbrev cc6_sem7_0 : DmaSem sig := 103
abbrev cc6_sem8_0 : DmaSem sig := 104
abbrev cc6_sem9_0 : DmaSem sig := 105
abbrev cc7_sem0_0 : DmaSem sig := 106
abbrev cc7_sem0_1 : DmaSem sig := 107
abbrev cc7_sem1_0 : DmaSem sig := 108
abbrev cc7_sem1_1 : DmaSem sig := 109
abbrev cc7_sem2_0 : DmaSem sig := 110
abbrev cc7_sem2_1 : DmaSem sig := 111
abbrev cc7_sem3_0 : DmaSem sig := 112
abbrev cc7_sem3_1 : DmaSem sig := 113
abbrev cc7_sem4_0 : DmaSem sig := 114
abbrev cc7_sem4_1 : DmaSem sig := 115
abbrev cc7_sem5_0 : DmaSem sig := 116
abbrev cc7_sem5_1 : DmaSem sig := 117
abbrev cc7_sem6_0 : DmaSem sig := 118
abbrev cc7_sem7_0 : DmaSem sig := 119
abbrev cc7_sem8_0 : DmaSem sig := 120
abbrev cc7_sem9_0 : DmaSem sig := 121
abbrev cc8_sem0_0 : DmaSem sig := 122
abbrev cc8_sem1_0 : DmaSem sig := 123
abbrev cc8_sem2_0 : DmaSem sig := 124
abbrev cc8_sem3_0 : DmaSem sig := 125
abbrev cc8_sem4_0 : DmaSem sig := 126
abbrev cc8_sem5_0 : DmaSem sig := 127
abbrev cc8_sem6_0 : DmaSem sig := 128
abbrev cc8_sem7_0 : DmaSem sig := 129
abbrev cc8_sem8_0 : DmaSem sig := 130
abbrev cc8_sem9_0 : DmaSem sig := 131

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c1_i32 : BitVec 32 := 1#32
  let v1 : BitVec 32 := Scalar.subi v0 c1_i32
  let c0_i32_0 : BitVec 32 := 0#32
  let v2 : BitVec 32 := Scalar.maxsi v1 c0_i32_0
  let c0_i32_1 : BitVec 32 := 0#32
  let c0_i32_2 : BitVec 32 := 0#32
  ![v2.toNat, c0_i32_1.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c1_i32 : BitVec 32 := 1#32
  let v1 : BitVec 32 := Scalar.addi v0 c1_i32
  let c26_i32 : BitVec 32 := 26#32
  let v2 : BitVec 32 := Scalar.minsi v1 c26_i32
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c1_i32 : BitVec 32 := 1#32
  let v1 : BitVec 32 := Scalar.subi v0 c1_i32
  let c0_i32_0 : BitVec 32 := 0#32
  let v2 : BitVec 32 := Scalar.maxsi v1 c0_i32_0
  let c0_i32_1 : BitVec 32 := 0#32
  let c0_i32_2 : BitVec 32 := 0#32
  ![v2.toNat, c0_i32_1.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi arg0 c0_i32
  let c1_i32 : BitVec 32 := 1#32
  let v1 : BitVec 32 := Scalar.addi v0 c1_i32
  let c26_i32 : BitVec 32 := 26#32
  let v2 : BitVec 32 := Scalar.minsi v1 c26_i32
  let c0_i32_0 : BitVec 32 := 0#32
  let c0_i32_1 : BitVec 32 := 0#32
  ![v2.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S40x1920 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S40x1920 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S40x1920 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S40x1920 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S40x1920 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S40x1920 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .smem S3x3 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .smem S4x4 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .smem S4x4 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .smem S1x2 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev grid1 : Pipeline.Grid := ⟨1, ![3], ![false]⟩

def cc1_transform_0 (i : grid1.Coords) : Fin 2 → Nat :=
  let arg0 : BitVec 32 := BitVec.ofNat 32 (i 0).val
  let c1_i32 : BitVec 32 := 1#32
  let v0 : BitVec 32 := Scalar.addi arg0 c1_i32
  let c1_i32_0 : BitVec 32 := 1#32
  let v1 : BitVec 32 := Scalar.subi v0 c1_i32_0
  let c0_i32 : BitVec 32 := 0#32
  let v2 : BitVec 32 := Scalar.maxsi v1 c0_i32
  let c0_i32_1 : BitVec 32 := 0#32
  let c0_i32_2 : BitVec 32 := 0#32
  ![v2.toNat, c0_i32_1.toNat]

def cc1_transform_1 (i : grid1.Coords) : Fin 2 → Nat :=
  let arg0 : BitVec 32 := BitVec.ofNat 32 (i 0).val
  let c1_i32 : BitVec 32 := 1#32
  let v0 : BitVec 32 := Scalar.addi arg0 c1_i32
  let c0_i32 : BitVec 32 := 0#32
  let c0_i32_0 : BitVec 32 := 0#32
  ![v0.toNat, c0_i32.toNat]

def cc1_transform_2 (i : grid1.Coords) : Fin 2 → Nat :=
  let arg0 : BitVec 32 := BitVec.ofNat 32 (i 0).val
  let c1_i32 : BitVec 32 := 1#32
  let v0 : BitVec 32 := Scalar.addi arg0 c1_i32
  let c1_i32_0 : BitVec 32 := 1#32
  let v1 : BitVec 32 := Scalar.addi v0 c1_i32_0
  let c26_i32 : BitVec 32 := 26#32
  let v2 : BitVec 32 := Scalar.minsi v1 c26_i32
  let c0_i32 : BitVec 32 := 0#32
  let c0_i32_1 : BitVec 32 := 0#32
  ![v2.toNat, c0_i32.toNat]

def cc1_transform_3 (i : grid1.Coords) : Fin 2 → Nat :=
  let arg0 : BitVec 32 := BitVec.ofNat 32 (i 0).val
  let c1_i32 : BitVec 32 := 1#32
  let v0 : BitVec 32 := Scalar.addi arg0 c1_i32
  let c1_i32_0 : BitVec 32 := 1#32
  let v1 : BitVec 32 := Scalar.subi v0 c1_i32_0
  let c0_i32 : BitVec 32 := 0#32
  let v2 : BitVec 32 := Scalar.maxsi v1 c0_i32
  let c0_i32_1 : BitVec 32 := 0#32
  let c0_i32_2 : BitVec 32 := 0#32
  ![v2.toNat, c0_i32_1.toNat]

def cc1_transform_4 (i : grid1.Coords) : Fin 2 → Nat :=
  let arg0 : BitVec 32 := BitVec.ofNat 32 (i 0).val
  let c1_i32 : BitVec 32 := 1#32
  let v0 : BitVec 32 := Scalar.addi arg0 c1_i32
  let c0_i32 : BitVec 32 := 0#32
  let c0_i32_0 : BitVec 32 := 0#32
  ![v0.toNat, c0_i32.toNat]

def cc1_transform_5 (i : grid1.Coords) : Fin 2 → Nat :=
  let arg0 : BitVec 32 := BitVec.ofNat 32 (i 0).val
  let c1_i32 : BitVec 32 := 1#32
  let v0 : BitVec 32 := Scalar.addi arg0 c1_i32
  let c1_i32_0 : BitVec 32 := 1#32
  let v1 : BitVec 32 := Scalar.addi v0 c1_i32_0
  let c26_i32 : BitVec 32 := 26#32
  let v2 : BitVec 32 := Scalar.minsi v1 c26_i32
  let c0_i32 : BitVec 32 := 0#32
  let c0_i32_1 : BitVec 32 := 0#32
  ![v2.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S40x1920 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S40x1920 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S40x1920 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S40x1920 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S40x1920 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S40x1920 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .smem S3x3 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .smem S4x4 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .smem S4x4 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .smem S1x1 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev grid2 : Pipeline.Grid := ⟨1, ![4], ![false]⟩

def cc2_transform_0 (i : grid2.Coords) : Fin 2 → Nat :=
  let arg0 : BitVec 32 := BitVec.ofNat 32 (i 0).val
  let c4_i32 : BitVec 32 := 4#32
  let v0 : BitVec 32 := Scalar.addi arg0 c4_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc2_transform_1 (i : grid2.Coords) : Fin 2 → Nat :=
  let arg0 : BitVec 32 := BitVec.ofNat 32 (i 0).val
  let c4_i32 : BitVec 32 := 4#32
  let v0 : BitVec 32 := Scalar.addi arg0 c4_i32
  let c0_i32 : BitVec 32 := 0#32
  let c0_i32_0 : BitVec 32 := 0#32
  ![v0.toNat, c0_i32.toNat]

def cc2_transform_2 (i : grid2.Coords) : Fin 2 → Nat :=
  let arg0 : BitVec 32 := BitVec.ofNat 32 (i 0).val
  let c4_i32 : BitVec 32 := 4#32
  let v0 : BitVec 32 := Scalar.addi arg0 c4_i32
  let c1_i32 : BitVec 32 := 1#32
  let v1 : BitVec 32 := Scalar.addi v0 c1_i32
  let c26_i32 : BitVec 32 := 26#32
  let v2 : BitVec 32 := Scalar.minsi v1 c26_i32
  let c0_i32 : BitVec 32 := 0#32
  let c0_i32_0 : BitVec 32 := 0#32
  ![v2.toNat, c0_i32.toNat]

def cc2_transform_3 (i : grid2.Coords) : Fin 2 → Nat :=
  let arg0 : BitVec 32 := BitVec.ofNat 32 (i 0).val
  let c4_i32 : BitVec 32 := 4#32
  let v0 : BitVec 32 := Scalar.addi arg0 c4_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc2_transform_4 (i : grid2.Coords) : Fin 2 → Nat :=
  let arg0 : BitVec 32 := BitVec.ofNat 32 (i 0).val
  let c4_i32 : BitVec 32 := 4#32
  let v0 : BitVec 32 := Scalar.addi arg0 c4_i32
  let c0_i32 : BitVec 32 := 0#32
  let c0_i32_0 : BitVec 32 := 0#32
  ![v0.toNat, c0_i32.toNat]

def cc2_transform_5 (i : grid2.Coords) : Fin 2 → Nat :=
  let arg0 : BitVec 32 := BitVec.ofNat 32 (i 0).val
  let c4_i32 : BitVec 32 := 4#32
  let v0 : BitVec 32 := Scalar.addi arg0 c4_i32
  let c1_i32 : BitVec 32 := 1#32
  let v1 : BitVec 32 := Scalar.addi v0 c1_i32
  let c26_i32 : BitVec 32 := 26#32
  let v2 : BitVec 32 := Scalar.minsi v1 c26_i32
  let c0_i32 : BitVec 32 := 0#32
  let c0_i32_0 : BitVec 32 := 0#32
  ![v2.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S40x1920 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S40x1920 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S40x1920 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S40x1920 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S40x1920 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S40x1920 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 1 → Memref sig .tc .smem S3x3 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .smem S4x4 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .smem S4x4 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .smem S1x1 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev grid3 : Pipeline.Grid := ⟨1, ![3], ![false]⟩

def cc3_transform_0 (i : grid3.Coords) : Fin 2 → Nat :=
  let arg0 : BitVec 32 := BitVec.ofNat 32 (i 0).val
  let c8_i32 : BitVec 32 := 8#32
  let v0 : BitVec 32 := Scalar.addi arg0 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc3_transform_1 (i : grid3.Coords) : Fin 2 → Nat :=
  let arg0 : BitVec 32 := BitVec.ofNat 32 (i 0).val
  let c8_i32 : BitVec 32 := 8#32
  let v0 : BitVec 32 := Scalar.addi arg0 c8_i32
  let c0_i32 : BitVec 32 := 0#32
  let c0_i32_0 : BitVec 32 := 0#32
  ![v0.toNat, c0_i32.toNat]

def cc3_transform_2 (i : grid3.Coords) : Fin 2 → Nat :=
  let arg0 : BitVec 32 := BitVec.ofNat 32 (i 0).val
  let c8_i32 : BitVec 32 := 8#32
  let v0 : BitVec 32 := Scalar.addi arg0 c8_i32
  let c1_i32 : BitVec 32 := 1#32
  let v1 : BitVec 32 := Scalar.addi v0 c1_i32
  let c26_i32 : BitVec 32 := 26#32
  let v2 : BitVec 32 := Scalar.minsi v1 c26_i32
  let c0_i32 : BitVec 32 := 0#32
  let c0_i32_0 : BitVec 32 := 0#32
  ![v2.toNat, c0_i32.toNat]

def cc3_transform_3 (i : grid3.Coords) : Fin 2 → Nat :=
  let arg0 : BitVec 32 := BitVec.ofNat 32 (i 0).val
  let c8_i32 : BitVec 32 := 8#32
  let v0 : BitVec 32 := Scalar.addi arg0 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc3_transform_4 (i : grid3.Coords) : Fin 2 → Nat :=
  let arg0 : BitVec 32 := BitVec.ofNat 32 (i 0).val
  let c8_i32 : BitVec 32 := 8#32
  let v0 : BitVec 32 := Scalar.addi arg0 c8_i32
  let c0_i32 : BitVec 32 := 0#32
  let c0_i32_0 : BitVec 32 := 0#32
  ![v0.toNat, c0_i32.toNat]

def cc3_transform_5 (i : grid3.Coords) : Fin 2 → Nat :=
  let arg0 : BitVec 32 := BitVec.ofNat 32 (i 0).val
  let c8_i32 : BitVec 32 := 8#32
  let v0 : BitVec 32 := Scalar.addi arg0 c8_i32
  let c1_i32 : BitVec 32 := 1#32
  let v1 : BitVec 32 := Scalar.addi v0 c1_i32
  let c26_i32 : BitVec 32 := 26#32
  let v2 : BitVec 32 := Scalar.minsi v1 c26_i32
  let c0_i32 : BitVec 32 := 0#32
  let c0_i32_0 : BitVec 32 := 0#32
  ![v2.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S40x1920 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S40x1920 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S40x1920 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S40x1920 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S40x1920 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S40x1920 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 1 → Memref sig .tc .smem S3x3 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .smem S4x4 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .smem S4x4 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .smem S1x1 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev grid4 : Pipeline.Grid := ⟨1, ![5], ![false]⟩

def cc4_transform_0 (i : grid4.Coords) : Fin 2 → Nat :=
  let arg0 : BitVec 32 := BitVec.ofNat 32 (i 0).val
  let c11_i32 : BitVec 32 := 11#32
  let v0 : BitVec 32 := Scalar.addi arg0 c11_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc4_transform_1 (i : grid4.Coords) : Fin 2 → Nat :=
  let arg0 : BitVec 32 := BitVec.ofNat 32 (i 0).val
  let c11_i32 : BitVec 32 := 11#32
  let v0 : BitVec 32 := Scalar.addi arg0 c11_i32
  let c0_i32 : BitVec 32 := 0#32
  let c0_i32_0 : BitVec 32 := 0#32
  ![v0.toNat, c0_i32.toNat]

def cc4_transform_2 (i : grid4.Coords) : Fin 2 → Nat :=
  let arg0 : BitVec 32 := BitVec.ofNat 32 (i 0).val
  let c11_i32 : BitVec 32 := 11#32
  let v0 : BitVec 32 := Scalar.addi arg0 c11_i32
  let c1_i32 : BitVec 32 := 1#32
  let v1 : BitVec 32 := Scalar.addi v0 c1_i32
  let c26_i32 : BitVec 32 := 26#32
  let v2 : BitVec 32 := Scalar.minsi v1 c26_i32
  let c0_i32 : BitVec 32 := 0#32
  let c0_i32_0 : BitVec 32 := 0#32
  ![v2.toNat, c0_i32.toNat]

def cc4_transform_3 (i : grid4.Coords) : Fin 2 → Nat :=
  let arg0 : BitVec 32 := BitVec.ofNat 32 (i 0).val
  let c11_i32 : BitVec 32 := 11#32
  let v0 : BitVec 32 := Scalar.addi arg0 c11_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc4_transform_4 (i : grid4.Coords) : Fin 2 → Nat :=
  let arg0 : BitVec 32 := BitVec.ofNat 32 (i 0).val
  let c11_i32 : BitVec 32 := 11#32
  let v0 : BitVec 32 := Scalar.addi arg0 c11_i32
  let c0_i32 : BitVec 32 := 0#32
  let c0_i32_0 : BitVec 32 := 0#32
  ![v0.toNat, c0_i32.toNat]

def cc4_transform_5 (i : grid4.Coords) : Fin 2 → Nat :=
  let arg0 : BitVec 32 := BitVec.ofNat 32 (i 0).val
  let c11_i32 : BitVec 32 := 11#32
  let v0 : BitVec 32 := Scalar.addi arg0 c11_i32
  let c1_i32 : BitVec 32 := 1#32
  let v1 : BitVec 32 := Scalar.addi v0 c1_i32
  let c26_i32 : BitVec 32 := 26#32
  let v2 : BitVec 32 := Scalar.minsi v1 c26_i32
  let c0_i32 : BitVec 32 := 0#32
  let c0_i32_0 : BitVec 32 := 0#32
  ![v2.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S40x1920 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S40x1920 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S40x1920 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S40x1920 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S40x1920 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S40x1920 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 1 → Memref sig .tc .smem S3x3 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .smem S4x4 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .smem S4x4 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 1 → Memref sig .tc .smem S1x1 .f32 := fun | 0 => Memref.whole cc4_stg9_0 | ⟨_ + 1, h⟩ => absurd h (Nat.not_lt.2 (Nat.le_add_left _ _))
abbrev sem4_9 : Fin 1 → DmaSem sig := fun | 0 => cc4_sem9_0 | ⟨_ + 1, h⟩ => absurd h (Nat.not_lt.2 (Nat.le_add_left _ _))
abbrev reads4_9 : Fin grid4.rank → Bool := ![false]

abbrev grid5 : Pipeline.Grid := ⟨1, ![3], ![false]⟩

def cc5_transform_0 (i : grid5.Coords) : Fin 2 → Nat :=
  let arg0 : BitVec 32 := BitVec.ofNat 32 (i 0).val
  let c16_i32 : BitVec 32 := 16#32
  let v0 : BitVec 32 := Scalar.addi arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc5_transform_1 (i : grid5.Coords) : Fin 2 → Nat :=
  let arg0 : BitVec 32 := BitVec.ofNat 32 (i 0).val
  let c16_i32 : BitVec 32 := 16#32
  let v0 : BitVec 32 := Scalar.addi arg0 c16_i32
  let c0_i32 : BitVec 32 := 0#32
  let c0_i32_0 : BitVec 32 := 0#32
  ![v0.toNat, c0_i32.toNat]

def cc5_transform_2 (i : grid5.Coords) : Fin 2 → Nat :=
  let arg0 : BitVec 32 := BitVec.ofNat 32 (i 0).val
  let c16_i32 : BitVec 32 := 16#32
  let v0 : BitVec 32 := Scalar.addi arg0 c16_i32
  let c1_i32 : BitVec 32 := 1#32
  let v1 : BitVec 32 := Scalar.addi v0 c1_i32
  let c26_i32 : BitVec 32 := 26#32
  let v2 : BitVec 32 := Scalar.minsi v1 c26_i32
  let c0_i32 : BitVec 32 := 0#32
  let c0_i32_0 : BitVec 32 := 0#32
  ![v2.toNat, c0_i32.toNat]

def cc5_transform_3 (i : grid5.Coords) : Fin 2 → Nat :=
  let arg0 : BitVec 32 := BitVec.ofNat 32 (i 0).val
  let c16_i32 : BitVec 32 := 16#32
  let v0 : BitVec 32 := Scalar.addi arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc5_transform_4 (i : grid5.Coords) : Fin 2 → Nat :=
  let arg0 : BitVec 32 := BitVec.ofNat 32 (i 0).val
  let c16_i32 : BitVec 32 := 16#32
  let v0 : BitVec 32 := Scalar.addi arg0 c16_i32
  let c0_i32 : BitVec 32 := 0#32
  let c0_i32_0 : BitVec 32 := 0#32
  ![v0.toNat, c0_i32.toNat]

def cc5_transform_5 (i : grid5.Coords) : Fin 2 → Nat :=
  let arg0 : BitVec 32 := BitVec.ofNat 32 (i 0).val
  let c16_i32 : BitVec 32 := 16#32
  let v0 : BitVec 32 := Scalar.addi arg0 c16_i32
  let c1_i32 : BitVec 32 := 1#32
  let v1 : BitVec 32 := Scalar.addi v0 c1_i32
  let c26_i32 : BitVec 32 := 26#32
  let v2 : BitVec 32 := Scalar.minsi v1 c26_i32
  let c0_i32 : BitVec 32 := 0#32
  let c0_i32_0 : BitVec 32 := 0#32
  ![v2.toNat, c0_i32.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_9 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S40x1920 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S40x1920 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S40x1920 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S40x1920 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 2 → Memref sig .tc .vmem S40x1920 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev stage5_5 : Fin 2 → Memref sig .tc .vmem S40x1920 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev stage5_6 : Fin 1 → Memref sig .tc .smem S3x3 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .smem S4x4 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 1 → Memref sig .tc .smem S4x4 .f32 := fun | 0 => Memref.whole cc5_stg8_0 | ⟨_ + 1, h⟩ => absurd h (Nat.not_lt.2 (Nat.le_add_left _ _))
abbrev sem5_8 : Fin 1 → DmaSem sig := fun | 0 => cc5_sem8_0 | ⟨_ + 1, h⟩ => absurd h (Nat.not_lt.2 (Nat.le_add_left _ _))
abbrev reads5_8 : Fin grid5.rank → Bool := ![false]

abbrev stage5_9 : Fin 1 → Memref sig .tc .smem S1x1 .f32 := fun | 0 => Memref.whole cc5_stg9_0 | ⟨_ + 1, h⟩ => absurd h (Nat.not_lt.2 (Nat.le_add_left _ _))
abbrev sem5_9 : Fin 1 → DmaSem sig := fun | 0 => cc5_sem9_0 | ⟨_ + 1, h⟩ => absurd h (Nat.not_lt.2 (Nat.le_add_left _ _))
abbrev reads5_9 : Fin grid5.rank → Bool := ![false]

abbrev grid6 : Pipeline.Grid := ⟨1, ![4], ![false]⟩

def cc6_transform_0 (i : grid6.Coords) : Fin 2 → Nat :=
  let arg0 : BitVec 32 := BitVec.ofNat 32 (i 0).val
  let c19_i32 : BitVec 32 := 19#32
  let v0 : BitVec 32 := Scalar.addi arg0 c19_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc6_transform_1 (i : grid6.Coords) : Fin 2 → Nat :=
  let arg0 : BitVec 32 := BitVec.ofNat 32 (i 0).val
  let c19_i32 : BitVec 32 := 19#32
  let v0 : BitVec 32 := Scalar.addi arg0 c19_i32
  let c0_i32 : BitVec 32 := 0#32
  let c0_i32_0 : BitVec 32 := 0#32
  ![v0.toNat, c0_i32.toNat]

def cc6_transform_2 (i : grid6.Coords) : Fin 2 → Nat :=
  let arg0 : BitVec 32 := BitVec.ofNat 32 (i 0).val
  let c19_i32 : BitVec 32 := 19#32
  let v0 : BitVec 32 := Scalar.addi arg0 c19_i32
  let c1_i32 : BitVec 32 := 1#32
  let v1 : BitVec 32 := Scalar.addi v0 c1_i32
  let c26_i32 : BitVec 32 := 26#32
  let v2 : BitVec 32 := Scalar.minsi v1 c26_i32
  let c0_i32 : BitVec 32 := 0#32
  let c0_i32_0 : BitVec 32 := 0#32
  ![v2.toNat, c0_i32.toNat]

def cc6_transform_3 (i : grid6.Coords) : Fin 2 → Nat :=
  let arg0 : BitVec 32 := BitVec.ofNat 32 (i 0).val
  let c19_i32 : BitVec 32 := 19#32
  let v0 : BitVec 32 := Scalar.addi arg0 c19_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc6_transform_4 (i : grid6.Coords) : Fin 2 → Nat :=
  let arg0 : BitVec 32 := BitVec.ofNat 32 (i 0).val
  let c19_i32 : BitVec 32 := 19#32
  let v0 : BitVec 32 := Scalar.addi arg0 c19_i32
  let c0_i32 : BitVec 32 := 0#32
  let c0_i32_0 : BitVec 32 := 0#32
  ![v0.toNat, c0_i32.toNat]

def cc6_transform_5 (i : grid6.Coords) : Fin 2 → Nat :=
  let arg0 : BitVec 32 := BitVec.ofNat 32 (i 0).val
  let c19_i32 : BitVec 32 := 19#32
  let v0 : BitVec 32 := Scalar.addi arg0 c19_i32
  let c1_i32 : BitVec 32 := 1#32
  let v1 : BitVec 32 := Scalar.addi v0 c1_i32
  let c26_i32 : BitVec 32 := 26#32
  let v2 : BitVec 32 := Scalar.minsi v1 c26_i32
  let c0_i32 : BitVec 32 := 0#32
  let c0_i32_0 : BitVec 32 := 0#32
  ![v2.toNat, c0_i32.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_8 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_9 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S40x1920 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S40x1920 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S40x1920 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 2 → Memref sig .tc .vmem S40x1920 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 2 → Memref sig .tc .vmem S40x1920 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev stage6_5 : Fin 2 → Memref sig .tc .vmem S40x1920 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev stage6_6 : Fin 1 → Memref sig .tc .smem S3x3 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 1 → Memref sig .tc .smem S4x4 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![false]

abbrev stage6_8 : Fin 1 → Memref sig .tc .smem S4x4 .f32 := fun | 0 => Memref.whole cc6_stg8_0 | ⟨_ + 1, h⟩ => absurd h (Nat.not_lt.2 (Nat.le_add_left _ _))
abbrev sem6_8 : Fin 1 → DmaSem sig := fun | 0 => cc6_sem8_0 | ⟨_ + 1, h⟩ => absurd h (Nat.not_lt.2 (Nat.le_add_left _ _))
abbrev reads6_8 : Fin grid6.rank → Bool := ![false]

abbrev stage6_9 : Fin 1 → Memref sig .tc .smem S1x1 .f32 := fun | 0 => Memref.whole cc6_stg9_0 | ⟨_ + 1, h⟩ => absurd h (Nat.not_lt.2 (Nat.le_add_left _ _))
abbrev sem6_9 : Fin 1 → DmaSem sig := fun | 0 => cc6_sem9_0 | ⟨_ + 1, h⟩ => absurd h (Nat.not_lt.2 (Nat.le_add_left _ _))
abbrev reads6_9 : Fin grid6.rank → Bool := ![false]

abbrev grid7 : Pipeline.Grid := ⟨1, ![3], ![false]⟩

def cc7_transform_0 (i : grid7.Coords) : Fin 2 → Nat :=
  let arg0 : BitVec 32 := BitVec.ofNat 32 (i 0).val
  let c23_i32 : BitVec 32 := 23#32
  let v0 : BitVec 32 := Scalar.addi arg0 c23_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc7_transform_1 (i : grid7.Coords) : Fin 2 → Nat :=
  let arg0 : BitVec 32 := BitVec.ofNat 32 (i 0).val
  let c23_i32 : BitVec 32 := 23#32
  let v0 : BitVec 32 := Scalar.addi arg0 c23_i32
  let c0_i32 : BitVec 32 := 0#32
  let c0_i32_0 : BitVec 32 := 0#32
  ![v0.toNat, c0_i32.toNat]

def cc7_transform_2 (i : grid7.Coords) : Fin 2 → Nat :=
  let arg0 : BitVec 32 := BitVec.ofNat 32 (i 0).val
  let c23_i32 : BitVec 32 := 23#32
  let v0 : BitVec 32 := Scalar.addi arg0 c23_i32
  let c1_i32 : BitVec 32 := 1#32
  let v1 : BitVec 32 := Scalar.addi v0 c1_i32
  let c26_i32 : BitVec 32 := 26#32
  let v2 : BitVec 32 := Scalar.minsi v1 c26_i32
  let c0_i32 : BitVec 32 := 0#32
  let c0_i32_0 : BitVec 32 := 0#32
  ![v2.toNat, c0_i32.toNat]

def cc7_transform_3 (i : grid7.Coords) : Fin 2 → Nat :=
  let arg0 : BitVec 32 := BitVec.ofNat 32 (i 0).val
  let c23_i32 : BitVec 32 := 23#32
  let v0 : BitVec 32 := Scalar.addi arg0 c23_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc7_transform_4 (i : grid7.Coords) : Fin 2 → Nat :=
  let arg0 : BitVec 32 := BitVec.ofNat 32 (i 0).val
  let c23_i32 : BitVec 32 := 23#32
  let v0 : BitVec 32 := Scalar.addi arg0 c23_i32
  let c0_i32 : BitVec 32 := 0#32
  let c0_i32_0 : BitVec 32 := 0#32
  ![v0.toNat, c0_i32.toNat]

def cc7_transform_5 (i : grid7.Coords) : Fin 2 → Nat :=
  let arg0 : BitVec 32 := BitVec.ofNat 32 (i 0).val
  let c23_i32 : BitVec 32 := 23#32
  let v0 : BitVec 32 := Scalar.addi arg0 c23_i32
  let c1_i32 : BitVec 32 := 1#32
  let v1 : BitVec 32 := Scalar.addi v0 c1_i32
  let c26_i32 : BitVec 32 := 26#32
  let v2 : BitVec 32 := Scalar.minsi v1 c26_i32
  let c0_i32 : BitVec 32 := 0#32
  let c0_i32_0 : BitVec 32 := 0#32
  ![v2.toNat, c0_i32.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_7 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_8 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_9 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S40x1920 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S40x1920 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S40x1920 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 2 → Memref sig .tc .vmem S40x1920 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev stage7_4 : Fin 2 → Memref sig .tc .vmem S40x1920 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev stage7_5 : Fin 2 → Memref sig .tc .vmem S40x1920 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev stage7_6 : Fin 1 → Memref sig .tc .smem S3x3 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev stage7_7 : Fin 1 → Memref sig .tc .smem S4x4 .f32 := fun | 0 => Memref.whole cc7_stg7_0 | ⟨_ + 1, h⟩ => absurd h (Nat.not_lt.2 (Nat.le_add_left _ _))
abbrev sem7_7 : Fin 1 → DmaSem sig := fun | 0 => cc7_sem7_0 | ⟨_ + 1, h⟩ => absurd h (Nat.not_lt.2 (Nat.le_add_left _ _))
abbrev reads7_7 : Fin grid7.rank → Bool := ![false]

abbrev stage7_8 : Fin 1 → Memref sig .tc .smem S4x4 .f32 := fun | 0 => Memref.whole cc7_stg8_0 | ⟨_ + 1, h⟩ => absurd h (Nat.not_lt.2 (Nat.le_add_left _ _))
abbrev sem7_8 : Fin 1 → DmaSem sig := fun | 0 => cc7_sem8_0 | ⟨_ + 1, h⟩ => absurd h (Nat.not_lt.2 (Nat.le_add_left _ _))
abbrev reads7_8 : Fin grid7.rank → Bool := ![false]

abbrev stage7_9 : Fin 1 → Memref sig .tc .smem S1x1 .f32 := fun | 0 => Memref.whole cc7_stg9_0 | ⟨_ + 1, h⟩ => absurd h (Nat.not_lt.2 (Nat.le_add_left _ _))
abbrev sem7_9 : Fin 1 → DmaSem sig := fun | 0 => cc7_sem9_0 | ⟨_ + 1, h⟩ => absurd h (Nat.not_lt.2 (Nat.le_add_left _ _))
abbrev reads7_9 : Fin grid7.rank → Bool := ![false]

abbrev grid8 : Pipeline.Grid := ⟨1, ![1], ![false]⟩

def cc8_transform_0 (i : grid8.Coords) : Fin 2 → Nat :=
  let arg0 : BitVec 32 := BitVec.ofNat 32 (i 0).val
  let c26_i32 : BitVec 32 := 26#32
  let v0 : BitVec 32 := Scalar.addi arg0 c26_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc8_transform_1 (i : grid8.Coords) : Fin 2 → Nat :=
  let arg0 : BitVec 32 := BitVec.ofNat 32 (i 0).val
  let c26_i32 : BitVec 32 := 26#32
  let v0 : BitVec 32 := Scalar.addi arg0 c26_i32
  let c0_i32 : BitVec 32 := 0#32
  let c0_i32_0 : BitVec 32 := 0#32
  ![v0.toNat, c0_i32.toNat]

def cc8_transform_2 (i : grid8.Coords) : Fin 2 → Nat :=
  let arg0 : BitVec 32 := BitVec.ofNat 32 (i 0).val
  let c26_i32 : BitVec 32 := 26#32
  let v0 : BitVec 32 := Scalar.addi arg0 c26_i32
  let c1_i32 : BitVec 32 := 1#32
  let v1 : BitVec 32 := Scalar.addi v0 c1_i32
  let c26_i32_0 : BitVec 32 := 26#32
  let v2 : BitVec 32 := Scalar.minsi v1 c26_i32_0
  let c0_i32 : BitVec 32 := 0#32
  let c0_i32_1 : BitVec 32 := 0#32
  ![v2.toNat, c0_i32.toNat]

def cc8_transform_3 (i : grid8.Coords) : Fin 2 → Nat :=
  let arg0 : BitVec 32 := BitVec.ofNat 32 (i 0).val
  let c26_i32 : BitVec 32 := 26#32
  let v0 : BitVec 32 := Scalar.addi arg0 c26_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc8_transform_4 (i : grid8.Coords) : Fin 2 → Nat :=
  let arg0 : BitVec 32 := BitVec.ofNat 32 (i 0).val
  let c26_i32 : BitVec 32 := 26#32
  let v0 : BitVec 32 := Scalar.addi arg0 c26_i32
  let c0_i32 : BitVec 32 := 0#32
  let c0_i32_0 : BitVec 32 := 0#32
  ![v0.toNat, c0_i32.toNat]

def cc8_transform_5 (i : grid8.Coords) : Fin 2 → Nat :=
  let arg0 : BitVec 32 := BitVec.ofNat 32 (i 0).val
  let c26_i32 : BitVec 32 := 26#32
  let v0 : BitVec 32 := Scalar.addi arg0 c26_i32
  let c1_i32 : BitVec 32 := 1#32
  let v1 : BitVec 32 := Scalar.addi v0 c1_i32
  let c26_i32_0 : BitVec 32 := 26#32
  let v2 : BitVec 32 := Scalar.minsi v1 c26_i32_0
  let c0_i32 : BitVec 32 := 0#32
  let c0_i32_1 : BitVec 32 := 0#32
  ![v2.toNat, c0_i32.toNat]

def cc8_transform_6 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_7 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_8 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_9 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage8_0 : Fin 1 → Memref sig .tc .vmem S40x1920 .f32 := fun | 0 => Memref.whole cc8_stg0_0 | ⟨_ + 1, h⟩ => absurd h (Nat.not_lt.2 (Nat.le_add_left _ _))
abbrev sem8_0 : Fin 1 → DmaSem sig := fun | 0 => cc8_sem0_0 | ⟨_ + 1, h⟩ => absurd h (Nat.not_lt.2 (Nat.le_add_left _ _))
abbrev reads8_0 : Fin grid8.rank → Bool := ![true]

abbrev stage8_1 : Fin 1 → Memref sig .tc .vmem S40x1920 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![true]

abbrev stage8_2 : Fin 1 → Memref sig .tc .vmem S40x1920 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![true]

abbrev stage8_3 : Fin 1 → Memref sig .tc .vmem S40x1920 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![true]

abbrev stage8_4 : Fin 1 → Memref sig .tc .vmem S40x1920 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![true]

abbrev stage8_5 : Fin 1 → Memref sig .tc .vmem S40x1920 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![true]

abbrev stage8_6 : Fin 1 → Memref sig .tc .smem S3x3 .f32 := fun | 0 => Memref.whole cc8_stg6_0 | ⟨_ + 1, h⟩ => absurd h (Nat.not_lt.2 (Nat.le_add_left _ _))
abbrev sem8_6 : Fin 1 → DmaSem sig := fun | 0 => cc8_sem6_0 | ⟨_ + 1, h⟩ => absurd h (Nat.not_lt.2 (Nat.le_add_left _ _))
abbrev reads8_6 : Fin grid8.rank → Bool := ![false]

abbrev stage8_7 : Fin 1 → Memref sig .tc .smem S4x4 .f32 := fun | 0 => Memref.whole cc8_stg7_0 | ⟨_ + 1, h⟩ => absurd h (Nat.not_lt.2 (Nat.le_add_left _ _))
abbrev sem8_7 : Fin 1 → DmaSem sig := fun | 0 => cc8_sem7_0 | ⟨_ + 1, h⟩ => absurd h (Nat.not_lt.2 (Nat.le_add_left _ _))
abbrev reads8_7 : Fin grid8.rank → Bool := ![false]

abbrev stage8_8 : Fin 1 → Memref sig .tc .smem S4x4 .f32 := fun | 0 => Memref.whole cc8_stg8_0 | ⟨_ + 1, h⟩ => absurd h (Nat.not_lt.2 (Nat.le_add_left _ _))
abbrev sem8_8 : Fin 1 → DmaSem sig := fun | 0 => cc8_sem8_0 | ⟨_ + 1, h⟩ => absurd h (Nat.not_lt.2 (Nat.le_add_left _ _))
abbrev reads8_8 : Fin grid8.rank → Bool := ![false]

abbrev stage8_9 : Fin 1 → Memref sig .tc .smem S1x1 .f32 := fun | 0 => Memref.whole cc8_stg9_0 | ⟨_ + 1, h⟩ => absurd h (Nat.not_lt.2 (Nat.le_add_left _ _))
abbrev sem8_9 : Fin 1 → DmaSem sig := fun | 0 => cc8_sem9_0 | ⟨_ + 1, h⟩ => absurd h (Nat.not_lt.2 (Nat.le_add_left _ _))
abbrev reads8_9 : Fin grid8.rank → Bool := ![false]
-- ==== ReferenceIdeal.lean ====
abbrev S1080x1920 : Shape := ⟨2, ![1080, 1920]⟩
abbrev S3x3 : Shape := ⟨2, ![3, 3]⟩
abbrev S4x4 : Shape := ⟨2, ![4, 4]⟩
abbrev S1920 : Shape := ⟨1, ![1920]⟩
abbrev S1080 : Shape := ⟨1, ![1080]⟩
abbrev S1x1 : Shape := ⟨2, ![1, 1]⟩
abbrev S_ : Shape := ⟨0, ![]⟩
abbrev S1080x1920x1 : Shape := ⟨3, ![1080, 1920, 1]⟩
abbrev S1080x1920x4 : Shape := ⟨3, ![1080, 1920, 4]⟩
abbrev S1080x1920x2 : Shape := ⟨3, ![1080, 1920, 2]⟩

abbrev nBuf : Space → Nat
  | .hbm => 308
  | .vmem => 0
  | .smem => 0
  | _ => 0

abbrev hbmTy0_0 (i : Nat) : BufTy := match i % 128 with
  | 0 => ⟨S1080x1920, .f32⟩
  | 1 => ⟨S1080x1920, .f32⟩
  | 2 => ⟨S3x3, .f32⟩
  | 3 => ⟨S4x4, .f32⟩
  | 4 => ⟨S4x4, .f32⟩
  | 5 => ⟨S1920, .f32⟩
  | 6 => ⟨S1080, .f32⟩
  | 7 => ⟨S1080x1920, .f32⟩
  | 8 => ⟨S1080x1920, .f32⟩
  | 9 => ⟨S1x1, .f32⟩
  | 10 => ⟨S_, .f32⟩
  | 11 => ⟨S1080x1920, .f32⟩
  | 12 => ⟨S1080x1920, .f32⟩
  | 13 => ⟨S1080x1920, .f32⟩
  | 14 => ⟨S1x1, .f32⟩
  | 15 => ⟨S_, .f32⟩
  | 16 => ⟨S1080x1920, .f32⟩
  | 17 => ⟨S1080x1920, .f32⟩
  | 18 => ⟨S1x1, .f32⟩
  | 19 => ⟨S_, .f32⟩
  | 20 => ⟨S1080x1920, .f32⟩
  | 21 => ⟨S1080x1920, .f32⟩
  | 22 => ⟨S1080x1920, .f32⟩
  | 23 => ⟨S1x1, .f32⟩
  | 24 => ⟨S_, .f32⟩
  | 25 => ⟨S1080x1920, .f32⟩
  | 26 => ⟨S1080x1920, .f32⟩
  | 27 => ⟨S_, .f32⟩
  | 28 => ⟨S1080x1920, .f32⟩
  | 29 => ⟨S1080x1920x1, .f32⟩
  | 30 => ⟨S1080x1920x1, .f32⟩
  | 31 => ⟨S1080x1920x1, .f32⟩
  | 32 => ⟨S1080x1920x1, .f32⟩
  | 33 => ⟨S1080x1920x4, .f32⟩
  | 34 => ⟨S1080x1920x4, .f32⟩
  | 35 => ⟨S1920, .f32⟩
  | 36 => ⟨S1080, .f32⟩
  | 37 => ⟨S1080x1920, .f32⟩
  | 38 => ⟨S1080x1920, .f32⟩
  | 39 => ⟨S1x1, .f32⟩
  | 40 => ⟨S_, .f32⟩
  | 41 => ⟨S1080x1920, .f32⟩
  | 42 => ⟨S1080x1920, .f32⟩
  | 43 => ⟨S1080x1920, .f32⟩
  | 44 => ⟨S1x1, .f32⟩
  | 45 => ⟨S_, .f32⟩
  | 46 => ⟨S1080x1920, .f32⟩
  | 47 => ⟨S1080x1920, .f32⟩
  | 48 => ⟨S1x1, .f32⟩
  | 49 => ⟨S_, .f32⟩
  | 50 => ⟨S1080x1920, .f32⟩
  | 51 => ⟨S1080x1920, .f32⟩
  | 52 => ⟨S1080x1920, .f32⟩
  | 53 => ⟨S1x1, .f32⟩
  | 54 => ⟨S_, .f32⟩
  | 55 => ⟨S1080x1920, .f32⟩
  | 56 => ⟨S1080x1920, .f32⟩
  | 57 => ⟨S_, .f32⟩
  | 58 => ⟨S1080x1920, .f32⟩
  | 59 => ⟨S1080x1920x1, .f32⟩
  | 60 => ⟨S1080x1920x1, .f32⟩
  | 61 => ⟨S1080x1920x1, .f32⟩
  | 62 => ⟨S1080x1920x1, .f32⟩
  | 63 => ⟨S1080x1920x4, .f32⟩
  | 64 => ⟨S1080x1920x4, .f32⟩
  | 65 => ⟨S4x4, .i32⟩
  | 66 => ⟨S4x4, .i32⟩
  | 67 => ⟨S_, .i32⟩
  | 68 => ⟨S4x4, .i32⟩
  | 69 => ⟨S4x4, .i32⟩
  | 70 => ⟨S4x4, .i1⟩
  | 71 => ⟨S4x4, .f32⟩
  | 72 => ⟨S4x4, .f32⟩
  | 73 => ⟨S4x4, .f32⟩
  | 74 => ⟨S_, .f32⟩
  | 75 => ⟨S_, .f32⟩
  | 76 => ⟨S_, .f32⟩
  | 77 => ⟨S_, .f32⟩
  | 78 => ⟨S4x4, .f32⟩
  | 79 => ⟨S4x4, .f32⟩
  | 80 => ⟨S4x4, .f32⟩
  | 81 => ⟨S4x4, .f32⟩
  | 82 => ⟨S4x4, .f32⟩
  | 83 => ⟨S_, .f32⟩
  | 84 => ⟨S_, .f32⟩
  | 85 => ⟨S_, .f32⟩
  | 86 => ⟨S_, .f32⟩
  | 87 => ⟨S4x4, .f32⟩
  | 88 => ⟨S4x4, .f32⟩
  | 89 => ⟨S4x4, .f32⟩
  | 90 => ⟨S4x4, .f32⟩
  | 91 => ⟨S4x4, .f32⟩
  | 92 => ⟨S_, .f32⟩
  | 93 => ⟨S_, .f32⟩
  | 94 => ⟨S_, .f32⟩
  | 95 => ⟨S_, .f32⟩
  | 96 => ⟨S4x4, .f32⟩
  | 97 => ⟨S4x4, .f32⟩
  | 98 => ⟨S4x4, .f32⟩
  | 99 => ⟨S4x4, .f32⟩
  | 100 => ⟨S4x4, .f32⟩
  | 101 => ⟨S_, .f32⟩
  | 102 => ⟨S_, .f32⟩
  | 103 => ⟨S_, .f32⟩
  | 104 => ⟨S_, .f32⟩
  | 105 => ⟨S4x4, .f32⟩
  | 106 => ⟨S4x4, .f32⟩
  | 107 => ⟨S1080x1920x4, .f32⟩
  | 108 => ⟨S1080x1920x1, .f32⟩
  | 109 => ⟨S1080x1920, .f32⟩
  | 110 => ⟨S1080x1920x1, .f32⟩
  | 111 => ⟨S1080x1920, .f32⟩
  | 112 => ⟨S1080x1920x1, .f32⟩
  | 113 => ⟨S1080x1920, .f32⟩
  | 114 => ⟨S1080x1920, .f32⟩
  | 115 => ⟨S1x1, .f32⟩
  | 116 => ⟨S_, .f32⟩
  | 117 => ⟨S1080x1920, .f32⟩
  | 118 => ⟨S1080x1920, .f32⟩
  | 119 => ⟨S1x1, .f32⟩
  | 120 => ⟨S_, .f32⟩
  | 121 => ⟨S1080x1920, .f32⟩
  | 122 => ⟨S1080x1920, .f32⟩
  | 123 => ⟨S1080x1920, .f32⟩
  | 124 => ⟨S1x1, .f32⟩
  | 125 => ⟨S_, .f32⟩
  | 126 => ⟨S1080x1920, .f32⟩
  | 127 => ⟨S1080x1920, .f32⟩
  | _ => ⟨S1080x1920, .f32⟩

abbrev hbmTy0_1 (i : Nat) : BufTy := match i % 128 with
  | 0 => ⟨S1x1, .f32⟩
  | 1 => ⟨S_, .f32⟩
  | 2 => ⟨S1080x1920, .f32⟩
  | 3 => ⟨S1080x1920, .f32⟩
  | 4 => ⟨S1080x1920, .i32⟩
  | 5 => ⟨S1080x1920, .i32⟩
  | 6 => ⟨S_, .i32⟩
  | 7 => ⟨S1080x1920, .i32⟩
  | 8 => ⟨S1080x1920, .i1⟩
  | 9 => ⟨S_, .i32⟩
  | 10 => ⟨S1080x1920, .i32⟩
  | 11 => ⟨S1080x1920, .i1⟩
  | 12 => ⟨S1080x1920, .i1⟩
  | 13 => ⟨S_, .i32⟩
  | 14 => ⟨S1080x1920, .i32⟩
  | 15 => ⟨S1080x1920, .i1⟩
  | 16 => ⟨S1080x1920, .i1⟩
  | 17 => ⟨S_, .i32⟩
  | 18 => ⟨S1080x1920, .i32⟩
  | 19 => ⟨S1080x1920, .i1⟩
  | 20 => ⟨S1080x1920, .i1⟩
  | 21 => ⟨S_, .i32⟩
  | 22 => ⟨S_, .i32⟩
  | 23 => ⟨S1080x1920, .i32⟩
  | 24 => ⟨S1080x1920, .i32⟩
  | 25 => ⟨S_, .i32⟩
  | 26 => ⟨S_, .i32⟩
  | 27 => ⟨S1080x1920, .i32⟩
  | 28 => ⟨S1080x1920, .i32⟩
  | 29 => ⟨S_, .f32⟩
  | 30 => ⟨S1080x1920, .f32⟩
  | 31 => ⟨S_, .i32⟩
  | 32 => ⟨S1080x1920, .i32⟩
  | 33 => ⟨S1080x1920, .i1⟩
  | 34 => ⟨S_, .i32⟩
  | 35 => ⟨S1080x1920, .i32⟩
  | 36 => ⟨S1080x1920, .i32⟩
  | 37 => ⟨S1080x1920, .i32⟩
  | 38 => ⟨S_, .i32⟩
  | 39 => ⟨S1080x1920, .i32⟩
  | 40 => ⟨S1080x1920, .i1⟩
  | 41 => ⟨S_, .i32⟩
  | 42 => ⟨S1080x1920, .i32⟩
  | 43 => ⟨S1080x1920, .i32⟩
  | 44 => ⟨S1080x1920, .i32⟩
  | 45 => ⟨S1080x1920x1, .i32⟩
  | 46 => ⟨S1080x1920x1, .i32⟩
  | 47 => ⟨S1080x1920x2, .i32⟩
  | 48 => ⟨S1080x1920, .f32⟩
  | 49 => ⟨S4x4, .i32⟩
  | 50 => ⟨S4x4, .i32⟩
  | 51 => ⟨S_, .i32⟩
  | 52 => ⟨S4x4, .i32⟩
  | 53 => ⟨S4x4, .i32⟩
  | 54 => ⟨S4x4, .i1⟩
  | 55 => ⟨S4x4, .f32⟩
  | 56 => ⟨S4x4, .f32⟩
  | 57 => ⟨S4x4, .f32⟩
  | 58 => ⟨S_, .f32⟩
  | 59 => ⟨S_, .f32⟩
  | 60 => ⟨S_, .f32⟩
  | 61 => ⟨S_, .f32⟩
  | 62 => ⟨S4x4, .f32⟩
  | 63 => ⟨S4x4, .f32⟩
  | 64 => ⟨S4x4, .f32⟩
  | 65 => ⟨S4x4, .f32⟩
  | 66 => ⟨S4x4, .f32⟩
  | 67 => ⟨S_, .f32⟩
  | 68 => ⟨S_, .f32⟩
  | 69 => ⟨S_, .f32⟩
  | 70 => ⟨S_, .f32⟩
  | 71 => ⟨S4x4, .f32⟩
  | 72 => ⟨S4x4, .f32⟩
  | 73 => ⟨S4x4, .f32⟩
  | 74 => ⟨S4x4, .f32⟩
  | 75 => ⟨S4x4, .f32⟩
  | 76 => ⟨S_, .f32⟩
  | 77 => ⟨S_, .f32⟩
  | 78 => ⟨S_, .f32⟩
  | 79 => ⟨S_, .f32⟩
  | 80 => ⟨S4x4, .f32⟩
  | 81 => ⟨S4x4, .f32⟩
  | 82 => ⟨S4x4, .f32⟩
  | 83 => ⟨S4x4, .f32⟩
  | 84 => ⟨S4x4, .f32⟩
  | 85 => ⟨S_, .f32⟩
  | 86 => ⟨S_, .f32⟩
  | 87 => ⟨S_, .f32⟩
  | 88 => ⟨S_, .f32⟩
  | 89 => ⟨S4x4, .f32⟩
  | 90 => ⟨S4x4, .f32⟩
  | 91 => ⟨S1080x1920x4, .f32⟩
  | 92 => ⟨S1080x1920x1, .f32⟩
  | 93 => ⟨S1080x1920, .f32⟩
  | 94 => ⟨S1080x1920x1, .f32⟩
  | 95 => ⟨S1080x1920, .f32⟩
  | 96 => ⟨S1080x1920x1, .f32⟩
  | 97 => ⟨S1080x1920, .f32⟩
  | 98 => ⟨S1080x1920, .f32⟩
  | 99 => ⟨S1x1, .f32⟩
  | 100 => ⟨S_, .f32⟩
  | 101 => ⟨S1080x1920, .f32⟩
  | 102 => ⟨S1080x1920, .f32⟩
  | 103 => ⟨S1x1, .f32⟩
  | 104 => ⟨S_, .f32⟩
  | 105 => ⟨S1080x1920, .f32⟩
  | 106 => ⟨S1080x1920, .f32⟩
  | 107 => ⟨S1080x1920, .f32⟩
  | 108 => ⟨S1x1, .f32⟩
  | 109 => ⟨S_, .f32⟩
  | 110 => ⟨S1080x1920, .f32⟩
  | 111 => ⟨S1080x1920, .f32⟩
  | 112 => ⟨S1x1, .f32⟩
  | 113 => ⟨S_, .f32⟩
  | 114 => ⟨S1080x1920, .f32⟩
  | 115 => ⟨S1080x1920, .f32⟩
  | 116 => ⟨S1080x1920, .i32⟩
  | 117 => ⟨S1080x1920, .i32⟩
  | 118 => ⟨S_, .i32⟩
  | 119 => ⟨S1080x1920, .i32⟩
  | 120 => ⟨S1080x1920, .i1⟩
  | 121 => ⟨S_, .i32⟩
  | 122 => ⟨S1080x1920, .i32⟩
  | 123 => ⟨S1080x1920, .i1⟩
  | 124 => ⟨S1080x1920, .i1⟩
  | 125 => ⟨S_, .i32⟩
  | 126 => ⟨S1080x1920, .i32⟩
  | 127 => ⟨S1080x1920, .i1⟩
  | _ => ⟨S1080x1920, .f32⟩

abbrev hbmTy0_2 (i : Nat) : BufTy := match i % 128 with
  | 0 => ⟨S1080x1920, .i1⟩
  | 1 => ⟨S_, .i32⟩
  | 2 => ⟨S1080x1920, .i32⟩
  | 3 => ⟨S1080x1920, .i1⟩
  | 4 => ⟨S1080x1920, .i1⟩
  | 5 => ⟨S_, .i32⟩
  | 6 => ⟨S_, .i32⟩
  | 7 => ⟨S1080x1920, .i32⟩
  | 8 => ⟨S1080x1920, .i32⟩
  | 9 => ⟨S_, .i32⟩
  | 10 => ⟨S_, .i32⟩
  | 11 => ⟨S1080x1920, .i32⟩
  | 12 => ⟨S1080x1920, .i32⟩
  | 13 => ⟨S_, .f32⟩
  | 14 => ⟨S1080x1920, .f32⟩
  | 15 => ⟨S_, .i32⟩
  | 16 => ⟨S1080x1920, .i32⟩
  | 17 => ⟨S1080x1920, .i1⟩
  | 18 => ⟨S_, .i32⟩
  | 19 => ⟨S1080x1920, .i32⟩
  | 20 => ⟨S1080x1920, .i32⟩
  | 21 => ⟨S1080x1920, .i32⟩
  | 22 => ⟨S_, .i32⟩
  | 23 => ⟨S1080x1920, .i32⟩
  | 24 => ⟨S1080x1920, .i1⟩
  | 25 => ⟨S_, .i32⟩
  | 26 => ⟨S1080x1920, .i32⟩
  | 27 => ⟨S1080x1920, .i32⟩
  | 28 => ⟨S1080x1920, .i32⟩
  | 29 => ⟨S1080x1920x1, .i32⟩
  | 30 => ⟨S1080x1920x1, .i32⟩
  | 31 => ⟨S1080x1920x2, .i32⟩
  | 32 => ⟨S1080x1920, .f32⟩
  | 33 => ⟨S1080x1920, .f32⟩
  | 34 => ⟨S_, .f32⟩
  | 35 => ⟨S1080x1920, .f32⟩
  | 36 => ⟨S1080x1920, .i1⟩
  | 37 => ⟨S1080x1920, .f32⟩
  | 38 => ⟨S1080x1920, .f32⟩
  | 39 => ⟨S1080x1920, .f32⟩
  | 40 => ⟨S1080x1920, .f32⟩
  | 41 => ⟨S_, .f32⟩
  | 42 => ⟨S_, .f32⟩
  | 43 => ⟨S_, .f32⟩
  | 44 => ⟨S_, .f32⟩
  | 45 => ⟨S4x4, .f32⟩
  | 46 => ⟨S4x4, .f32⟩
  | 47 => ⟨S_, .f32⟩
  | 48 => ⟨S_, .f32⟩
  | 49 => ⟨S_, .f32⟩
  | 50 => ⟨S_, .f32⟩
  | 51 => ⟨S_, .f32⟩
  | _ => ⟨S1080x1920, .f32⟩

abbrev hbmTy (i : Nat) : BufTy := match i / 128 with
  | 0 => hbmTy0_0 i
  | 1 => hbmTy0_1 i
  | 2 => hbmTy0_2 i
  | _ => ⟨S1080x1920, .f32⟩

abbrev bufTy : (tb : Table) → Fin (tcTables nBuf tb) → BufTy
  | .hbm, ⟨i, _⟩ => hbmTy i
  | _, _ => ⟨S1080x1920, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_cst_0 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_c : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_cst_1 : Ref sig .tc := ⟨.hbm, 74, rfl⟩
abbrev main_v66 : Ref sig .tc := ⟨.hbm, 75, rfl⟩
abbrev main_cst_2 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_cst_3 : Ref sig .tc := ⟨.hbm, 83, rfl⟩
abbrev main_v73 : Ref sig .tc := ⟨.hbm, 84, rfl⟩
abbrev main_cst_4 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_cst_5 : Ref sig .tc := ⟨.hbm, 92, rfl⟩
abbrev main_v80 : Ref sig .tc := ⟨.hbm, 93, rfl⟩
abbrev main_cst_6 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_cst_7 : Ref sig .tc := ⟨.hbm, 101, rfl⟩
abbrev main_v87 : Ref sig .tc := ⟨.hbm, 102, rfl⟩
abbrev main_cst_8 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩
abbrev main_v111 : Ref sig .tc := ⟨.hbm, 127, rfl⟩
abbrev main_v112 : Ref sig .tc := ⟨.hbm, 128, rfl⟩
abbrev main_v113 : Ref sig .tc := ⟨.hbm, 129, rfl⟩
abbrev main_v114 : Ref sig .tc := ⟨.hbm, 130, rfl⟩
abbrev main_v115 : Ref sig .tc := ⟨.hbm, 131, rfl⟩
abbrev main_v116 : Ref sig .tc := ⟨.hbm, 132, rfl⟩
abbrev main_v117 : Ref sig .tc := ⟨.hbm, 133, rfl⟩
abbrev main_c_9 : Ref sig .tc := ⟨.hbm, 134, rfl⟩
abbrev main_v118 : Ref sig .tc := ⟨.hbm, 135, rfl⟩
abbrev main_v119 : Ref sig .tc := ⟨.hbm, 136, rfl⟩
abbrev main_c_10 : Ref sig .tc := ⟨.hbm, 137, rfl⟩
abbrev main_v120 : Ref sig .tc := ⟨.hbm, 138, rfl⟩
abbrev main_v121 : Ref sig .tc := ⟨.hbm, 139, rfl⟩
abbrev main_v122 : Ref sig .tc := ⟨.hbm, 140, rfl⟩
abbrev main_c_11 : Ref sig .tc := ⟨.hbm, 141, rfl⟩
abbrev main_v123 : Ref sig .tc := ⟨.hbm, 142, rfl⟩
abbrev main_v124 : Ref sig .tc := ⟨.hbm, 143, rfl⟩
abbrev main_v125 : Ref sig .tc := ⟨.hbm, 144, rfl⟩
abbrev main_c_12 : Ref sig .tc := ⟨.hbm, 145, rfl⟩
abbrev main_v126 : Ref sig .tc := ⟨.hbm, 146, rfl⟩
abbrev main_v127 : Ref sig .tc := ⟨.hbm, 147, rfl⟩
abbrev main_v128 : Ref sig .tc := ⟨.hbm, 148, rfl⟩
abbrev main_c_13 : Ref sig .tc := ⟨.hbm, 149, rfl⟩
abbrev main_call0_v0 : Ref sig .tc := ⟨.hbm, 150, rfl⟩
abbrev main_call0_v1 : Ref sig .tc := ⟨.hbm, 151, rfl⟩
abbrev main_v129 : Ref sig .tc := ⟨.hbm, 152, rfl⟩
abbrev main_c_14 : Ref sig .tc := ⟨.hbm, 153, rfl⟩
abbrev main_call1_v0 : Ref sig .tc := ⟨.hbm, 154, rfl⟩
abbrev main_call1_v1 : Ref sig .tc := ⟨.hbm, 155, rfl⟩
abbrev main_v130 : Ref sig .tc := ⟨.hbm, 156, rfl⟩
abbrev main_cst_15 : Ref sig .tc := ⟨.hbm, 157, rfl⟩
abbrev main_v131 : Ref sig .tc := ⟨.hbm, 158, rfl⟩
abbrev main_c_16 : Ref sig .tc := ⟨.hbm, 159, rfl⟩
abbrev main_v132 : Ref sig .tc := ⟨.hbm, 160, rfl⟩
abbrev main_v133 : Ref sig .tc := ⟨.hbm, 161, rfl⟩
abbrev main_c_17 : Ref sig .tc := ⟨.hbm, 162, rfl⟩
abbrev main_v134 : Ref sig .tc := ⟨.hbm, 163, rfl⟩
abbrev main_v135 : Ref sig .tc := ⟨.hbm, 164, rfl⟩
abbrev main_v136 : Ref sig .tc := ⟨.hbm, 165, rfl⟩
abbrev main_c_18 : Ref sig .tc := ⟨.hbm, 166, rfl⟩
abbrev main_v137 : Ref sig .tc := ⟨.hbm, 167, rfl⟩
abbrev main_v138 : Ref sig .tc := ⟨.hbm, 168, rfl⟩
abbrev main_c_19 : Ref sig .tc := ⟨.hbm, 169, rfl⟩
abbrev main_v139 : Ref sig .tc := ⟨.hbm, 170, rfl⟩
abbrev main_v140 : Ref sig .tc := ⟨.hbm, 171, rfl⟩
abbrev main_v141 : Ref sig .tc := ⟨.hbm, 172, rfl⟩
abbrev main_v142 : Ref sig .tc := ⟨.hbm, 173, rfl⟩
abbrev main_v143 : Ref sig .tc := ⟨.hbm, 174, rfl⟩
abbrev main_v144 : Ref sig .tc := ⟨.hbm, 175, rfl⟩
abbrev main_v145 : Ref sig .tc := ⟨.hbm, 176, rfl⟩
abbrev main_v146 : Ref sig .tc := ⟨.hbm, 177, rfl⟩
abbrev main_v147 : Ref sig .tc := ⟨.hbm, 178, rfl⟩
abbrev main_c_20 : Ref sig .tc := ⟨.hbm, 179, rfl⟩
abbrev main_v148 : Ref sig .tc := ⟨.hbm, 180, rfl⟩
abbrev main_v149 : Ref sig .tc := ⟨.hbm, 181, rfl⟩
abbrev main_v150 : Ref sig .tc := ⟨.hbm, 182, rfl⟩
abbrev main_v151 : Ref sig .tc := ⟨.hbm, 183, rfl⟩
abbrev main_v152 : Ref sig .tc := ⟨.hbm, 184, rfl⟩
abbrev main_v153 : Ref sig .tc := ⟨.hbm, 185, rfl⟩
abbrev main_cst_21 : Ref sig .tc := ⟨.hbm, 186, rfl⟩
abbrev main_v154 : Ref sig .tc := ⟨.hbm, 187, rfl⟩
abbrev main_cst_22 : Ref sig .tc := ⟨.hbm, 188, rfl⟩
abbrev main_v155 : Ref sig .tc := ⟨.hbm, 189, rfl⟩
abbrev main_v156 : Ref sig .tc := ⟨.hbm, 190, rfl⟩
abbrev main_v157 : Ref sig .tc := ⟨.hbm, 191, rfl⟩
abbrev main_v158 : Ref sig .tc := ⟨.hbm, 192, rfl⟩
abbrev main_v159 : Ref sig .tc := ⟨.hbm, 193, rfl⟩
abbrev main_v160 : Ref sig .tc := ⟨.hbm, 194, rfl⟩
abbrev main_cst_23 : Ref sig .tc := ⟨.hbm, 195, rfl⟩
abbrev main_v161 : Ref sig .tc := ⟨.hbm, 196, rfl⟩
abbrev main_cst_24 : Ref sig .tc := ⟨.hbm, 197, rfl⟩
abbrev main_v162 : Ref sig .tc := ⟨.hbm, 198, rfl⟩
abbrev main_v163 : Ref sig .tc := ⟨.hbm, 199, rfl⟩
abbrev main_v164 : Ref sig .tc := ⟨.hbm, 200, rfl⟩
abbrev main_v165 : Ref sig .tc := ⟨.hbm, 201, rfl⟩
abbrev main_v166 : Ref sig .tc := ⟨.hbm, 202, rfl⟩
abbrev main_v167 : Ref sig .tc := ⟨.hbm, 203, rfl⟩
abbrev main_cst_25 : Ref sig .tc := ⟨.hbm, 204, rfl⟩
abbrev main_v168 : Ref sig .tc := ⟨.hbm, 205, rfl⟩
abbrev main_cst_26 : Ref sig .tc := ⟨.hbm, 206, rfl⟩
abbrev main_v169 : Ref sig .tc := ⟨.hbm, 207, rfl⟩
abbrev main_v170 : Ref sig .tc := ⟨.hbm, 208, rfl⟩
abbrev main_v171 : Ref sig .tc := ⟨.hbm, 209, rfl⟩
abbrev main_v172 : Ref sig .tc := ⟨.hbm, 210, rfl⟩
abbrev main_v173 : Ref sig .tc := ⟨.hbm, 211, rfl⟩
abbrev main_v174 : Ref sig .tc := ⟨.hbm, 212, rfl⟩
abbrev main_cst_27 : Ref sig .tc := ⟨.hbm, 213, rfl⟩
abbrev main_v175 : Ref sig .tc := ⟨.hbm, 214, rfl⟩
abbrev main_cst_28 : Ref sig .tc := ⟨.hbm, 215, rfl⟩
abbrev main_v176 : Ref sig .tc := ⟨.hbm, 216, rfl⟩
abbrev main_v177 : Ref sig .tc := ⟨.hbm, 217, rfl⟩
abbrev main_v178 : Ref sig .tc := ⟨.hbm, 218, rfl⟩
abbrev main_v179 : Ref sig .tc := ⟨.hbm, 219, rfl⟩
abbrev main_v180 : Ref sig .tc := ⟨.hbm, 220, rfl⟩
abbrev main_v181 : Ref sig .tc := ⟨.hbm, 221, rfl⟩
abbrev main_v182 : Ref sig .tc := ⟨.hbm, 222, rfl⟩
abbrev main_v183 : Ref sig .tc := ⟨.hbm, 223, rfl⟩
abbrev main_v184 : Ref sig .tc := ⟨.hbm, 224, rfl⟩
abbrev main_v185 : Ref sig .tc := ⟨.hbm, 225, rfl⟩
abbrev main_v186 : Ref sig .tc := ⟨.hbm, 226, rfl⟩
abbrev main_v187 : Ref sig .tc := ⟨.hbm, 227, rfl⟩
abbrev main_v188 : Ref sig .tc := ⟨.hbm, 228, rfl⟩
abbrev main_v189 : Ref sig .tc := ⟨.hbm, 229, rfl⟩
abbrev main_v190 : Ref sig .tc := ⟨.hbm, 230, rfl⟩
abbrev main_v191 : Ref sig .tc := ⟨.hbm, 231, rfl⟩
abbrev main_v192 : Ref sig .tc := ⟨.hbm, 232, rfl⟩
abbrev main_v193 : Ref sig .tc := ⟨.hbm, 233, rfl⟩
abbrev main_v194 : Ref sig .tc := ⟨.hbm, 234, rfl⟩
abbrev main_v195 : Ref sig .tc := ⟨.hbm, 235, rfl⟩
abbrev main_v196 : Ref sig .tc := ⟨.hbm, 236, rfl⟩
abbrev main_v197 : Ref sig .tc := ⟨.hbm, 237, rfl⟩
abbrev main_v198 : Ref sig .tc := ⟨.hbm, 238, rfl⟩
abbrev main_v199 : Ref sig .tc := ⟨.hbm, 239, rfl⟩
abbrev main_v200 : Ref sig .tc := ⟨.hbm, 240, rfl⟩
abbrev main_v201 : Ref sig .tc := ⟨.hbm, 241, rfl⟩
abbrev main_v202 : Ref sig .tc := ⟨.hbm, 242, rfl⟩
abbrev main_v203 : Ref sig .tc := ⟨.hbm, 243, rfl⟩
abbrev main_v204 : Ref sig .tc := ⟨.hbm, 244, rfl⟩
abbrev main_v205 : Ref sig .tc := ⟨.hbm, 245, rfl⟩
abbrev main_c_29 : Ref sig .tc := ⟨.hbm, 246, rfl⟩
abbrev main_v206 : Ref sig .tc := ⟨.hbm, 247, rfl⟩
abbrev main_v207 : Ref sig .tc := ⟨.hbm, 248, rfl⟩
abbrev main_c_30 : Ref sig .tc := ⟨.hbm, 249, rfl⟩
abbrev main_v208 : Ref sig .tc := ⟨.hbm, 250, rfl⟩
abbrev main_v209 : Ref sig .tc := ⟨.hbm, 251, rfl⟩
abbrev main_v210 : Ref sig .tc := ⟨.hbm, 252, rfl⟩
abbrev main_c_31 : Ref sig .tc := ⟨.hbm, 253, rfl⟩
abbrev main_v211 : Ref sig .tc := ⟨.hbm, 254, rfl⟩
abbrev main_v212 : Ref sig .tc := ⟨.hbm, 255, rfl⟩
abbrev main_v213 : Ref sig .tc := ⟨.hbm, 256, rfl⟩
abbrev main_c_32 : Ref sig .tc := ⟨.hbm, 257, rfl⟩
abbrev main_v214 : Ref sig .tc := ⟨.hbm, 258, rfl⟩
abbrev main_v215 : Ref sig .tc := ⟨.hbm, 259, rfl⟩
abbrev main_v216 : Ref sig .tc := ⟨.hbm, 260, rfl⟩
abbrev main_c_33 : Ref sig .tc := ⟨.hbm, 261, rfl⟩
abbrev main_call2_v0 : Ref sig .tc := ⟨.hbm, 262, rfl⟩
abbrev main_call2_v1 : Ref sig .tc := ⟨.hbm, 263, rfl⟩
abbrev main_v217 : Ref sig .tc := ⟨.hbm, 264, rfl⟩
abbrev main_c_34 : Ref sig .tc := ⟨.hbm, 265, rfl⟩
abbrev main_call3_v0 : Ref sig .tc := ⟨.hbm, 266, rfl⟩
abbrev main_call3_v1 : Ref sig .tc := ⟨.hbm, 267, rfl⟩
abbrev main_v218 : Ref sig .tc := ⟨.hbm, 268, rfl⟩
abbrev main_cst_35 : Ref sig .tc := ⟨.hbm, 269, rfl⟩
abbrev main_v219 : Ref sig .tc := ⟨.hbm, 270, rfl⟩
abbrev main_c_36 : Ref sig .tc := ⟨.hbm, 271, rfl⟩
abbrev main_v220 : Ref sig .tc := ⟨.hbm, 272, rfl⟩
abbrev main_v221 : Ref sig .tc := ⟨.hbm, 273, rfl⟩
abbrev main_c_37 : Ref sig .tc := ⟨.hbm, 274, rfl⟩
abbrev main_v222 : Ref sig .tc := ⟨.hbm, 275, rfl⟩
abbrev main_v223 : Ref sig .tc := ⟨.hbm, 276, rfl⟩
abbrev main_v224 : Ref sig .tc := ⟨.hbm, 277, rfl⟩
abbrev main_c_38 : Ref sig .tc := ⟨.hbm, 278, rfl⟩
abbrev main_v225 : Ref sig .tc := ⟨.hbm, 279, rfl⟩
abbrev main_v226 : Ref sig .tc := ⟨.hbm, 280, rfl⟩
abbrev main_c_39 : Ref sig .tc := ⟨.hbm, 281, rfl⟩
abbrev main_v227 : Ref sig .tc := ⟨.hbm, 282, rfl⟩
abbrev main_v228 : Ref sig .tc := ⟨.hbm, 283, rfl⟩
abbrev main_v229 : Ref sig .tc := ⟨.hbm, 284, rfl⟩
abbrev main_v230 : Ref sig .tc := ⟨.hbm, 285, rfl⟩
abbrev main_v231 : Ref sig .tc := ⟨.hbm, 286, rfl⟩
abbrev main_v232 : Ref sig .tc := ⟨.hbm, 287, rfl⟩
abbrev main_v233 : Ref sig .tc := ⟨.hbm, 288, rfl⟩
abbrev main_v234 : Ref sig .tc := ⟨.hbm, 289, rfl⟩
abbrev main_cst_40 : Ref sig .tc := ⟨.hbm, 290, rfl⟩
abbrev main_v235 : Ref sig .tc := ⟨.hbm, 291, rfl⟩
abbrev main_v236 : Ref sig .tc := ⟨.hbm, 292, rfl⟩
abbrev main_v237 : Ref sig .tc := ⟨.hbm, 293, rfl⟩
abbrev main_v238 : Ref sig .tc := ⟨.hbm, 294, rfl⟩
abbrev main_v239 : Ref sig .tc := ⟨.hbm, 295, rfl⟩
abbrev main_v240 : Ref sig .tc := ⟨.hbm, 296, rfl⟩
abbrev main_cst_41 : Ref sig .tc := ⟨.hbm, 297, rfl⟩
abbrev main_v241 : Ref sig .tc := ⟨.hbm, 298, rfl⟩
abbrev main_cst_42 : Ref sig .tc := ⟨.hbm, 299, rfl⟩
abbrev main_v242 : Ref sig .tc := ⟨.hbm, 300, rfl⟩
abbrev main_v243 : Ref sig .tc := ⟨.hbm, 301, rfl⟩
abbrev main_v244 : Ref sig .tc := ⟨.hbm, 302, rfl⟩
abbrev main_cst_43 : Ref sig .tc := ⟨.hbm, 303, rfl⟩
abbrev main_v245 : Ref sig .tc := ⟨.hbm, 304, rfl⟩
abbrev main_cst_44 : Ref sig .tc := ⟨.hbm, 305, rfl⟩
abbrev main_v246 : Ref sig .tc := ⟨.hbm, 306, rfl⟩
abbrev main_v247 : Ref sig .tc := ⟨.hbm, 307, rfl⟩

abbrev nD : Nat := 1
abbrev τ : Topo := Topo.v7x

variable {F : FTy → Type} [FloatOps F]
-- ==== Proof.Valued.lean ====
/- The idealized kernel's launch, with its result: every run of it ends, its arguments as they were, its result what the
   last stretch of host operations leaves. -/
module

public import proofs.«01_k».proof.Proof.Gen.KernelIdeal.Frame

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run of the idealized kernel ends with its arguments unchanged and its result at the last boundary's contents. -/
theorem valued : θ_run defs (onTc (τ := τ) (main (F := F))) ⟨m, fun _ => 0, ρ⟩ (fun r => ∀ c : Dev nD,
      r.2.mem ((c.tc : Thread nD τ).loc main_v31) = W18 m ρ c (Proc.devRef .tc main_v31)
      ∧      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W18 m ρ c b)
    (hfin := fun c s' => by
      iintro ⟨⟨Hh, -⟩, HSI⟩
      unfold StableHlo.held
      imodintro
      iapply (pointsTo_read_all (Pipeline.ucRefs τ sig) (fun b => (((c : Thread nD τ)).1, b)) (W18 m ρ c) s')
      isplitl [Hh] <;> iassumption)
    (hQ := fun s h _ => fun c =>
      ⟨h c _ (mem_uc main_v31 (by decide)),
       (h c _ (mem_uc main_arg0 (by decide))).trans (W18_main_arg0 m ρ c),
       (h c _ (mem_uc main_arg1 (by decide))).trans (W18_main_arg1 m ρ c),
       (h c _ (mem_uc main_arg2 (by decide))).trans (W18_main_arg2 m ρ c),
       (h c _ (mem_uc main_arg3 (by decide))).trans (W18_main_arg3 m ρ c),
       (h c _ (mem_uc main_arg4 (by decide))).trans (W18_main_arg4 m ρ c)⟩)

end Cert.KernelIdeal.Gen

end
-- ==== Proof.Inverse.lean ====
/- The inverse of a 4×4 matrix by the Faddeev–LeVerrier recursion, over the reals. -/
module

public import Mathlib.LinearAlgebra.Matrix.Trace
public import Mathlib.Data.Real.Basic
public import Mathlib.Tactic.Ring
public import Mathlib.Tactic.FinCases
public import Mathlib.Tactic.NormNum

@[expose] public section

noncomputable section

namespace Cert.Depth

/-- A 4×4 matrix of reals. -/
abbrev M4 := Matrix (Fin 4) (Fin 4) ℝ

/-- One step of the recursion. -/
def next (k : ℝ) (A M : M4) : M4 := A * M - ((A * M).trace / k) • 1

/-- The 2×2 minor of rows `r`, `s` and columns `i`, `j`. -/
def minor (A : M4) (r s i j : Fin 4) : ℝ := A r i * A s j - A r j * A s i

/-- The determinant, expanded along the first two rows. -/
def laplace (A : M4) : ℝ :=
  minor A 0 1 0 1 * minor A 2 3 2 3 - minor A 0 1 0 2 * minor A 2 3 1 3 + minor A 0 1 0 3 * minor A 2 3 1 2
    + minor A 0 1 1 2 * minor A 2 3 0 3 - minor A 0 1 1 3 * minor A 2 3 0 2 + minor A 0 1 2 3 * minor A 2 3 0 1

/-- The recursion's last matrix. -/
def last (A : M4) : M4 := next 3 A (next 2 A (next 1 A 1))

/-- The last matrix inverts up to minus the determinant. -/
theorem mul_last (A : M4) : A * last A = (-laplace A) • (1 : M4) := by
  ext i j
  fin_cases i <;> fin_cases j <;>
  · simp [last, next, laplace, minor, Matrix.mul_apply, Matrix.trace, Fin.sum_univ_four, Matrix.one_apply]
    ring

/-- The inverse, as the recursion gives it. -/
def inverse (A : M4) : M4 := fun i j => last A i j / ((A * last A).trace / 4)

theorem trace_last (A : M4) : (A * last A).trace / 4 = -laplace A := by
  rw [mul_last]
  simp [Matrix.trace, Fin.sum_univ_four, Matrix.one_apply]
  ring

/-- A matrix whose determinant is not zero times its inverse is one. -/
theorem mul_inverse (A : M4) (h : laplace A ≠ 0) : A * inverse A = 1 := by
  have e : inverse A = (-laplace A)⁻¹ • last A := by
    ext i j
    unfold inverse
    rw [trace_last, Matrix.smul_apply, smul_eq_mul, div_eq_inv_mul]
  rw [e, Matrix.mul_smul, mul_last, smul_smul, inv_mul_cancel₀ (neg_ne_zero.2 h), one_smul]

end Cert.Depth
-- ==== Proof.Model.lean ====
/- One block of the kernel as a function: forty rows of the image, the row offsets and column offsets the kernel
   searches, and the sum of squares it adds. The nine launches of the kernel are this function at nine pairs of row
   offsets. -/
module

public import Idealize.ShloMosaic.PureOps
public import Idealize.ShloMosaic.Lib.ShapeFacts

@[expose] public section

noncomputable section

namespace Cert.Depth

open Idealize.ShloMosaic

/-- The shape of a matrix of `r` rows and `c` columns. -/
abbrev Mat (r c : ℕ) : Shape := ⟨2, ![r, c]⟩

/-- A block of a matrix, in range on both axes, is a slice of it. -/
theorem slices_mat {n k a b o p : ℕ} (h0 : o + a ≤ n) (h1 : p + b ≤ k) : (Mat n k).Slices ![o, p] (Mat a b) :=
  ⟨rfl, fun x => by fin_cases x <;> assumption⟩

/-- Two matrices of as many rows, side by side. -/
theorem beside {n a b c : ℕ} (h : a + b = c) : Shape.Concatenates [Mat n a, Mat n b] (Mat n c) 1 := by
  refine ⟨Nat.le_refl 2, ?_, by simpa using h⟩
  intro s hs
  simp only [List.mem_cons, List.mem_nil_iff, or_false] at hs
  rcases hs with rfl | rfl <;> exact ⟨rfl, fun b hb => by fin_cases b <;> first | rfl | exact absurd rfl hb⟩

/-- Three matrices of as many columns, one above the other. -/
theorem stacked {n a b c d : ℕ} (h : a + (b + c) = d) : Shape.Concatenates [Mat a n, Mat b n, Mat c n] (Mat d n) 0 := by
  refine ⟨by simp, ?_, by simpa using h⟩
  intro s hs
  simp only [List.mem_cons, List.mem_nil_iff, or_false] at hs
  rcases hs with rfl | rfl | rfl <;> exact ⟨rfl, fun b hb => by fin_cases b <;> first | rfl | exact absurd rfl hb⟩

/-- Numbering a matrix along one axis. -/
theorem iotas (n : ℕ) (a : Fin 2) : (Mat n 1920).Iotas .tc 32 [a] :=
  ⟨List.nodup_singleton a, fun _ => ⟨.inr rfl, Nat.le_refl 2⟩, fun h => absurd rfl h⟩

/-- A matrix moved by `k - 7` columns to the left (to the right where `k < 7`), the free columns filled with `fill`. -/
def shift {α : Type} (n : ℕ) (x : (Mat n 1920).Idx → α) (fill : α) (k : ℕ) : (Mat n 1920).Idx → α :=
  if k < 7 then
    concatenate (Mat n 1920) 1 [⟨Mat n (7 - k), broadcast (Mat n (7 - k)) fill⟩,
      ⟨Mat n (1920 - (7 - k)), extractStridedSlice (Mat n (1920 - (7 - k))) ![0, 0] x (slices_mat (by omega) (by omega))⟩]
      (beside (by omega))
  else if k = 7 then x
  else
    concatenate (Mat n 1920) 1 [⟨Mat n (1920 - min (k - 7) 1920),
        extractStridedSlice (Mat n (1920 - min (k - 7) 1920)) ![0, min (k - 7) 1920] x (slices_mat (by omega) (by omega))⟩,
      ⟨Mat n (min (k - 7) 1920), broadcast (Mat n (min (k - 7) 1920)) fill⟩]
      (beside (by omega))

variable {F : FTy → Type} [FloatOps F]

/-- The rows of the image the extended block holds, as words: `ht` rows above row `row0` come first. -/
def rowWords (n ht : ℕ) (row0 : BitVec 32) : IVec (Mat n 1920) 32 :=
  addi (iota .tc (Mat n 1920) 32 [0] (iotas n 0)) (broadcast (Mat n 1920) (Scalar.subi row0 (BitVec.ofNat 32 ht)))

/-- The columns, as words. -/
def colWords (n : ℕ) : IVec (Mat n 1920) 32 := iota .tc (Mat n 1920) 32 [1] (iotas n 1)

/-- The depths after the cast to bfloat16 and back. -/
def narrowed {s : Shape} (Z : FVec F s .f32) : FVec F s .f32 :=
  extf .f32 (truncf .bf16 Z (by decide)) (by decide)

/-- A point's coordinate: the pixel's minus the centre, times the depth, over the focal length. -/
def pointOf {s : Shape} (p : IVec s 32) (Z : FVec F s .f32) (f c : F .f32) : FVec F s .f32 :=
  mulf (mulf (subf (sitofp .f32 p) (broadcast s c)) Z) (broadcast s (Scalar.divf (Scalar.ofBits .f32 0x3F800000#32) f))

/-- The pixel a point's coordinate falls on. -/
def pixelOf {s : Shape} (X z : FVec F s .f32) (f c : F .f32) : IVec s 32 :=
  fptosi 32 (addf (mulf (divf (narrowed X) z) (broadcast s f)) (broadcast s c))

/-- How far each pixel moves, in row-major positions; 2^30 where it leaves the image. -/
def moves (n ht : ℕ) (row0 : BitVec 32) (fx cx fy cy : F .f32) (Z : FVec F (Mat n 1920) .f32) : IVec (Mat n 1920) 32 :=
  let r := rowWords n ht row0
  let c := colWords n
  let u := pixelOf (pointOf c Z fx cx) (narrowed Z) fx cx
  let v := pixelOf (pointOf r Z fy cy) (narrowed Z) fy cy
  let z0 := broadcast (Mat n 1920) 0#32
  let w := broadcast (Mat n 1920) 1920#32
  let h := broadcast (Mat n 1920) 1080#32
  select
    (andi (andi (andi (andi (andi (cmpi .sge u z0) (cmpi .slt u w)) (cmpi .sge v z0)) (cmpi .slt v h)) (cmpi .sge r z0)) (cmpi .slt r h))
    (addi (muli (subi v r) w) (subi u c)) (broadcast (Mat n 1920) 1073741824#32)

/-- One step of the search: where the pixel `dr` rows and `dc` columns away moves here, its depth replaces what was
    found so far. `j` numbers the pairs `(dr, dc)`, sixteen columns for each row. -/
def step (ht hb : ℕ) (Q : IVec (Mat (ht + 40 + hb) 1920) 32) (z : FVec F (Mat (ht + 40 + hb) 1920) .f32) (j : ℕ)
    (acc : FVec F (Mat 40 1920) .f32) : FVec F (Mat 40 1920) .f32 :=
  select
    (cmpi .eq (extractStridedSlice (Mat 40 1920) ![min (j / 16) (ht + hb), 0] (shift _ Q 1073741824#32 (j % 16)) (slices_mat (by omega) (by omega)))
      (broadcast (Mat 40 1920) (BitVec.ofNat 32 ((4294967296 + (ht * 1920 + 7) - j / 16 * 1920 - j % 16) % 4294967296))))
    (extractStridedSlice (Mat 40 1920) ![min (j / 16) (ht + hb), 0] (shift _ z (Scalar.ofBits .f32 0x00000000#32) (j % 16)) (slices_mat (by omega) (by omega)))
    acc

/-- The first `j` steps of the search. -/
def search (ht hb : ℕ) (Q : IVec (Mat (ht + 40 + hb) 1920) 32) (z : FVec F (Mat (ht + 40 + hb) 1920) .f32) (j : ℕ) :
    FVec F (Mat 40 1920) .f32 :=
  Nat.rec (broadcast (Mat 40 1920) (Scalar.ofBits .f32 0x00000000#32)) (fun j acc => step ht hb Q z j acc) j

/-- The projected depths of forty rows, from the rows and `ht` rows above and `hb` rows below them. -/
def project (ht hb : ℕ) (row0 : BitVec 32) (fx cx fy cy : F .f32) (above : FVec F (Mat ht 1920) .f32)
    (own : FVec F (Mat 40 1920) .f32) (below : FVec F (Mat hb 1920) .f32) : FVec F (Mat 40 1920) .f32 :=
  let Z : FVec F (Mat (ht + 40 + hb) 1920) .f32 :=
    concatenate (Mat (ht + 40 + hb) 1920) 0 [⟨Mat ht 1920, above⟩, ⟨Mat 40 1920, own⟩, ⟨Mat hb 1920, below⟩] (stacked (by omega))
  search ht hb (moves _ ht row0 fx cx fy cy Z) (narrowed Z) (16 * (ht + hb + 1))

/-- The sum over forty rows of the squared difference of the combined depth and the current one. -/
def squares (pl pc dc : FVec F (Mat 40 1920) .f32) : F .f32 :=
  let m := minimumf pl pc
  let comb := select (cmpf .oeq m (broadcast (Mat 40 1920) (Scalar.ofBits .f32 0x00000000#32))) (maximumf pl pc) m
  let d := subf comb dc
  extractAt ![0, 0, 0] (shapeCast ⟨3, ![1, 1, 1]⟩ (multiReduction .add [1, 2] ⟨1, ![1]⟩
    (shapeCast ⟨3, ![1, 40, 1920]⟩ (mulf d d) (by decide)) 0x00000000#32 (by decide) (.inl rfl) rfl) (by decide)) (by decide)

/-- What one grid point of the kernel adds. -/
def blockSum (ht hb : ℕ) (row0 : BitVec 32) (fx cx fy cy : F .f32)
    (la : FVec F (Mat ht 1920) .f32) (lo : FVec F (Mat 40 1920) .f32) (lb : FVec F (Mat hb 1920) .f32)
    (ca : FVec F (Mat ht 1920) .f32) (co : FVec F (Mat 40 1920) .f32) (cb : FVec F (Mat hb 1920) .f32)
    (dc : FVec F (Mat 40 1920) .f32) : F .f32 :=
  squares (project ht hb row0 fx cx fy cy la lo lb) (project ht hb row0 fx cx fy cy ca co cb) dc

/-- An entry of a matrix, read as a block of one row and one column. -/
def entry {n k : ℕ} (K : FVec F (Mat n k) .f32) (r c : ℕ) (hr : r + 1 ≤ n) (hc : c + 1 ≤ k) : F .f32 :=
  extractStridedSlice (Mat 1 1) ![r, c] K (slices_mat hr hc) (Shape.Idx.first (by decide))

/-- What one grid point of the kernel adds, of the blocks it is given: the previous, own and next forty rows of the last
    depths (`x0`, `x1`, `x2`) and of the current ones (`x3`, `x4`, `x5`), and the intrinsics `K`. -/
def pointSum (ht hb : ℕ) (hht : ht ≤ 40) (hhb : hb ≤ 40) (row0 : BitVec 32) (x0 x1 x2 x3 x4 x5 : FVec F (Mat 40 1920) .f32)
    (K : FVec F (Mat 3 3) .f32) : F .f32 :=
  blockSum ht hb row0 (entry K 0 0 (by decide) (by decide)) (entry K 0 2 (by decide) (by decide)) (entry K 1 1 (by decide) (by decide))
    (entry K 1 2 (by decide) (by decide))
    (extractStridedSlice (Mat ht 1920) ![40 - ht, 0] x0 (slices_mat (by omega) (by omega))) x1
    (extractStridedSlice (Mat hb 1920) ![0, 0] x2 (slices_mat (by omega) (by omega)))
    (extractStridedSlice (Mat ht 1920) ![40 - ht, 0] x3 (slices_mat (by omega) (by omega))) x4
    (extractStridedSlice (Mat hb 1920) ![0, 0] x5 (slices_mat (by omega) (by omega))) x4

/-- The sum of the squared differences of two poses' entries, as the kernel adds them, row by row. -/
def poseSum (pl pc : FVec F (Mat 4 4) .f32) : F .f32 :=
  Nat.rec (motive := fun _ => F .f32) (Scalar.ofBits .f32 0x00000000#32)
    (fun j acc =>
      let d := Scalar.subf (entry pc (min (j / 4) 3) (j % 4) (by omega) (by omega)) (entry pl (min (j / 4) 3) (j % 4) (by omega) (by omega))
      Scalar.addf acc (Scalar.mulf d d)) 16

end Cert.Depth
-- ==== Proof.Search.lean ====
/- The search of one block at the reals: a pixel whose depth is not zero falls on itself and a pixel of depth zero
   leaves the image, so the forty rows come back as they are. -/
module

public import proofs.«01_k».proof.Proof.Model
public import Idealize.ShloMosaic.Lib.ValueIdx
public import Idealize.ShloMosaic.Lib.Pipeline.Value
public import Idealize.ShloMosaic.Lib.IdealHost
public import Idealize.ShloMosaic.Lib.Pointwise.ElementwiseCore

@[expose] public section

noncomputable section

namespace Cert.Depth

open Idealize.ShloMosaic Idealize.ShloMosaic.ValueIdx

/-- Every entry of a moved matrix is one of its entries, or the filling. -/
theorem shift_entry {α : Type} (n : ℕ) (x : (Mat n 1920).Idx → α) (fill : α) (k : ℕ) (P : α → Prop)
    (hx : ∀ i, P (x i)) (hf : P fill) (y : (Mat n 1920).Idx) : P (shift n x fill k y) := by
  have hy : (y 1).val < 1920 := (y 1).isLt
  unfold shift
  split
  · by_cases h : (y 1).val < 7 - k
    · rw [concatenate_pair_apply_left (t := Mat n 1920) (s₁ := Mat n (7 - k)) (1 : Fin 2) _ _ _ y rfl
        (ix2 (y 0) (⟨(y 1).val, h⟩ : Fin (7 - k))) (fun b => by fin_cases b <;> rfl)]
      exact hf
    · rw [concatenate_pair_apply_right (t := Mat n 1920) (s₁ := Mat n (7 - k)) (s₂ := Mat n (1920 - (7 - k))) (1 : Fin 2) _ _ _ y rfl rfl
        (ix2 (y 0) (⟨(y 1).val - (7 - k), by omega⟩ : Fin (1920 - (7 - k))))
        (fun b hb => by fin_cases b <;> first | rfl | exact absurd rfl hb) (by show (y 1).val - (7 - k) + (7 - k) = (y 1).val; omega)]
      exact hx _
  · split
    · exact hx y
    · by_cases h : (y 1).val < 1920 - min (k - 7) 1920
      · rw [concatenate_pair_apply_left (t := Mat n 1920) (s₁ := Mat n (1920 - min (k - 7) 1920)) (1 : Fin 2) _ _ _ y rfl
          (ix2 (y 0) (⟨(y 1).val, h⟩ : Fin (1920 - min (k - 7) 1920))) (fun b => by fin_cases b <;> rfl)]
        exact hx _
      · rw [concatenate_pair_apply_right (t := Mat n 1920) (s₁ := Mat n (1920 - min (k - 7) 1920)) (s₂ := Mat n (min (k - 7) 1920)) (1 : Fin 2) _ _ _ y rfl rfl
          (ix2 (y 0) (⟨(y 1).val - (1920 - min (k - 7) 1920), by omega⟩ : Fin (min (k - 7) 1920)))
          (fun b hb => by fin_cases b <;> first | rfl | exact absurd rfl hb)
          (by show (y 1).val - (1920 - min (k - 7) 1920) + (1920 - min (k - 7) 1920) = (y 1).val; omega)]
        exact hf

/-- A whole number in the range of 32-bit words, as a word, is itself. -/
theorem fptosi_word (w : BitVec 32) : Ideal.fptosi 32 (((w.toInt : ℝ)) : EReal) = w := by
  unfold Ideal.fptosi
  rw [Ideal.toIntClamped_coe]
  have h1 := w.toInt_lt
  have h2 := w.le_toInt
  rw [Int.floor_intCast, Int.ceil_intCast, ite_self]
  have : max (-((2 ^ (32 - 1) : ℕ) : ℤ)) (min (((2 ^ (32 - 1) : ℕ) : ℤ) - 1) w.toInt) = w.toInt := by
    norm_num at h1 h2 ⊢
    omega
  rw [this, BitVec.ofInt_toInt]

/-- The pixel a point of depth `z ≠ 0` falls on is the pixel it came from. -/
theorem pixel_self (w : BitVec 32) (z f c : ℝ) (hz : z ≠ 0) (hf : f ≠ 0) :
    Ideal.fptosi 32 (Ideal.div ((((w.toInt : ℝ) : EReal) - (c : EReal)) * (z : EReal) * Ideal.div ((1 : ℝ) : EReal) (f : EReal)) (z : EReal)
      * (f : EReal) + (c : EReal)) = w := by
  rw [Ideal.div_coe hf, Ideal.div_coe hz]
  have e : (((w.toInt : ℝ) : EReal) - (c : EReal)) * (z : EReal) * (((1 : ℝ) : EReal) * ((1 / f : ℝ) : EReal)) * ((1 / z : ℝ) : EReal)
      * (f : EReal) + (c : EReal) = ((w.toInt : ℝ) : EReal) := by
    norm_cast
    field_simp
    ring
  rw [e, fptosi_word]

/-- The pixel a point of depth zero falls on is outside every image. -/
theorem pixel_none (x : EReal) (f c : ℝ) (hf : f ≠ 0) :
    Ideal.fptosi 32 (Ideal.div (x * ((0 : ℝ) : EReal) * Ideal.div ((1 : ℝ) : EReal) (f : EReal)) ((0 : ℝ) : EReal)
      * (f : EReal) + (c : EReal)) = BitVec.intMin 32 ∨
    Ideal.fptosi 32 (Ideal.div (x * ((0 : ℝ) : EReal) * Ideal.div ((1 : ℝ) : EReal) (f : EReal)) ((0 : ℝ) : EReal)
      * (f : EReal) + (c : EReal)) = BitVec.intMax 32 := by
  have e : Ideal.div (x * ((0 : ℝ) : EReal) * Ideal.div ((1 : ℝ) : EReal) (f : EReal)) ((0 : ℝ) : EReal) = ⊥ := by
    rw [EReal.coe_zero, mul_zero, zero_mul]
    simp [Ideal.div]
  rw [e]
  rcases lt_or_gt_of_ne hf with h | h
  · right
    rw [EReal.bot_mul_coe_of_neg h, EReal.top_add_coe]
    decide
  · left
    rw [EReal.bot_mul_coe_of_pos h, EReal.bot_add]
    decide

/-- What the image keeps of a move: the move where every word is in its range, 2^30 elsewhere. -/
def kept (u v r c : BitVec 32) : BitVec 32 :=
  Scalar.select
    (IntOp.andi (IntOp.andi (IntOp.andi (IntOp.andi (IntOp.andi (IntOp.cmpi .sge u 0#32) (IntOp.cmpi .slt u 1920#32)) (IntOp.cmpi .sge v 0#32))
      (IntOp.cmpi .slt v 1080#32)) (IntOp.cmpi .sge r 0#32)) (IntOp.cmpi .slt r 1080#32))
    (IntOp.addi (IntOp.muli (IntOp.subi v r) 1920#32) (IntOp.subi u c)) 1073741824#32

/-- A pixel that does not move is kept at zero, or not kept. -/
theorem kept_self (r c : BitVec 32) : kept c r r c = 0#32 ∨ kept c r r c = 1073741824#32 := by
  unfold kept Scalar.select
  split
  · left; simp [IntOp.addi, IntOp.muli, IntOp.subi]
  · right; rfl

/-- A pixel inside the image that does not move is kept at zero. -/
theorem kept_inside (r c : BitVec 32) (hr : 0 ≤ r.toInt ∧ r.toInt < 1080) (hc : 0 ≤ c.toInt ∧ c.toInt < 1920) :
    kept c r r c = 0#32 := by
  have a1 : IntOp.cmpi .sge c 0#32 = 1#1 := by
    simp only [IntOp.cmpi]; rw [show (0#32).sle c = true from by rw [BitVec.sle_iff_toInt_le]; exact hc.1]; rfl
  have a2 : IntOp.cmpi .slt c 1920#32 = 1#1 := by
    simp only [IntOp.cmpi]; rw [show c.slt 1920#32 = true from by rw [BitVec.slt_iff_toInt_lt]; exact hc.2]; rfl
  have a3 : IntOp.cmpi .sge r 0#32 = 1#1 := by
    simp only [IntOp.cmpi]; rw [show (0#32).sle r = true from by rw [BitVec.sle_iff_toInt_le]; exact hr.1]; rfl
  have a4 : IntOp.cmpi .slt r 1080#32 = 1#1 := by
    simp only [IntOp.cmpi]; rw [show r.slt 1080#32 = true from by rw [BitVec.slt_iff_toInt_lt]; exact hr.2]; rfl
  unfold kept
  rw [a1, a2, a3, a4]
  simp [IntOp.andi, IntOp.addi, IntOp.muli, IntOp.subi, Scalar.select]

/-- A pixel whose column leaves the range of words is not kept. -/
theorem kept_none (u v r c : BitVec 32) (h : u = BitVec.intMin 32 ∨ u = BitVec.intMax 32) : kept u v r c = 1073741824#32 := by
  have e : IntOp.andi (IntOp.cmpi .sge u 0#32) (IntOp.cmpi .slt u 1920#32) = 0#1 := by
    rcases h with rfl | rfl <;> decide
  unfold kept
  rw [e]
  simp [IntOp.andi, Scalar.select]

/-- The move of one pixel of a block of real depths, by its row's word and its column's. -/
theorem moves_apply (n ht : ℕ) (row0 : BitVec 32) (fx cx fy cy : ℝ) (Z : (Mat n 1920).Idx → ℝ) (x : (Mat n 1920).Idx) :
    moves (F := Ideal) n ht row0 (fx : EReal) (cx : EReal) (fy : EReal) (cy : EReal) (fun i => (Z i : EReal)) x =
      kept
        (Ideal.fptosi 32 (Ideal.div (((((colWords n x).toInt : ℝ) : EReal) - (cx : EReal)) * (Z x : EReal) * Ideal.div ((1 : ℝ) : EReal) (fx : EReal)) (Z x : EReal)
          * (fx : EReal) + (cx : EReal)))
        (Ideal.fptosi 32 (Ideal.div (((((rowWords n ht row0 x).toInt : ℝ) : EReal) - (cy : EReal)) * (Z x : EReal) * Ideal.div ((1 : ℝ) : EReal) (fy : EReal)) (Z x : EReal)
          * (fy : EReal) + (cy : EReal)))
        (rowWords n ht row0 x) (colWords n x) := by
  rw [EReal.coe_one, ← Ideal.ofBits_one_f32]
  rfl

/-- A pixel of a block does not move, or leaves the image; it stays if its depth is not zero and it is in the image,
    and leaves if its depth is zero. -/
theorem moves_spec (n ht : ℕ) (row0 : BitVec 32) (fx cx fy cy : ℝ) (hfx : fx ≠ 0) (hfy : fy ≠ 0) (Z : (Mat n 1920).Idx → ℝ)
    (x : (Mat n 1920).Idx) (Q : IVec (Mat n 1920) 32)
    (hQ : Q = moves (F := Ideal) n ht row0 (fx : EReal) (cx : EReal) (fy : EReal) (cy : EReal) (fun i => (Z i : EReal))) :
    (Q x = 0#32 ∨ Q x = 1073741824#32) ∧ (Z x = 0 → Q x = 1073741824#32) ∧
    (Z x ≠ 0 → 0 ≤ (rowWords n ht row0 x).toInt ∧ (rowWords n ht row0 x).toInt < 1080 →
      0 ≤ (colWords n x).toInt ∧ (colWords n x).toInt < 1920 → Q x = 0#32) := by
  rw [hQ, moves_apply]
  by_cases hz : Z x = 0
  · have e := kept_none _ (Ideal.fptosi 32 (Ideal.div (((((rowWords n ht row0 x).toInt : ℝ) : EReal) - (cy : EReal)) * (Z x : EReal) * Ideal.div ((1 : ℝ) : EReal) (fy : EReal)) (Z x : EReal)
          * (fy : EReal) + (cy : EReal))) (rowWords n ht row0 x) (colWords n x)
        (pixel_none ((((colWords n x).toInt : ℝ) : EReal) - (cx : EReal)) fx cx hfx)
    rw [hz] at e ⊢
    exact ⟨.inr e, fun _ => e, fun h => absurd rfl h⟩
  · rw [pixel_self _ _ _ _ hz hfx, pixel_self _ _ _ _ hz hfy]
    exact ⟨kept_self _ _, fun h => absurd h hz, fun _ hr hc => kept_inside _ _ hr hc⟩

/-- A choice by an equality of words. -/
theorem select_eq {α : Type} (a b : BitVec 32) (p q : α) : Scalar.select (IntOp.cmpi .eq a b) p q = if a = b then p else q := by
  unfold Scalar.select IntOp.cmpi
  by_cases h : a = b
  · subst h; simp
  · rw [if_neg h, if_neg]
    have e : (a == b) = false := beq_eq_false_iff_ne.2 h
    simp only [e]
    decide

/-- The offset of a step, as a number: zero for one step alone, and never 2^30. -/
theorem offset_nat (ht hb a e : ℕ) (ha : a ≤ ht + hb) (he : e < 16) (hht : ht ≤ 40) (hhb : hb ≤ 40) (hne : ¬(a = ht ∧ e = 7)) :
    (4294967296 + (ht * 1920 + 7) - a * 1920 - e) % 4294967296 ≠ 0 ∧
      (4294967296 + (ht * 1920 + 7) - a * 1920 - e) % 4294967296 ≠ 1073741824 := by
  omega

/-- The offset of a step is zero for one step alone, and it is never 2^30. -/
theorem offset_ne (ht hb j : ℕ) (hj : j < 16 * (ht + hb + 1)) (hht : ht ≤ 40) (hhb : hb ≤ 40) (hne : j ≠ 16 * ht + 7) (w : BitVec 32)
    (hw : w = 0#32 ∨ w = 1073741824#32) :
    w ≠ BitVec.ofNat 32 ((4294967296 + (ht * 1920 + 7) - j / 16 * 1920 - j % 16) % 4294967296) := by
  have o := offset_nat ht hb (j / 16) (j % 16) (by omega) (by omega) hht hhb (by omega)
  intro h
  have h' := congrArg BitVec.toNat h
  rw [BitVec.toNat_ofNat, Nat.mod_mod] at h'
  rcases hw with rfl | rfl
  · exact o.1 h'.symm
  · exact o.2 h'.symm

/-- A step whose offset is not zero changes nothing: no pixel moves that far. -/
theorem step_other (ht hb j : ℕ) (hj : j < 16 * (ht + hb + 1)) (hht : ht ≤ 40) (hhb : hb ≤ 40) (hne : j ≠ 16 * ht + 7)
    (Q : IVec (Mat (ht + 40 + hb) 1920) 32) (z : FVec Ideal (Mat (ht + 40 + hb) 1920) .f32) (acc : FVec Ideal (Mat 40 1920) .f32)
    (hQ : ∀ x, Q x = 0#32 ∨ Q x = 1073741824#32) (y : (Mat 40 1920).Idx) : step ht hb Q z j acc y = acc y := by
  have hS := shift_entry (ht + 40 + hb) Q 1073741824#32 (j % 16) (fun w => w = 0#32 ∨ w = 1073741824#32) hQ (.inr rfl)
  unfold step
  rw [select_apply, cmpi_apply, select_eq, broadcast_apply]
  unfold extractStridedSlice
  exact if_neg (offset_ne ht hb j hj hht hhb hne _ (hS _))

/-- The step of offset zero takes the depth of a pixel that does not move. -/
theorem step_self (ht hb : ℕ) (Q : IVec (Mat (ht + 40 + hb) 1920) 32) (z : FVec Ideal (Mat (ht + 40 + hb) 1920) .f32)
    (acc : FVec Ideal (Mat 40 1920) .f32) (y : (Mat 40 1920).Idx) (x : (Mat (ht + 40 + hb) 1920).Idx)
    (h0 : (x 0).val = ht + (y 0).val) (h1 : (x 1).val = (y 1).val) :
    step ht hb Q z (16 * ht + 7) acc y = if Q x = 0#32 then z x else acc y := by
  have d : (16 * ht + 7) / 16 = ht := by omega
  have r : (16 * ht + 7) % 16 = 7 := by omega
  have sh : ∀ {α : Type} (x : (Mat (ht + 40 + hb) 1920).Idx → α) (fill : α), shift _ x fill ((16 * ht + 7) % 16) = x := by
    intro α x fill
    rw [r]; rfl
  have cst : BitVec.ofNat 32 ((4294967296 + (ht * 1920 + 7) - (16 * ht + 7) / 16 * 1920 - (16 * ht + 7) % 16) % 4294967296) = 0#32 := by
    rw [d, r]
    have : 4294967296 + (ht * 1920 + 7) - ht * 1920 - 7 = 4294967296 := by omega
    rw [this]
  have hx : ∀ hlt : ∀ a : Fin 2, (![min ((16 * ht + 7) / 16) (ht + hb), 0] : Fin 2 → ℕ) a + (y a).val < (Mat (ht + 40 + hb) 1920).size a,
      (fun a => ⟨(![min ((16 * ht + 7) / 16) (ht + hb), 0] : Fin 2 → ℕ) a + (y a).val, hlt a⟩ : (Mat (ht + 40 + hb) 1920).Idx) = x := by
    intro hlt
    funext a
    fin_cases a
    · refine Fin.ext ?_
      show min ((16 * ht + 7) / 16) (ht + hb) + (y 0).val = (x 0).val
      rw [d, h0]; omega
    · refine Fin.ext ?_
      show 0 + (y 1).val = (x 1).val
      omega
  unfold step
  rw [cst, sh, sh, select_apply]
  unfold extractStridedSlice
  have hlt : ∀ a : Fin 2, (![min ((16 * ht + 7) / 16) (ht + hb), 0] : Fin 2 → ℕ) a + (y a).val < (Mat (ht + 40 + hb) 1920).size a := by
    intro a
    have := (x a).isLt
    fin_cases a
    · show min ((16 * ht + 7) / 16) (ht + hb) + (y 0).val < _
      rw [d]
      have : (x 0).val < ht + 40 + hb := (x 0).isLt
      show _ < ht + 40 + hb
      omega
    · show 0 + (y 1).val < 1920
      have : (y 1).val < 1920 := (y 1).isLt
      omega
  show Scalar.select (IntOp.cmpi .eq (Q (fun a => ⟨_, hlt a⟩)) 0#32) (z (fun a => ⟨_, hlt a⟩)) (acc y) = _
  rw [hx hlt]
  exact select_eq _ _ _ _

/-- Before the step of offset zero the search has found nothing. -/
theorem search_before (ht hb : ℕ) (hht : ht ≤ 40) (hhb : hb ≤ 40) (Q : IVec (Mat (ht + 40 + hb) 1920) 32)
    (z : FVec Ideal (Mat (ht + 40 + hb) 1920) .f32) (hQ : ∀ x, Q x = 0#32 ∨ Q x = 1073741824#32) (y : (Mat 40 1920).Idx) :
    ∀ j, j ≤ 16 * ht + 7 → search ht hb Q z j y = (0 : EReal)
  | 0, _ => Ideal.ofBits_zero_f32
  | j + 1, hj => (step_other ht hb j (by omega) hht hhb (by omega) Q z _ hQ y).trans
      (search_before ht hb hht hhb Q z hQ y j (by omega))

/-- After the step of offset zero the search keeps what that step took. -/
theorem search_after (ht hb : ℕ) (hht : ht ≤ 40) (hhb : hb ≤ 40) (Q : IVec (Mat (ht + 40 + hb) 1920) 32)
    (z : FVec Ideal (Mat (ht + 40 + hb) 1920) .f32) (hQ : ∀ x, Q x = 0#32 ∨ Q x = 1073741824#32) (y : (Mat 40 1920).Idx)
    (x : (Mat (ht + 40 + hb) 1920).Idx) (h0 : (x 0).val = ht + (y 0).val) (h1 : (x 1).val = (y 1).val) :
    ∀ j, 16 * ht + 7 < j → j ≤ 16 * (ht + hb + 1) → search ht hb Q z j y = if Q x = 0#32 then z x else (0 : EReal)
  | 0, h, _ => absurd h (Nat.not_lt_zero _)
  | j + 1, h, hj => by
    by_cases e : j = 16 * ht + 7
    · subst e
      refine (step_self ht hb Q z _ y x h0 h1).trans ?_
      have := search_before ht hb hht hhb Q z hQ y (16 * ht + 7) (le_refl _)
      exact congrArg (fun w : EReal => if Q x = 0#32 then z x else w) this
    · exact (step_other ht hb j (by omega) hht hhb e Q z _ hQ y).trans
        (search_after ht hb hht hhb Q z hQ y x h0 h1 j (by omega) (by omega))

/-- The word of a row of the block: forty rows from row `40 b`, `ht` rows above them. -/
theorem rowWords_toInt (n ht b : ℕ) (hb : b < 27) (x : (Mat n 1920).Idx) (r : ℕ) (hr : r < 40) (hx : (x 0).val = ht + r) (hht : ht ≤ 40) :
    (rowWords n ht (BitVec.ofNat 32 (40 * b)) x).toInt = ((40 * b + r : ℕ) : ℤ) := by
  have e : rowWords n ht (BitVec.ofNat 32 (40 * b)) x = BitVec.ofNat 32 (40 * b + r) := by
    unfold rowWords
    show (iota .tc (Mat n 1920) 32 [0] (iotas n 0) x) + (BitVec.ofNat 32 (40 * b) - BitVec.ofNat 32 ht) = _
    rw [iota_single_apply, hx]
    apply BitVec.eq_of_toNat_eq
    simp only [BitVec.toNat_add, BitVec.toNat_sub, BitVec.toNat_ofNat]
    omega
  rw [e, BitVec.toInt_eq_toNat_cond, BitVec.toNat_ofNat]
  split <;> omega

/-- The word of a column. -/
theorem colWords_toInt (n : ℕ) (x : (Mat n 1920).Idx) : (colWords n x).toInt = ((x 1).val : ℤ) := by
  have hx : (x 1).val < 1920 := (x 1).isLt
  unfold colWords
  rw [iota_single_apply, BitVec.toInt_eq_toNat_cond, BitVec.toNat_ofNat]
  split <;> omega

/-- The projected depths of forty rows are those rows. -/
theorem project_self (ht hb b : ℕ) (hb27 : b < 27) (hht : ht ≤ 40) (hhb : hb ≤ 40) (fx cx fy cy : ℝ) (hfx : fx ≠ 0) (hfy : fy ≠ 0)
    (above : (Mat ht 1920).Idx → ℝ) (own : (Mat 40 1920).Idx → ℝ) (below : (Mat hb 1920).Idx → ℝ) :
    project (F := Ideal) ht hb (BitVec.ofNat 32 (40 * b)) (fx : EReal) (cx : EReal) (fy : EReal) (cy : EReal)
      (fun i => (above i : EReal)) (fun i => (own i : EReal)) (fun i => (below i : EReal)) = fun i => (own i : EReal) := by
  funext y
  have hy0 : (y 0).val < 40 := (y 0).isLt
  have hy1 : (y 1).val < 1920 := (y 1).isLt
  -- the extended block as real depths
  let Z : (Mat (ht + 40 + hb) 1920).Idx → ℝ := fun x =>
    if h : (x 0).val < ht then above (ix2 (⟨(x 0).val, h⟩ : Fin ht) (x 1))
    else if h' : (x 0).val < ht + 40 then own (ix2 (⟨(x 0).val - ht, by omega⟩ : Fin 40) (x 1))
    else below (ix2 (⟨(x 0).val - (ht + 40), by have : (x 0).val < ht + 40 + hb := (x 0).isLt; omega⟩ : Fin hb) (x 1))
  have hZ : concatenate (Mat (ht + 40 + hb) 1920) 0 [⟨Mat ht 1920, fun i => (above i : EReal)⟩, ⟨Mat 40 1920, fun i => (own i : EReal)⟩,
        ⟨Mat hb 1920, fun i => (below i : EReal)⟩] (stacked (by omega)) = fun i => (Z i : EReal) := by
    funext x
    have hx : (x 0).val < ht + 40 + hb := (x 0).isLt
    by_cases h : (x 0).val < ht
    · have e : Z x = above (ix2 (⟨(x 0).val, h⟩ : Fin ht) (x 1)) := dif_pos h
      rw [e]
      refine concatenate_apply_piece (t := Mat (ht + 40 + hb) 1920) (0 : Fin 2) _ _ x 0 (by show 0 < 3; decide) (Mat ht 1920)
        (fun i => (above i : EReal)) rfl rfl 0 ?_ (ix2 (⟨(x 0).val, h⟩ : Fin ht) (x 1)) ?_ ?_
      · rfl
      · intro d hd
        fin_cases d
        · exact absurd rfl hd
        · rfl
      · exact Nat.zero_add _
    · by_cases h' : (x 0).val < ht + 40
      · have e : Z x = own (ix2 (⟨(x 0).val - ht, by omega⟩ : Fin 40) (x 1)) := (dif_neg h).trans (dif_pos h')
        rw [e]
        refine concatenate_apply_piece (t := Mat (ht + 40 + hb) 1920) (0 : Fin 2) _ _ x 1 (by show 1 < 3; decide) (Mat 40 1920)
          (fun i => (own i : EReal)) rfl rfl ht ?_ (ix2 (⟨(x 0).val - ht, by omega⟩ : Fin 40) (x 1)) ?_ ?_
        · exact Nat.add_zero _
        · intro d hd
          fin_cases d
          · exact absurd rfl hd
          · rfl
        · show ht + ((x 0).val - ht) = (x 0).val
          omega
      · have e : Z x = below (ix2 (⟨(x 0).val - (ht + 40), by omega⟩ : Fin hb) (x 1)) := (dif_neg h).trans (dif_neg h')
        rw [e]
        refine concatenate_apply_piece (t := Mat (ht + 40 + hb) 1920) (0 : Fin 2) _ _ x 2 (by show 2 < 3; decide) (Mat hb 1920)
          (fun i => (below i : EReal)) rfl rfl (ht + 40) ?_ (ix2 (⟨(x 0).val - (ht + 40), by omega⟩ : Fin hb) (x 1)) ?_ ?_
        · rfl
        · intro d hd
          fin_cases d
          · exact absurd rfl hd
          · rfl
        · show ht + 40 + ((x 0).val - (ht + 40)) = (x 0).val
          omega
  let x : (Mat (ht + 40 + hb) 1920).Idx := ix2 (⟨ht + (y 0).val, by omega⟩ : Fin (ht + 40 + hb)) (y 1)
  have hx : Z x = own y := by
    have n1 : ¬(x 0).val < ht := by show ¬(ht + (y 0).val < ht); omega
    have n2 : (x 0).val < ht + 40 := by show ht + (y 0).val < ht + 40; omega
    have e : Z x = own (ix2 (⟨(x 0).val - ht, by omega⟩ : Fin 40) (x 1)) := (dif_neg n1).trans (dif_pos n2)
    rw [e]
    refine congrArg own (funext fun a => ?_)
    fin_cases a
    · exact Fin.ext (by show ht + (y 0).val - ht = (y 0).val; omega)
    · rfl
  unfold project
  rw [hZ]
  have spec := moves_spec (ht + 40 + hb) ht (BitVec.ofNat 32 (40 * b)) fx cx fy cy hfx hfy Z
  rw [search_after ht hb hht hhb _ _ (fun i => (spec i _ rfl).1) y x rfl rfl _ (by omega) (le_refl _)]
  have r := rowWords_toInt (ht + 40 + hb) ht b hb27 x (y 0).val hy0 rfl hht
  have c := colWords_toInt (ht + 40 + hb) x
  by_cases h : Z x = 0
  · rw [if_neg]
    · rw [← hx, h]; rfl
    · rw [(spec x _ rfl).2.1 h]; decide
  · rw [if_pos]
    · rw [← hx]; rfl
    · refine (spec x _ rfl).2.2 h ?_ ?_
      · rw [r]; omega
      · rw [c]; exact ⟨by omega, by exact_mod_cast hy1⟩

end Cert.Depth
-- ==== Proof.Point.lean ====
/- What one grid point of the kernel adds, at the reals: the sum of the squares over its forty rows. -/
module

public import proofs.«01_k».proof.Proof.Search

@[expose] public section

noncomputable section

namespace Cert.Depth

open Idealize.ShloMosaic Idealize.ShloMosaic.ValueIdx

/-- The combined depth of two projected depths: the smaller one, or the larger one where the smaller is zero. -/
def merged (a b : ℝ) : ℝ := if min a b = 0 then max a b else min a b

/-- The squared difference of the combined depth and the current depth `b`. -/
def gap (a b : ℝ) : ℝ := (merged a b - b) * (merged a b - b)

/-- The combined depth, computed on extended reals. -/
theorem merged_coe (a b : ℝ) : Scalar.select (Ideal.cmp .oeq (min (a : EReal) (b : EReal)) (0 : EReal)) (max (a : EReal) (b : EReal)) (min (a : EReal) (b : EReal))
    = (merged a b : EReal) := by
  rw [← EReal.coe_strictMono.monotone.map_min, ← EReal.coe_strictMono.monotone.map_max, ← EReal.coe_zero]
  unfold merged Scalar.select Ideal.cmp
  by_cases h : min a b = 0
  · simp [h]
  · simp [h]

/-- A finite sum of reals, summed as extended reals. -/
theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- The squares of a block of real depths whose projections are the depths themselves. -/
theorem squares_real (pl pc : (Mat 40 1920).Idx → ℝ) :
    squares (F := Ideal) (fun i => (pl i : EReal)) (fun i => (pc i : EReal)) (fun i => (pc i : EReal)) =
      ((∑ r : Fin 40, ∑ q : Fin 1920, gap (pl (ix2 r q)) (pc (ix2 r q)) : ℝ) : EReal) := by
  have e : ∀ i : (Mat 40 1920).Idx,
      (Scalar.select (Ideal.cmp .oeq (min (pl i : EReal) (pc i : EReal)) (Ideal.ofBits .f32 0x00000000#32)) (max (pl i : EReal) (pc i : EReal))
          (min (pl i : EReal) (pc i : EReal)) - (pc i : EReal)) *
        (Scalar.select (Ideal.cmp .oeq (min (pl i : EReal) (pc i : EReal)) (Ideal.ofBits .f32 0x00000000#32)) (max (pl i : EReal) (pc i : EReal))
          (min (pl i : EReal) (pc i : EReal)) - (pc i : EReal)) = (gap (pl i) (pc i) : EReal) := by
    intro i
    rw [Ideal.ofBits_zero_f32, merged_coe]
    unfold gap
    rw [EReal.coe_mul, EReal.coe_sub]
  unfold squares
  refine (Ideal.multiReduction_add_total (s := ⟨3, ![1, 40, 1920]⟩) (t := ⟨1, ![1]⟩) _ 0x00000000#32 _ (by decide) (.inl rfl) rfl _).trans ?_
  refine (Equiv.sum_comp (Shape.reshapeEquiv _) _).trans ?_
  refine (sum_idx2 _).trans ?_
  rw [← coe_sum]
  refine Finset.sum_congr rfl fun r _ => ?_
  rw [← coe_sum]
  exact Finset.sum_congr rfl fun q _ => e (ix2 r q)

/-- An entry of a matrix of reals. -/
theorem entry_real {n k : ℕ} (K : (Mat n k).Idx → ℝ) (r c : ℕ) (hr : r + 1 ≤ n) (hc : c + 1 ≤ k) :
    entry (F := Ideal) (fun i => (K i : EReal)) r c hr hc = (K (ix2 ⟨r, by omega⟩ ⟨c, by omega⟩) : EReal) := by
  unfold entry extractStridedSlice
  refine congrArg (fun i => (K i : EReal)) (funext fun a => Fin.ext ?_)
  fin_cases a <;> rfl

/-- What a grid point adds: the squares over its own forty rows, whatever the rows around them. -/
theorem pointSum_real (ht hb b : ℕ) (hb27 : b < 27) (hht : ht ≤ 40) (hhb : hb ≤ 40) (x0 x1 x2 x3 x4 x5 : (Mat 40 1920).Idx → ℝ)
    (K : (Mat 3 3).Idx → ℝ) (hfx : K (ix2 0 0) ≠ 0) (hfy : K (ix2 1 1) ≠ 0) :
    pointSum (F := Ideal) ht hb hht hhb (BitVec.ofNat 32 (40 * b)) (fun i => (x0 i : EReal)) (fun i => (x1 i : EReal)) (fun i => (x2 i : EReal))
      (fun i => (x3 i : EReal)) (fun i => (x4 i : EReal)) (fun i => (x5 i : EReal)) (fun i => (K i : EReal)) =
      ((∑ r : Fin 40, ∑ q : Fin 1920, gap (x1 (ix2 r q)) (x4 (ix2 r q)) : ℝ) : EReal) := by
  unfold pointSum blockSum
  rw [entry_real, entry_real, entry_real, entry_real]
  have p := fun above own below => project_self ht hb b hb27 hht hhb (K (ix2 0 0)) (K (ix2 0 2)) (K (ix2 1 1)) (K (ix2 1 2)) hfx hfy above own below
  have p1 := p (extractStridedSlice (Mat ht 1920) ![40 - ht, 0] x0 (slices_mat (by omega) (by omega))) x1
    (extractStridedSlice (Mat hb 1920) ![0, 0] x2 (slices_mat (by omega) (by omega)))
  have p2 := p (extractStridedSlice (Mat ht 1920) ![40 - ht, 0] x3 (slices_mat (by omega) (by omega))) x4
    (extractStridedSlice (Mat hb 1920) ![0, 0] x5 (slices_mat (by omega) (by omega)))
  refine Eq.trans ?_ (squares_real x1 x4)
  exact congrArg₂ (fun u v => squares (F := Ideal) u v (fun i => (x4 i : EReal))) p1 p2

/-- The difference of two poses at the `j`-th entry, row by row. -/
def poseGap (pl pc : (Mat 4 4).Idx → ℝ) (j : ℕ) : ℝ :=
  pc (ix2 (⟨min (j / 4) 3, by omega⟩ : Fin 4) (⟨j % 4, by omega⟩ : Fin 4)) - pl (ix2 (⟨min (j / 4) 3, by omega⟩ : Fin 4) (⟨j % 4, by omega⟩ : Fin 4))

/-- The poses' term of poses of reals. -/
theorem poseSum_real (pl pc : (Mat 4 4).Idx → ℝ) :
    poseSum (F := Ideal) (fun i => (pl i : EReal)) (fun i => (pc i : EReal)) =
      ((∑ r : Fin 4, ∑ c : Fin 4, (pc (ix2 r c) - pl (ix2 r c)) * (pc (ix2 r c) - pl (ix2 r c)) : ℝ) : EReal) := by
  have h : ∀ n : ℕ, (Nat.rec (motive := fun _ => Ideal .f32) (Scalar.ofBits .f32 0x00000000#32)
      (fun j acc =>
        let d := Scalar.subf (entry (F := Ideal) (n := 4) (k := 4) (fun i => (pc i : EReal)) (min (j / 4) 3) (j % 4) (by omega) (by omega))
          (entry (F := Ideal) (n := 4) (k := 4) (fun i => (pl i : EReal)) (min (j / 4) 3) (j % 4) (by omega) (by omega))
        Scalar.addf acc (Scalar.mulf d d)) n : Ideal .f32) = ((∑ j ∈ Finset.range n, poseGap pl pc j * poseGap pl pc j : ℝ) : EReal) := by
    intro n
    induction n with
    | zero => exact Ideal.ofBits_zero_f32
    | succ j ih =>
      rw [Finset.sum_range_succ, EReal.coe_add, ← ih, EReal.coe_mul]
      unfold poseGap
      rw [EReal.coe_sub, ← entry_real pc _ _ (by omega) (by omega), ← entry_real pl _ _ (by omega) (by omega)]
      rfl
  refine (h 16).trans (congrArg _ ?_)
  simp only [Finset.sum_range_succ, Finset.sum_range_zero, Fin.sum_univ_four, poseGap]
  simp only [zero_add, add_assoc]
  rfl

end Cert.Depth
-- ==== Proof.RefPose.lean ====
/- The reference's inverse of the pose, at real entries. -/
module

public import proofs.«01_k».proof.Proof.Gen.ReferenceIdeal.Read
public import proofs.«01_k».proof.Proof.Inverse
public import proofs.«01_k».proof.Proof.Point

@[expose] public section

set_option maxRecDepth 16384

noncomputable section

namespace Cert.ReferenceIdeal.Read

open Cert.ReferenceIdeal Cert.ReferenceIdeal.Gen Idealize.ShloMosaic Idealize.ShloMosaic.TcCoe Idealize.SL.Sem Idealize.ShloMosaic.StableHlo
open Idealize.ShloMosaic.ValueIdx
open Cert.Depth (M4 next last inverse laplace coe_sum)

/-- A real matrix's entries, as extended reals. -/
def lift (A : M4) : S4x4.Idx → EReal := fun i => (A (i 0) (i 1) : EReal)

/-- A sum of products of reals. -/
theorem sum_real {n : ℕ} (f g : Fin n → ℝ) : ∑ k : Fin n, (f k : EReal) * (g k : EReal) = ((∑ k : Fin n, f k * g k : ℝ) : EReal) := by
  rw [← coe_sum]
  exact Finset.sum_congr rfl fun k _ => (EReal.coe_mul _ _).symm

/-- The patterns of one to four. -/
theorem bits_one : Ideal.ofBits .f32 0x3F800000#32 = ((1 : ℝ) : EReal) := by simp [Ideal.ofBits, Ideal.ieee, -EReal.coe_mul]; norm_num
theorem bits_two : Ideal.ofBits .f32 0x40000000#32 = ((2 : ℝ) : EReal) := by simp [Ideal.ofBits, Ideal.ieee, -EReal.coe_mul]; norm_num
theorem bits_three : Ideal.ofBits .f32 0x40400000#32 = ((3 : ℝ) : EReal) := by simp [Ideal.ofBits, Ideal.ieee, -EReal.coe_mul]; norm_num
theorem bits_four : Ideal.ofBits .f32 0x40800000#32 = ((4 : ℝ) : EReal) := by simp [Ideal.ofBits, Ideal.ieee, -EReal.coe_mul]; norm_num

/-- The identity matrix, as the reference makes it of its coordinates. -/
theorem eye_lift : val_main_v63 (F := Ideal) = lift 1 := by
  funext i
  obtain ⟨r, q, rfl⟩ : ∃ (r q : Fin 4), i = ix2 r q := ⟨i 0, i 1, eq_ix2 i⟩
  have e : val_main_v62 (F := Ideal) (ix2 r q) = if r = q then 1#1 else 0#1 := by
    rw [val_main_v62_apply, val_main_v61_apply, val_main_v60_apply, val_main_v59_apply, val_main_v58_apply, val_main_c_apply]
    fin_cases r <;> fin_cases q <;> decide
  rw [val_main_v63_apply, e]
  show (((if r = q then 1#1 else 0#1 : BitVec 1).toNat : ℝ) : EReal) = (((1 : M4) r q : ℝ) : EReal)
  rw [Matrix.one_apply]
  by_cases h : r = q
  · rw [if_pos h, if_pos h]; simp
  · rw [if_neg h, if_neg h]; simp

/-- The trace, as the sum of the entries masked by the identity. -/
theorem trace_lift (B : M4) : ∑ j : S4x4.Idx, lift B j * lift 1 j = (B.trace : EReal) := by
  have e : ∀ j : S4x4.Idx, lift B j * lift 1 j = ((B (j 0) (j 1) * (1 : M4) (j 0) (j 1) : ℝ) : EReal) := fun j => (EReal.coe_mul _ _).symm
  rw [Finset.sum_congr rfl fun j _ => e j, coe_sum]
  refine congrArg _ ((sum_idx2 _).trans ?_)
  show ∑ a : Fin 4, ∑ b : Fin 4, B a b * (1 : M4) a b = B.trace
  simp [Matrix.trace, Matrix.one_apply]

/-- A product by rows and columns. -/
theorem mul_lift (A B : M4) (i : S4x4.Idx) : ∑ k : Fin 4, (A (i 0) k : EReal) * (B k (i 1) : EReal) = lift (A * B) i := by
  rw [sum_real]
  exact congrArg _ (Matrix.mul_apply (M := A) (N := B)).symm

/-- One step of the recursion, as the reference computes it. -/
theorem next_lift (k : ℝ) (hk : k ≠ 0) (B : M4) (i : S4x4.Idx) :
    lift B i - Ideal.div (0 + ∑ j : S4x4.Idx, lift B j * lift 1 j) (k : EReal) * lift 1 i = lift (B - (B.trace / k) • 1) i := by
  rw [trace_lift, zero_add, Ideal.div_coe hk]
  unfold lift
  rw [← EReal.coe_mul, ← EReal.coe_mul, ← EReal.coe_sub]
  refine congrArg _ ?_
  show B (i 0) (i 1) - B.trace * (1 / k) * (1 : M4) (i 0) (i 1) = B (i 0) (i 1) - B.trace / k * (1 : M4) (i 0) (i 1)
  rw [mul_one_div]

variable (A : M4)

/-- The product of step 1 of the recursion. -/
theorem product1_lift : val_main_v64 (F := Ideal) (lift A) = lift (A * (1)) := by
  funext i
  rw [val_main_v64_apply, eye_lift]
  exact mul_lift A _ i

/-- Step 1 of the recursion. -/
theorem step1_lift : val_main_v70 (F := Ideal) (lift A) = lift (next 1 A (1)) := by
  funext i
  rw [val_main_v70_apply, val_main_v69_apply, val_main_v68_apply, val_main_v67_apply, val_main_v66_apply, val_main_cst_1_apply, val_main_cst_2_apply]
  simp only [val_main_v65_apply, product1_lift, eye_lift, Ideal.ofBits_def, Ideal.ofBits_zero_f32, bits_one]
  exact next_lift 1 one_ne_zero (A * (1)) i

/-- The product of step 2 of the recursion. -/
theorem product2_lift : val_main_v71 (F := Ideal) (lift A) = lift (A * (next 1 A (1))) := by
  funext i
  rw [val_main_v71_apply, step1_lift]
  exact mul_lift A _ i

/-- Step 2 of the recursion. -/
theorem step2_lift : val_main_v77 (F := Ideal) (lift A) = lift (next 2 A (next 1 A (1))) := by
  funext i
  rw [val_main_v77_apply, val_main_v76_apply, val_main_v75_apply, val_main_v74_apply, val_main_v73_apply, val_main_cst_3_apply, val_main_cst_4_apply]
  simp only [val_main_v72_apply, product2_lift, eye_lift, Ideal.ofBits_def, Ideal.ofBits_zero_f32, bits_two]
  exact next_lift 2 two_ne_zero (A * (next 1 A (1))) i

/-- The product of step 3 of the recursion. -/
theorem product3_lift : val_main_v78 (F := Ideal) (lift A) = lift (A * (next 2 A (next 1 A (1)))) := by
  funext i
  rw [val_main_v78_apply, step2_lift]
  exact mul_lift A _ i

/-- Step 3 of the recursion. -/
theorem step3_lift : val_main_v84 (F := Ideal) (lift A) = lift (next 3 A (next 2 A (next 1 A (1)))) := by
  funext i
  rw [val_main_v84_apply, val_main_v83_apply, val_main_v82_apply, val_main_v81_apply, val_main_v80_apply, val_main_cst_5_apply, val_main_cst_6_apply]
  simp only [val_main_v79_apply, product3_lift, eye_lift, Ideal.ofBits_def, Ideal.ofBits_zero_f32, bits_three]
  exact next_lift 3 three_ne_zero (A * (next 2 A (next 1 A (1)))) i

/-- The last product. -/
theorem product4_lift : val_main_v85 (F := Ideal) (lift A) = lift (A * last A) := by
  funext i
  rw [val_main_v85_apply, step3_lift]
  exact mul_lift A _ i

/-- The reference's inverse of a real matrix whose determinant is not zero. -/
theorem inverse_lift (h : laplace A ≠ 0) : val_main_v90 (F := Ideal) (lift A) = lift (inverse A) := by
  funext i
  rw [val_main_v90_apply, val_main_v89_apply, val_main_v88_apply, val_main_v87_apply, val_main_cst_7_apply, val_main_cst_8_apply, step3_lift]
  simp only [val_main_v86_apply, product4_lift, eye_lift, Ideal.ofBits_def, Ideal.ofBits_zero_f32, bits_four]
  have hd : (A * last A).trace / 4 ≠ 0 := by rw [Cert.Depth.trace_last]; exact neg_ne_zero.2 h
  show Ideal.div (lift (last A) i) (Ideal.div (0 + ∑ j : S4x4.Idx, lift (A * last A) j * lift 1 j) ((4 : ℝ) : EReal)) = _
  rw [trace_lift, zero_add, Ideal.div_coe four_ne_zero, ← EReal.coe_mul, mul_one_div, Ideal.div_coe hd]
  unfold lift
  rw [← EReal.coe_mul, mul_one_div]
  rfl

end Cert.ReferenceIdeal.Read

end
-- ==== Proof.Rows.lean ====
/- The image's forty-row blocks at the reals: the squares over one block, and the sum over the blocks. -/
module

public import proofs.«01_k».proof.Proof.Point

@[expose] public section

noncomputable section

namespace Cert.Depth

open Idealize.ShloMosaic Idealize.ShloMosaic.ValueIdx

/-- Row `n` of an image, zero past its last row. -/
def rowAt (D : (Mat 1080 1920).Idx → ℝ) (n : ℕ) (q : Fin 1920) : ℝ := if h : n < 1080 then D (ix2 ⟨n, h⟩ q) else 0

/-- The squares over rows `40 b` to `40 b + 39`. -/
def blockGap (dl dc : (Mat 1080 1920).Idx → ℝ) (b : ℕ) : ℝ :=
  ∑ r : Fin 40, ∑ q : Fin 1920, gap (rowAt dl (40 * b + r.val) q) (rowAt dc (40 * b + r.val) q)

/-- A block of the image, read at its place. -/
theorem row_of_place (D : (Mat 1080 1920).Idx → ℝ) (b : ℕ) (hb : b < 27) (e : (Mat 40 1920).Idx → (Mat 1080 1920).Idx)
    (he : ∀ i, (e i 0).val = b * 40 + (i 0).val ∧ (e i 1).val = (i 1).val) (r : Fin 40) (q : Fin 1920) :
    D (e (ix2 r q)) = rowAt D (40 * b + r.val) q := by
  have h : 40 * b + r.val < 1080 := by have := r.isLt; omega
  unfold rowAt
  rw [dif_pos h]
  refine congrArg D (funext fun a => Fin.ext ?_)
  have := he (ix2 r q)
  fin_cases a
  · refine this.1.trans ?_
    show b * 40 + r.val = 40 * b + r.val
    omega
  · exact this.2

/-- The four entries of the intrinsics that are read are the reals of `K`. -/
def Reads (A : FVec Ideal (Mat 3 3) .f32) (K : (Mat 3 3).Idx → ℝ) : Prop :=
  A (ix2 0 0) = (K (ix2 0 0) : EReal) ∧ A (ix2 0 2) = (K (ix2 0 2) : EReal) ∧ A (ix2 1 1) = (K (ix2 1 1) : EReal) ∧
    A (ix2 1 2) = (K (ix2 1 2) : EReal)

/-- A block of one entry, read at its place in the matrix. -/
theorem entry_at {n k : ℕ} (A : FVec Ideal (Mat n k) .f32) (r c : ℕ) (hr : r + 1 ≤ n) (hc : c + 1 ≤ k) :
    entry A r c hr hc = A (ix2 ⟨r, hr⟩ ⟨c, hc⟩) := by
  unfold entry extractStridedSlice
  refine congrArg A (funext fun a => Fin.ext ?_)
  fin_cases a <;> rfl

/-- A grid point reads no other entry of the intrinsics. -/
theorem pointSum_reads (ht hb : ℕ) (hht : ht ≤ 40) (hhb : hb ≤ 40) (row0 : BitVec 32) (x0 x1 x2 x3 x4 x5 : FVec Ideal (Mat 40 1920) .f32)
    (A : FVec Ideal (Mat 3 3) .f32) (K : (Mat 3 3).Idx → ℝ) (h : Reads A K) :
    pointSum ht hb hht hhb row0 x0 x1 x2 x3 x4 x5 A = pointSum ht hb hht hhb row0 x0 x1 x2 x3 x4 x5 (fun i => (K i : EReal)) := by
  unfold pointSum
  simp only [entry_at]
  obtain ⟨h0, h1, h2, h3⟩ := h
  congr 1

/-- What a grid point at block `b` adds: the squares over block `b`. -/
theorem point_gap (ht hb b : ℕ) (hb27 : b < 27) (hht : ht ≤ 40) (hhb : hb ≤ 40) (dl dc : (Mat 1080 1920).Idx → ℝ)
    (A : FVec Ideal (Mat 3 3) .f32) (K : (Mat 3 3).Idx → ℝ) (hK : Reads A K) (hfx : K (ix2 0 0) ≠ 0) (hfy : K (ix2 1 1) ≠ 0)
    (e0 e1 e2 e3 e4 e5 : (Mat 40 1920).Idx → (Mat 1080 1920).Idx)
    (h1 : ∀ i, (e1 i 0).val = b * 40 + (i 0).val ∧ (e1 i 1).val = (i 1).val)
    (h4 : ∀ i, (e4 i 0).val = b * 40 + (i 0).val ∧ (e4 i 1).val = (i 1).val) :
    pointSum (F := Ideal) ht hb hht hhb (BitVec.ofNat 32 (40 * b)) (fun i => (dl (e0 i) : EReal)) (fun i => (dl (e1 i) : EReal))
      (fun i => (dl (e2 i) : EReal)) (fun i => (dc (e3 i) : EReal)) (fun i => (dc (e4 i) : EReal)) (fun i => (dc (e5 i) : EReal)) A = (blockGap dl dc b : EReal) := by
  rw [pointSum_reads _ _ _ _ _ _ _ _ _ _ _ A K hK]
  refine (pointSum_real ht hb b hb27 hht hhb (dl ∘ e0) (dl ∘ e1) (dl ∘ e2) (dc ∘ e3) (dc ∘ e4) (dc ∘ e5) K hfx hfy).trans (congrArg _ ?_)
  unfold blockGap
  refine Finset.sum_congr rfl fun r _ => Finset.sum_congr rfl fun q _ => ?_
  exact congrArg₂ gap (row_of_place dl b hb27 e1 h1 r q) (row_of_place dc b hb27 e4 h4 r q)

/-- A sum that starts at its first term over zero and adds the others one by one. -/
theorem running {N : ℕ} {s : Shape} (o : (n : ℕ) → n < N → FVec Ideal s .f32) (p : Fin N → Ideal .f32) (S : ℕ → ℝ)
    (i : s.Idx) (hp : ∀ t : Fin N, p t = (S t.val : EReal))
    (hA : ∀ h : 0 < N, o 0 h = fun _ => Scalar.addf (Scalar.ofBits .f32 0x00000000#32) (p ⟨0, h⟩))
    (hB : ∀ (n : ℕ) (h : n + 1 < N), o (n + 1) h = fun _ => Scalar.addf (o n (Nat.lt_of_succ_lt h) i) (p ⟨n + 1, h⟩)) :
    ∀ (n : ℕ) (h : n < N), o n h = fun _ => ((∑ k ∈ Finset.range (n + 1), S k : ℝ) : EReal)
  | 0, h => by
    rw [hA h, hp, Finset.sum_range_one]
    funext _
    show Ideal.ofBits .f32 0x00000000#32 + (S 0 : EReal) = _
    rw [Ideal.ofBits_zero_f32, zero_add]
  | n + 1, h => by
    rw [hB n h, running o p S i hp hA hB n (Nat.lt_of_succ_lt h), hp, Finset.sum_range_succ _ (n + 1), EReal.coe_add]
    rfl

end Cert.Depth
-- ==== Proof.RefPoint.lean ====
/- The reference's point cloud at real depths: through the pose and its inverse it is itself. -/
module

public import proofs.«01_k».proof.Proof.RefPose
public import proofs.«01_k».proof.Proof.Rows

@[expose] public section

set_option maxRecDepth 16384

noncomputable section

namespace Cert.ReferenceIdeal.Read

open Cert.ReferenceIdeal Cert.ReferenceIdeal.Gen Idealize.ShloMosaic Idealize.ShloMosaic.TcCoe Idealize.SL.Sem Idealize.ShloMosaic.StableHlo
open Idealize.ShloMosaic.ValueIdx
open Cert.Depth (M4 inverse laplace Reads)

/-- A 1×1 array as an array of no axes. -/
theorem scalar_of (f : S1x1.Idx → EReal) (i : S_.Idx) : shapeCast S_ f shapeCasts_S1x1_S_ i = f (ix2 0 0) := by
  unfold shapeCast
  refine congrArg f (funext fun a => Fin.ext ?_)
  have h : ∀ b : Fin 2, S1x1.size b = 1 := by decide
  have h1 := h a
  have h2 := ((Shape.reshapeEquiv shapeCasts_S1x1_S_) i a).isLt
  have h3 := (ix2 (0 : Fin 1) (0 : Fin 1) a).isLt
  have h4 : (⟨2, ![1, 1]⟩ : Shape).size a = 1 := h a
  omega

section Intrinsics

variable (x2 : S3x3.Idx → EReal) (i : S_.Idx)

theorem cx_first : val_main_v5 (F := Ideal) x2 i = x2 (ix2 0 2) := by
  unfold val_main_v5
  rw [scalar_of, val_main_v4_apply]
  exact congrArg x2 (funext fun a => by fin_cases a <;> rfl)

theorem fx_first : val_main_v10 (F := Ideal) x2 i = x2 (ix2 0 0) := by
  unfold val_main_v10
  rw [scalar_of, val_main_v9_apply]
  exact congrArg x2 (funext fun a => by fin_cases a <;> rfl)

theorem cy_first : val_main_v14 (F := Ideal) x2 i = x2 (ix2 1 2) := by
  unfold val_main_v14
  rw [scalar_of, val_main_v13_apply]
  exact congrArg x2 (funext fun a => by fin_cases a <;> rfl)

theorem fy_first : val_main_v19 (F := Ideal) x2 i = x2 (ix2 1 1) := by
  unfold val_main_v19
  rw [scalar_of, val_main_v18_apply]
  exact congrArg x2 (funext fun a => by fin_cases a <;> rfl)

theorem fx_second : val_main_v100 (F := Ideal) x2 i = x2 (ix2 0 0) := by
  unfold val_main_v100
  rw [scalar_of, val_main_v99_apply]
  exact congrArg x2 (funext fun a => by fin_cases a <;> rfl)

theorem cx_second : val_main_v104 (F := Ideal) x2 i = x2 (ix2 0 2) := by
  unfold val_main_v104
  rw [scalar_of, val_main_v103_apply]
  exact congrArg x2 (funext fun a => by fin_cases a <;> rfl)

theorem fy_second : val_main_v109 (F := Ideal) x2 i = x2 (ix2 1 1) := by
  unfold val_main_v109
  rw [scalar_of, val_main_v108_apply]
  exact congrArg x2 (funext fun a => by fin_cases a <;> rfl)

theorem cy_second : val_main_v113 (F := Ideal) x2 i = x2 (ix2 1 2) := by
  unfold val_main_v113
  rw [scalar_of, val_main_v112_apply]
  exact congrArg x2 (funext fun a => by fin_cases a <;> rfl)

end Intrinsics

/-- A pixel's number, as a word read signed. -/
def wordOf (n : ℕ) : ℝ := ((BitVec.ofNat 32 n).toInt : ℝ)

/-- The point of pixel `(r, q)` at depth `z`. -/
def cloud (K : S3x3.Idx → ℝ) (z : ℝ) (r q : ℕ) : Fin 4 → ℝ :=
  ![(wordOf q - K (ix2 0 2)) * z / K (ix2 0 0), (wordOf r - K (ix2 1 2)) * z / K (ix2 1 1), z, 1]

variable (D : S1080x1920.Idx → ℝ) (x2 : S3x3.Idx → EReal) (K : S3x3.Idx → ℝ) (hK : Reads x2 K) (hfx : K (ix2 0 0) ≠ 0) (hfy : K (ix2 1 1) ≠ 0)

include hK hfx hfy

/-- The cloud the reference builds. -/
theorem cloud_lift (r : Fin 1080) (q : Fin 1920) (k : Fin 4) :
    val_main_v27 (F := Ideal) (fun i => (D i : EReal)) x2 (ix3 r q k) = (cloud K (D (ix2 r q)) r.val q.val k : EReal) := by
  obtain ⟨h00, h02, h11, h12⟩ := hK
  have piece : ∀ (n : ℕ) (hn : n < 4) (x : S1080x1920x1.Idx → EReal) (xs : List ((s : Shape) × (s.Idx → EReal)))
      (h : Shape.Concatenates (xs.map (·.1)) S1080x1920x4 2) (hk : n < xs.length) (hx : xs[n] = ⟨S1080x1920x1, x⟩)
      (hp : (((xs.take n).map (·.1)).map fun s => if h : s.rank = S1080x1920x4.rank then s.size ((2 : Fin 3).cast h.symm) else 0).sum = n),
      concatenate S1080x1920x4 2 xs h (ix3 r q ⟨n, hn⟩) = x (ix3 r q 0) := by
    intro n hn x xs h hk hx hp
    refine concatenate_apply_piece (t := S1080x1920x4) (2 : Fin 3) xs h _ n hk S1080x1920x1 x hx rfl n hp (ix3 r q 0) ?_ ?_
    · intro d hd
      fin_cases d
      · rfl
      · rfl
      · exact absurd rfl hd
    · rfl
  have hx : ∀ p : S1080x1920.Idx, p = ix2 r q → val_main_v12 (F := Ideal) (fun i => (D i : EReal)) x2 p = (cloud K (D (ix2 r q)) r.val q.val 0 : EReal) := by
    rintro p rfl
    rw [val_main_v12_apply, val_main_v8_apply, val_main_v7_apply, val_main_v11_apply, val_main_v6_apply, cx_first, fx_first, h00, h02, val_main_v3_apply]
    show Ideal.div (((wordOf q.val : EReal) - _) * (D (ix2 r q) : EReal)) _ = _
    rw [Ideal.div_coe hfx, ← EReal.coe_sub, ← EReal.coe_mul, ← EReal.coe_mul, mul_one_div]
    rfl
  have hy : ∀ p : S1080x1920.Idx, p = ix2 r q → val_main_v21 (F := Ideal) (fun i => (D i : EReal)) x2 p = (cloud K (D (ix2 r q)) r.val q.val 1 : EReal) := by
    rintro p rfl
    rw [val_main_v21_apply, val_main_v17_apply, val_main_v16_apply, val_main_v20_apply, val_main_v15_apply, cy_first, fy_first, h11, h12, val_main_v2_apply]
    show Ideal.div (((wordOf r.val : EReal) - _) * (D (ix2 r q) : EReal)) _ = _
    rw [Ideal.div_coe hfy, ← EReal.coe_sub, ← EReal.coe_mul, ← EReal.coe_mul, mul_one_div]
    rfl
  unfold val_main_v27
  fin_cases k
  · refine (piece 0 (by decide) _ _ _ (by show 0 < 4; decide) rfl rfl).trans ?_
    rw [val_main_v23_apply]
    exact hx _ (funext fun a => by fin_cases a <;> rfl)
  · refine (piece 1 (by decide) _ _ _ (by show 1 < 4; decide) rfl rfl).trans ?_
    rw [val_main_v24_apply]
    exact hy _ (funext fun a => by fin_cases a <;> rfl)
  · refine (piece 2 (by decide) _ _ _ (by show 2 < 4; decide) rfl rfl).trans ?_
    rw [val_main_v25_apply]
    exact congrArg (fun p => (D p : EReal)) (funext fun a => by fin_cases a <;> rfl)
  · refine (piece 3 (by decide) _ _ _ (by show 3 < 4; decide) rfl rfl).trans ?_
    rw [val_main_v26_apply, val_main_v22_apply, val_main_cst_apply]
    exact bits_one

variable (P : M4) (hP : laplace P ≠ 0)

include hP

/-- Through the pose and its inverse, the cloud is itself. -/
theorem camera_lift (r : Fin 1080) (q : Fin 1920) (l : Fin 4) :
    val_main_v91 (F := Ideal) (fun i => (D i : EReal)) x2 (lift P) (lift P) (ix3 r q l) = (cloud K (D (ix2 r q)) r.val q.val l : EReal) := by
  have world : ∀ j : Fin 4, val_main_v28 (F := Ideal) (fun i => (D i : EReal)) x2 (lift P) (ix3 r q j)
      = ((Matrix.vecMul (cloud K (D (ix2 r q)) r.val q.val) P j : ℝ) : EReal) := fun j => by
    rw [val_main_v28_apply]
    refine Eq.trans (Finset.sum_congr rfl fun k _ => ?_) (sum_real (cloud K (D (ix2 r q)) r.val q.val) fun k => P k j)
    have e : lidx_main_v28 (ix3 r q j) k = ix3 r q k := funext fun a => by fin_cases a <;> rfl
    rw [e, cloud_lift D x2 K hK hfx hfy]
    rfl
  rw [val_main_v91_apply]
  have s : ∀ k : Fin 4, val_main_v28 (F := Ideal) (fun i => (D i : EReal)) x2 (lift P) (lidx_main_v91 (ix3 r q l) k)
      * val_main_v90 (F := Ideal) (lift P) (ridx_main_v91 (ix3 r q l) k)
      = ((Matrix.vecMul (cloud K (D (ix2 r q)) r.val q.val) P k : ℝ) : EReal) * ((inverse P k l : ℝ) : EReal) := fun k => by
    have e : lidx_main_v91 (ix3 r q l) k = ix3 r q k := funext fun a => by fin_cases a <;> rfl
    rw [e, world, inverse_lift P hP]
    rfl
  rw [Finset.sum_congr rfl fun k _ => s k, sum_real _ fun k => inverse P k l]
  refine congrArg _ ?_
  show Matrix.vecMul (Matrix.vecMul (cloud K (D (ix2 r q)) r.val q.val) P) (inverse P) l = _
  rw [Matrix.vecMul_vecMul, Cert.Depth.mul_inverse P hP, Matrix.vecMul_one]

end Cert.ReferenceIdeal.Read

end
-- ==== Proof.RefWords.lean ====
/- The words the reference scatters by: a pixel inside the image keeps its own, a pixel outside it goes to the last. -/
module

public import proofs.«01_k».proof.Proof.Search
public import Idealize.ShloMosaic.Lib.WordCmp

@[expose] public section

noncomputable section

namespace Cert.Depth

open Idealize.ShloMosaic

/-- Whether column `u` and row `v` are in the image. -/
def inImage (u v : BitVec 32) : BitVec 1 :=
  IntOp.andi (IntOp.andi (IntOp.andi (IntOp.cmpi .sge u 0#32) (IntOp.cmpi .slt u 1920#32)) (IntOp.cmpi .sge v 0#32)) (IntOp.cmpi .slt v 1080#32)

/-- A word, `-1` outside the image, counted from the end `n` where it is negative. -/
def wrapped (n : BitVec 32) (ok : BitVec 1) (w : BitVec 32) : BitVec 32 :=
  Scalar.select (IntOp.cmpi .slt (Scalar.select ok w 4294967295#32) 0#32) (IntOp.addi (Scalar.select ok w 4294967295#32) n) (Scalar.select ok w 4294967295#32)

/-- The words of a pixel of the image are in the image. -/
theorem inImage_own (r q : ℕ) (hr : r < 1080) (hq : q < 1920) : inImage (BitVec.ofNat 32 q) (BitVec.ofNat 32 r) = 1#1 := by
  have eq : (BitVec.ofNat 32 q).toInt = q := WordCmp.toInt_ofNat_of_lt (by omega)
  have er : (BitVec.ofNat 32 r).toInt = r := WordCmp.toInt_ofNat_of_lt (by omega)
  unfold inImage
  have z : (0#32).toInt = 0 := by decide
  have a : (1920#32).toInt = 1920 := by decide
  have b : (1080#32).toInt = 1080 := by decide
  rw [WordCmp.cmpi_sge_eq, WordCmp.cmpi_sge_eq, WordCmp.cmpi_slt_eq, WordCmp.cmpi_slt_eq, eq, er, z, a, b,
    decide_eq_true (by omega), decide_eq_true (by omega), decide_eq_true (by omega), decide_eq_true (by omega)]
  decide

/-- A word that is not negative stays where the pixel is in the image. -/
theorem wrapped_own (n : BitVec 32) (k : ℕ) (hk : k < 1920) : wrapped n 1#1 (BitVec.ofNat 32 k) = BitVec.ofNat 32 k := by
  have e : (BitVec.ofNat 32 k).toInt = k := WordCmp.toInt_ofNat_of_lt (by omega)
  have z : (0#32).toInt = 0 := by decide
  unfold wrapped
  have s : Scalar.select 1#1 (BitVec.ofNat 32 k) 4294967295#32 = BitVec.ofNat 32 k := rfl
  rw [s, WordCmp.cmpi_slt_eq, e, z, decide_eq_false (by omega)]
  rfl

/-- A column at an end of the range of words is outside the image. -/
theorem inImage_none (u v : BitVec 32) (h : u = BitVec.intMin 32 ∨ u = BitVec.intMax 32) : inImage u v = 0#1 := by
  have e : IntOp.andi (IntOp.cmpi .sge u 0#32) (IntOp.cmpi .slt u 1920#32) = 0#1 := by
    rcases h with rfl | rfl <;> decide
  unfold inImage
  rw [e]
  simp [IntOp.andi]

/-- Outside the image the row is the last. -/
theorem wrapped_row (w : BitVec 32) : wrapped 1080#32 0#1 w = 1079#32 := by
  have s : Scalar.select 0#1 w 4294967295#32 = 4294967295#32 := rfl
  unfold wrapped
  rw [s]
  decide

/-- Outside the image the column is the last. -/
theorem wrapped_col (w : BitVec 32) : wrapped 1920#32 0#1 w = 1919#32 := by
  have s : Scalar.select 0#1 w 4294967295#32 = 4294967295#32 := rfl
  unfold wrapped
  rw [s]
  decide

/-- The pixel a point of depth `z ≠ 0` falls on, from its first two coordinates. -/
theorem fall_self (w : BitVec 32) (z f c : ℝ) (hz : z ≠ 0) (hf : f ≠ 0) :
    Ideal.fptosi 32 (Ideal.div (((((w.toInt : ℝ) - c) * z / f : ℝ)) : EReal) (z : EReal) * (f : EReal) + (c : EReal)) = w := by
  rw [Ideal.div_coe hz]
  have e : (((((w.toInt : ℝ) - c) * z / f : ℝ)) : EReal) * ((1 / z : ℝ) : EReal) * (f : EReal) + (c : EReal) = ((w.toInt : ℝ) : EReal) := by
    norm_cast
    field_simp
    ring
  rw [e, fptosi_word]

/-- The pixel a point of depth zero falls on is at an end of the range of words. -/
theorem fall_none (f c : ℝ) (hf : f ≠ 0) :
    Ideal.fptosi 32 (Ideal.div ((0 : ℝ) : EReal) ((0 : ℝ) : EReal) * (f : EReal) + (c : EReal)) = BitVec.intMin 32 ∨
    Ideal.fptosi 32 (Ideal.div ((0 : ℝ) : EReal) ((0 : ℝ) : EReal) * (f : EReal) + (c : EReal)) = BitVec.intMax 32 := by
  have e : Ideal.div ((0 : ℝ) : EReal) ((0 : ℝ) : EReal) = ⊥ := by
    rw [EReal.coe_zero]
    simp [Ideal.div]
  rw [e]
  rcases lt_or_gt_of_ne hf with h | h
  · right
    rw [EReal.bot_mul_coe_of_neg h, EReal.top_add_coe]
    decide
  · left
    rw [EReal.bot_mul_coe_of_pos h, EReal.bot_add]
    decide

end Cert.Depth

end
-- ==== Proof.Scatter.lean ====
/- The reference's scatter: every pixel's depth written home, the zero ones all written at the last pixel. -/
module

public import Idealize.ShloMosaic.Lib.Routing.OpsSet
public import Idealize.ShloMosaic.Lib.ValueIdx

@[expose] public section

namespace Cert.Depth

open Idealize.ShloMosaic Idealize.ShloMosaic.ValueIdx Idealize.ShloMosaic.Routing

/-- A fold of writes whose last step writes ends at what that step writes. -/
theorem last_stands {α : Type} {N : ℕ} (l : Fin N) (hl : ∀ n : Fin N, n.val ≤ l.val) (P : Fin N → Prop) [DecidablePred P] (v : Fin N → α)
    (a0 : α) (hP : P l) : (List.finRange N).foldl (fun a n => if P n then v n else a) a0 = v l := by
  obtain ⟨M, rfl⟩ : ∃ M, N = M + 1 := ⟨N - 1, by have := l.isLt; omega⟩
  obtain rfl : l = Fin.last M := Fin.ext (Nat.le_antisymm (Nat.le_of_lt_succ l.isLt) (hl (Fin.last M)))
  rw [List.finRange_succ_last, List.foldl_append]
  exact if_pos hP

/-- Depths that are not zero written each at its own pixel, and zeros at the last pixel, over zeros: the depths. -/
theorem scatter_home {α : Type} (d : ScatterDims (shape2 1080 1920) (shape3 1080 1920 2) (shape2 1080 1920)) (hiw : d.insertedWindowDims = [0, 1])
    (hsd : d.scatterDimsToOperandDims = [0, 1]) (hivd : d.indexVectorDim = 2) (zero : α) (x0 : (shape2 1080 1920).Idx → α) (hx : ∀ i, x0 i = zero)
    (idx : IVec (shape3 1080 1920 2) 32) (upd : (shape2 1080 1920).Idx → α)
    (h1 : ∀ (a : Fin 1080) (b : Fin 1920), upd (ix2 a b) ≠ zero → (idx (ix3 a b 0)).toInt = a.val ∧ (idx (ix3 a b 1)).toInt = b.val)
    (h0 : ∀ (a : Fin 1080) (b : Fin 1920), upd (ix2 a b) = zero → (idx (ix3 a b 0)).toInt = 1079 ∧ (idx (ix3 a b 1)).toInt = 1919) :
    Host.scatter d (fun _ b => b) x0 idx upd = upd := by
  have lands := scatter_lands2 d hiw hsd hivd idx
  have home : ∀ (a r : Fin 1080) (b q : Fin 1920), ¬(r.val = 1079 ∧ q.val = 1919) →
      d.resultIdx? (ix2 a b) idx = some (ix2 r q) → a = r ∧ b = q ∧ upd (ix2 a b) ≠ zero := by
    intro a r b q hn hh
    have hw := (lands a b r q).1 hh
    by_cases hz : upd (ix2 a b) = zero
    · have := h0 a b hz
      exact absurd ⟨by omega, by omega⟩ hn
    · have := h1 a b hz
      exact ⟨Fin.ext (by omega), Fin.ext (by omega), hz⟩
  funext ι
  obtain ⟨r, q, rfl⟩ : ∃ (r : Fin 1080) (q : Fin 1920), ι = ix2 r q := ⟨ι 0, ι 1, eq_ix2 ι⟩
  by_cases hlast : r.val = 1079 ∧ q.val = 1919
  · have own : d.resultIdx? (ix2 r q) idx = some (ix2 r q) := (lands r q r q).2 (by
      by_cases hz : upd (ix2 r q) = zero
      · have := h0 r q hz; omega
      · exact h1 r q hz)
    have hl : ∀ n : Fin (shape2 1080 1920).numel, n.val ≤ ((shape2 1080 1920).rowMajor (ix2 r q)).val := fun n => by
      rw [Shape.rowMajor_val_two]
      show n.val ≤ r.val * 1920 + q.val
      have : n.val < 1080 * 1920 := Nat.lt_of_lt_of_eq n.isLt (by decide)
      omega
    rw [scatter_at, last_stands ((shape2 1080 1920).rowMajor (ix2 r q)) hl _ _ _ (by rw [Equiv.symm_apply_apply]; exact own), Equiv.symm_apply_apply]
  · by_cases hz : upd (ix2 r q) = zero
    · rw [hz, scatter_set_miss d x0 idx upd (ix2 r q) fun k hk => ?_, hx]
      rw [eq_ix2 k] at hk
      obtain ⟨ha, hb, hne⟩ := home _ r _ q hlast hk
      rw [ha, hb] at hne
      exact hne hz
    · refine scatter_set_hit d x0 idx upd (ix2 r q) _ (fun k hk => ?_) (ix2 r q) ((lands r q r q).2 (h1 r q hz))
      rw [eq_ix2 k] at hk
      obtain ⟨ha, hb, _⟩ := home _ r _ q hlast hk
      rw [eq_ix2 k, ha, hb]
      rfl

end Cert.Depth
-- ==== Proof.RefScatter.lean ====
/- The reference's scattered depths at the reals: the depths themselves. -/
module

public import proofs.«01_k».proof.Proof.RefPoint
public import proofs.«01_k».proof.Proof.RefWords
public import proofs.«01_k».proof.Proof.Scatter

@[expose] public section

set_option maxRecDepth 16384

noncomputable section

namespace Cert.ReferenceIdeal.Read

open Cert.ReferenceIdeal Cert.ReferenceIdeal.Gen Idealize.ShloMosaic Idealize.ShloMosaic.TcCoe Idealize.SL.Sem Idealize.ShloMosaic.StableHlo
open Idealize.ShloMosaic.ValueIdx
open Cert.Depth

section Words

variable (x0 : S1080x1920.Idx → EReal) (x2 : S3x3.Idx → EReal) (x3 x4 : S4x4.Idx → EReal)

/-- Whether a point falls in the image. -/
theorem valid_word (p : S1080x1920.Idx) : val_main_v128 (F := Ideal) x0 x2 x3 x4 p
    = inImage (val_main_v116 (F := Ideal) x0 x2 x3 x4 p) (val_main_v117 (F := Ideal) x0 x2 x3 x4 p) := by
  rw [val_main_v128_apply, val_main_v125_apply, val_main_v122_apply, val_main_v119_apply, val_main_v121_apply, val_main_v124_apply,
    val_main_v127_apply, val_main_v118_apply, val_main_v120_apply, val_main_v123_apply, val_main_v126_apply]
  rfl

/-- The row a point is scattered to. -/
theorem row_word (p : S1080x1920.Idx) : val_main_v136 (F := Ideal) x0 x2 x3 x4 p
    = wrapped 1080#32 (inImage (val_main_v116 (F := Ideal) x0 x2 x3 x4 p) (val_main_v117 (F := Ideal) x0 x2 x3 x4 p))
        (val_main_v117 (F := Ideal) x0 x2 x3 x4 p) := by
  rw [← valid_word, val_main_v136_apply, val_main_v133_apply, val_main_v135_apply, val_main_v132_apply, val_main_v134_apply, val_main_v130_apply,
    val_main_call1_v1_apply]
  rfl

/-- The column a point is scattered to. -/
theorem col_word (p : S1080x1920.Idx) : val_main_v141 (F := Ideal) x0 x2 x3 x4 p
    = wrapped 1920#32 (inImage (val_main_v116 (F := Ideal) x0 x2 x3 x4 p) (val_main_v117 (F := Ideal) x0 x2 x3 x4 p))
        (val_main_v116 (F := Ideal) x0 x2 x3 x4 p) := by
  rw [← valid_word, val_main_v141_apply, val_main_v138_apply, val_main_v140_apply, val_main_v137_apply, val_main_v139_apply, val_main_v129_apply,
    val_main_call0_v1_apply]
  rfl

/-- The first word of a pixel's pair is its row. -/
theorem pair_row (a : Fin 1080) (b : Fin 1920) : val_main_v144 (F := Ideal) x0 x2 x3 x4 (ix3 a b 0) = val_main_v136 (F := Ideal) x0 x2 x3 x4 (ix2 a b) := by
  unfold val_main_v144
  refine (concatenate_pair_apply_left (t := S1080x1920x2) (s₁ := S1080x1920x1) (s₂ := S1080x1920x1) (2 : Fin 3) _ _ _ (ix3 a b 0) rfl
    (ix3 a b 0) (fun d => by fin_cases d <;> rfl)).trans ?_
  rw [val_main_v142_apply]
  exact congrArg _ (funext fun d => by fin_cases d <;> rfl)

/-- The second word of a pixel's pair is its column. -/
theorem pair_col (a : Fin 1080) (b : Fin 1920) : val_main_v144 (F := Ideal) x0 x2 x3 x4 (ix3 a b 1) = val_main_v141 (F := Ideal) x0 x2 x3 x4 (ix2 a b) := by
  unfold val_main_v144
  refine (concatenate_pair_apply_right (t := S1080x1920x2) (s₁ := S1080x1920x1) (s₂ := S1080x1920x1) (2 : Fin 3) _ _ _ (ix3 a b 1) rfl rfl
    (ix3 a b 0) (fun d hd => by fin_cases d <;> first | rfl | exact absurd rfl hd) rfl).trans ?_
  rw [val_main_v143_apply]
  exact congrArg _ (funext fun d => by fin_cases d <;> rfl)

end Words

/-- The place of a pixel in an array with one more axis of extent one. -/
theorem place_of (r : Fin 1080) (q : Fin 1920) : (r.val * 1920 + q.val) / 1920 = r.val ∧ (r.val * 1920 + q.val) / 1 % 1920 = q.val := by
  have := q.isLt
  omega

variable (D : S1080x1920.Idx → ℝ) (x2 : S3x3.Idx → EReal) (K : S3x3.Idx → ℝ) (hK : Reads x2 K) (hfx : K (ix2 0 0) ≠ 0) (hfy : K (ix2 1 1) ≠ 0)
  (P : M4) (hP : laplace P ≠ 0)

include hK hfx hfy hP

/-- A point's first coordinate. -/
theorem first_lift (r : Fin 1080) (q : Fin 1920) : val_main_v93 (F := Ideal) (fun i => (D i : EReal)) x2 (lift P) (lift P) (ix2 r q)
    = (cloud K (D (ix2 r q)) r.val q.val 0 : EReal) := by
  rw [val_main_v93_apply, val_main_v92_apply, ← camera_lift D x2 K hK hfx hfy P hP r q 0]
  refine congrArg _ (funext fun d => Fin.ext ?_)
  have := place_of r q
  fin_cases d
  · exact this.1
  · exact this.2
  · rfl

/-- A point's second coordinate. -/
theorem second_lift (r : Fin 1080) (q : Fin 1920) : val_main_v95 (F := Ideal) (fun i => (D i : EReal)) x2 (lift P) (lift P) (ix2 r q)
    = (cloud K (D (ix2 r q)) r.val q.val 1 : EReal) := by
  rw [val_main_v95_apply, val_main_v94_apply, ← camera_lift D x2 K hK hfx hfy P hP r q 1]
  refine congrArg _ (funext fun d => Fin.ext ?_)
  have := place_of r q
  fin_cases d
  · exact this.1
  · exact this.2
  · rfl

/-- A point's depth. -/
theorem depth_lift (r : Fin 1080) (q : Fin 1920) : val_main_v97 (F := Ideal) (fun i => (D i : EReal)) x2 (lift P) (lift P) (ix2 r q)
    = (D (ix2 r q) : EReal) := by
  rw [val_main_v97_apply, val_main_v96_apply]
  refine Eq.trans (congrArg _ (funext fun d => Fin.ext ?_)) (camera_lift D x2 K hK hfx hfy P hP r q 2)
  have := place_of r q
  fin_cases d
  · exact this.1
  · exact this.2
  · rfl

/-- The column a point falls on. -/
theorem column_lift (r : Fin 1080) (q : Fin 1920) : val_main_v116 (F := Ideal) (fun i => (D i : EReal)) x2 (lift P) (lift P) (ix2 r q)
    = Ideal.fptosi 32 (Ideal.div (cloud K (D (ix2 r q)) r.val q.val 0 : EReal) (D (ix2 r q) : EReal) * (K (ix2 0 0) : EReal) + (K (ix2 0 2) : EReal)) := by
  rw [val_main_v116_apply, val_main_v106_apply, val_main_v102_apply, val_main_v98_apply, first_lift D x2 K hK hfx hfy P hP,
    depth_lift D x2 K hK hfx hfy P hP, val_main_v101_apply, val_main_v105_apply, fx_second, cx_second, hK.1, hK.2.1]
  rfl

/-- The row a point falls on. -/
theorem line_lift (r : Fin 1080) (q : Fin 1920) : val_main_v117 (F := Ideal) (fun i => (D i : EReal)) x2 (lift P) (lift P) (ix2 r q)
    = Ideal.fptosi 32 (Ideal.div (cloud K (D (ix2 r q)) r.val q.val 1 : EReal) (D (ix2 r q) : EReal) * (K (ix2 1 1) : EReal) + (K (ix2 1 2) : EReal)) := by
  rw [val_main_v117_apply, val_main_v115_apply, val_main_v111_apply, val_main_v107_apply, second_lift D x2 K hK hfx hfy P hP,
    depth_lift D x2 K hK hfx hfy P hP, val_main_v110_apply, val_main_v114_apply, fy_second, cy_second, hK.2.2.1, hK.2.2.2]
  rfl

/-- The scattered depths are the depths. -/
theorem scatter_lift : val_main_v145 (F := Ideal) (fun i => (D i : EReal)) x2 (lift P) (lift P) = fun i => (D i : EReal) := by
  have up : val_main_v97 (F := Ideal) (fun i => (D i : EReal)) x2 (lift P) (lift P) = fun i => (D i : EReal) := funext fun i => by
    obtain ⟨r, q, rfl⟩ : ∃ (r : Fin 1080) (q : Fin 1920), i = ix2 r q := ⟨i 0, i 1, eq_ix2 i⟩
    exact depth_lift D x2 K hK hfx hfy P hP r q
  unfold val_main_v145
  rw [up]
  refine scatter_home _ rfl rfl rfl (0 : EReal) _ (fun i => ?_) _ _ (fun a b hz => ?_) (fun a b hz => ?_)
  · rw [val_main_v131_apply]
    exact Ideal.ofBits_zero_f32
  · have hz : D (ix2 a b) ≠ 0 := fun h => hz (by rw [h, EReal.coe_zero])
    have hu : val_main_v116 (F := Ideal) (fun i => (D i : EReal)) x2 (lift P) (lift P) (ix2 a b) = BitVec.ofNat 32 b.val :=
      (column_lift D x2 K hK hfx hfy P hP a b).trans (fall_self (BitVec.ofNat 32 b.val) _ _ _ hz hfx)
    have hv : val_main_v117 (F := Ideal) (fun i => (D i : EReal)) x2 (lift P) (lift P) (ix2 a b) = BitVec.ofNat 32 a.val :=
      (line_lift D x2 K hK hfx hfy P hP a b).trans (fall_self (BitVec.ofNat 32 a.val) _ _ _ hz hfy)
    have ha := a.isLt
    have hb := b.isLt
    rw [pair_row, pair_col, row_word, col_word, hu, hv, inImage_own a.val b.val ha hb, wrapped_own _ _ (by omega), wrapped_own _ _ hb]
    exact ⟨WordCmp.toInt_ofNat_of_lt (by omega), WordCmp.toInt_ofNat_of_lt (by omega)⟩
  · have hz : D (ix2 a b) = 0 := by exact_mod_cast hz
    have hu : val_main_v116 (F := Ideal) (fun i => (D i : EReal)) x2 (lift P) (lift P) (ix2 a b) = BitVec.intMin 32 ∨
        val_main_v116 (F := Ideal) (fun i => (D i : EReal)) x2 (lift P) (lift P) (ix2 a b) = BitVec.intMax 32 := by
      have e : cloud K (D (ix2 a b)) a.val b.val 0 = 0 := by
        show (wordOf b.val - K (ix2 0 2)) * D (ix2 a b) / K (ix2 0 0) = 0
        rw [hz, mul_zero, zero_div]
      rw [column_lift D x2 K hK hfx hfy P hP, e, hz]
      exact fall_none _ _ hfx
    rw [pair_row, pair_col, row_word, col_word, inImage_none _ _ hu, wrapped_row, wrapped_col]
    decide

end Cert.ReferenceIdeal.Read

end
-- ==== Proof.Result.lean ====
/- The idealized kernel's result, from the outputs of its nine calls: the host operations between and after them. -/
module

public import proofs.«01_k».proof.Proof.Gen.KernelIdeal.Frame
public import Idealize.ShloMosaic.Lib.StableHlo.Run

@[expose] public section

set_option maxRecDepth 16384

noncomputable section

namespace Cert.KernelIdeal.Gen

open Idealize.ShloMosaic Idealize.ShloMosaic.TcCoe Idealize.ShloMosaic.Tactic
open Idealize.SL.Sem

variable {F : FTy → Type} [FloatOps F]
variable (m : (ℓ : Loc nD τ sig) → Buf (Elt F) ℓ) (ρ : Dev nD → PrngReg)

/-- The one entry of a 1×1 array, as an array of no axes. -/
def one (f : FVec F S1x1 .f32) : FVec F S_ .f32 := shapeCast S_ f shapeCasts_S1x1_S_

/-- The sum of the squares, after the first call: its output's first entry. -/
theorem sum2 (c : Dev nD) : W2 m ρ c (Proc.devRef .tc main_v2) =
    one (extractStridedSlice S1x1 ![0, 0] ((dat0 (V0 m ρ) c).arrAt 9 cfg0.N) slices_S1x2_S1x1_0_0) := by
  rw [← W1_arr m ρ c 9]
  show StableHlo.after hostOps1 (W1 m ρ c) _ = _
  after_results
  rfl

/-- The poses' term, after the first call: its output's second entry. -/
theorem pose2 (c : Dev nD) : W2 m ρ c (Proc.devRef .tc main_v4) =
    one (extractStridedSlice S1x1 ![0, 1] ((dat0 (V0 m ρ) c).arrAt 9 cfg0.N) slices_S1x2_S1x1_0_1) := by
  rw [← W1_arr m ρ c 9]
  show StableHlo.after hostOps1 (W1 m ρ c) _ = _
  after_results
  rfl

/-- The sum of the squares after call 1. -/
theorem sum4 (c : Dev nD) : W4 m ρ c (Proc.devRef .tc main_v7) =
    addf (W2 m ρ c (Proc.devRef .tc main_v2)) (one ((dat1 (V2 m ρ) c).arrAt 9 cfg1.N)) := by
  rw [← W3_arr m ρ c 9, ← W3_of m ρ c main_v2 (by decide +kernel)]
  show StableHlo.after hostOps2 (W3 m ρ c) _ = _
  after_results
  rfl

/-- The sum of the squares after call 2. -/
theorem sum6 (c : Dev nD) : W6 m ρ c (Proc.devRef .tc main_v10) =
    addf (W4 m ρ c (Proc.devRef .tc main_v7)) (one ((dat2 (V4 m ρ) c).arrAt 9 cfg2.N)) := by
  rw [← W5_arr m ρ c 9, ← W5_of m ρ c main_v7 (by decide +kernel)]
  show StableHlo.after hostOps3 (W5 m ρ c) _ = _
  after_results
  rfl

/-- The sum of the squares after call 3. -/
theorem sum8 (c : Dev nD) : W8 m ρ c (Proc.devRef .tc main_v13) =
    addf (W6 m ρ c (Proc.devRef .tc main_v10)) (one ((dat3 (V6 m ρ) c).arrAt 9 cfg3.N)) := by
  rw [← W7_arr m ρ c 9, ← W7_of m ρ c main_v10 (by decide +kernel)]
  show StableHlo.after hostOps4 (W7 m ρ c) _ = _
  after_results
  rfl

/-- The sum of the squares after call 4. -/
theorem sum10 (c : Dev nD) : W10 m ρ c (Proc.devRef .tc main_v16) =
    addf (W8 m ρ c (Proc.devRef .tc main_v13)) (one ((dat4 (V8 m ρ) c).arrAt 9 cfg4.N)) := by
  rw [← W9_arr m ρ c 9, ← W9_of m ρ c main_v13 (by decide +kernel)]
  show StableHlo.after hostOps5 (W9 m ρ c) _ = _
  after_results
  rfl

/-- The sum of the squares after call 5. -/
theorem sum12 (c : Dev nD) : W12 m ρ c (Proc.devRef .tc main_v19) =
    addf (W10 m ρ c (Proc.devRef .tc main_v16)) (one ((dat5 (V10 m ρ) c).arrAt 9 cfg5.N)) := by
  rw [← W11_arr m ρ c 9, ← W11_of m ρ c main_v16 (by decide +kernel)]
  show StableHlo.after hostOps6 (W11 m ρ c) _ = _
  after_results
  rfl

/-- The sum of the squares after call 6. -/
theorem sum14 (c : Dev nD) : W14 m ρ c (Proc.devRef .tc main_v22) =
    addf (W12 m ρ c (Proc.devRef .tc main_v19)) (one ((dat6 (V12 m ρ) c).arrAt 9 cfg6.N)) := by
  rw [← W13_arr m ρ c 9, ← W13_of m ρ c main_v19 (by decide +kernel)]
  show StableHlo.after hostOps7 (W13 m ρ c) _ = _
  after_results
  rfl

/-- The sum of the squares after call 7. -/
theorem sum16 (c : Dev nD) : W16 m ρ c (Proc.devRef .tc main_v25) =
    addf (W14 m ρ c (Proc.devRef .tc main_v22)) (one ((dat7 (V14 m ρ) c).arrAt 9 cfg7.N)) := by
  rw [← W15_arr m ρ c 9, ← W15_of m ρ c main_v22 (by decide +kernel)]
  show StableHlo.after hostOps8 (W15 m ρ c) _ = _
  after_results
  rfl

/-- The poses' term stays to the last call. -/
theorem pose17 (c : Dev nD) : W17 m ρ c (Proc.devRef .tc main_v4) = W2 m ρ c (Proc.devRef .tc main_v4) :=
  (W17_of m ρ c main_v4 (by decide +kernel)).trans <| (W16_of m ρ c main_v4 (by decide +kernel)).trans <| (W15_of m ρ c main_v4 (by decide +kernel)).trans <| (W14_of m ρ c main_v4 (by decide +kernel)).trans <| (W13_of m ρ c main_v4 (by decide +kernel)).trans <| (W12_of m ρ c main_v4 (by decide +kernel)).trans <| (W11_of m ρ c main_v4 (by decide +kernel)).trans <| (W10_of m ρ c main_v4 (by decide +kernel)).trans <| (W9_of m ρ c main_v4 (by decide +kernel)).trans <| (W8_of m ρ c main_v4 (by decide +kernel)).trans <| (W7_of m ρ c main_v4 (by decide +kernel)).trans <| (W6_of m ρ c main_v4 (by decide +kernel)).trans <| (W5_of m ρ c main_v4 (by decide +kernel)).trans <| (W4_of m ρ c main_v4 (by decide +kernel)).trans (W3_of m ρ c main_v4 (by decide +kernel))

/-- The result: the sum of the squares over the number of pixels, and the poses' term at its weight. -/
theorem result (c : Dev nD) : W18 m ρ c (Proc.devRef .tc main_v31) =
    addf (Host.divf (addf (W16 m ρ c (Proc.devRef .tc main_v25)) (one ((dat8 (V16 m ρ) c).arrAt 9 cfg8.N))) (constant S_ .f32 0x49FD2000#32))
      (mulf (constant S_ .f32 0x3A83126F#32) (W2 m ρ c (Proc.devRef .tc main_v4))) := by
  rw [← pose17, ← W17_arr m ρ c 9, ← W17_of m ρ c main_v25 (by decide +kernel)]
  show StableHlo.after hostOps9 (W17 m ρ c) _ = _
  after_results
  rfl

end Cert.KernelIdeal.Gen

end
-- ==== Proof.Loads.lean ====
/- Loads of whole buffers, as blocks of what the buffers hold. -/
module

public import proofs.«01_k».proof.Proof.Gen.KernelIdeal.Launch
public import Idealize.ShloMosaic.Lib.Pipeline.Value

@[expose] public section

noncomputable section

namespace Cert.KernelIdeal.Gen

open Idealize.ShloMosaic Idealize.ShloMosaic.TcCoe Idealize.ShloMosaic.Tactic

variable {F : FTy → Type} [FloatOps F]

/-- The two zero offsets. -/
theorem zero_pair : (![0, 0] : Fin 2 → ℕ) = fun _ => 0 := by funext a; fin_cases a <;> rfl

/-- A load of a block of a whole buffer's contents is that block of them. -/
theorem load_block {sp : Space} {S : Shape} {e : EltTy} {m : Memref sig .tc sp S e} (h : m.IsWhole) (x : S.Idx → Elt F e)
    (off size : Fin S.rank → ℕ) (inb : ∀ a, off a + size a ≤ S.size a) :
    m.view.readAt (Elt F) (Rect.unit off size inb).toLoadRect (h.unread x) = extractStridedSlice ⟨_, size⟩ off x ⟨rfl, inb⟩ := by
  rw [View.readAt_eq_ld, h.read_unread, View.ld_unit]

/-- A load of all of a whole buffer's contents is the contents. -/
theorem load_all {sp : Space} {S : Shape} {e : EltTy} {m : Memref sig .tc sp S e} (h : m.IsWhole) (x : S.Idx → Elt F e)
    (off : Fin S.rank → ℕ) (inb : ∀ a, off a + S.size a ≤ S.size a) (z : off = fun _ => 0) :
    m.view.readAt (Elt F) (Rect.unit off S.size inb).toLoadRect (h.unread x) = x := by
  rw [View.readAt_eq_ld, h.read_unread, View.ld_unit_zero z]

end Cert.KernelIdeal.Gen
-- ==== Proof.Block0.lean ====
/- What the one grid point of call 0 leaves in its output, by the block function and the poses' sum. -/
module

public import proofs.«01_k».proof.Proof.Gen.KernelIdeal.Frame.Region0
public import Idealize.ShloMosaic.Lib.Pipeline.Value
public import proofs.«01_k».proof.Proof.Model
public import proofs.«01_k».proof.Proof.Loads

@[expose] public section

set_option maxRecDepth 16384

noncomputable section

namespace Cert.KernelIdeal.Gen

open Idealize.ShloMosaic Idealize.ShloMosaic.TcCoe Idealize.ShloMosaic.Tactic
open Idealize.SL.Sem
open Idealize.ShloMosaic.Pipeline (Dat Cfg Window BodyObligation cellOf)

variable {F : FTy → Type} [FloatOps F]
variable (V : (c : Dev nD) → (b : Ref sig .tc) → Buf (Elt F) ((c : Thread nD τ).loc b))

/-- What grid point `t` of call 0 adds. -/
def point0 (c : Dev nD) (t : Fin cfg0.N) : F .f32 :=
  Cert.Depth.pointSum 5 5 (by decide) (by decide) (Scalar.muli (Scalar.addi (BitVec.ofNat 32 ((grid0.coords t) 0).val) 0#32) 40#32)
      (iblk0 V c 0 t) (iblk0 V c 1 t) (iblk0 V c 2 t) (iblk0 V c 3 t) (iblk0 V c 4 t) (iblk0 V c 5 t) (iblk0 V c 6 t)

/-- Where call 0 leaves the two numbers. -/
abbrev cell0 : S1x2.Idx := Shape.Idx.first (by decide)
/-- The second of the two. -/
abbrev cell1 : S1x2.Idx := (Rect.unit (s := S1x2) ![0, 1] S1x1.size inb_S1x2_S1x1_0_1).emb (Shape.Idx.first (by decide))

set_option maxHeartbeats 4000000 in
/-- The one point of call 0 leaves its own sum over zero in the first cell and the poses' sum in the second. -/
theorem outs0 (c : Dev nD) (t : Fin cfg0.N) :
    outsAt0 V c t cell0 = Scalar.addf (Scalar.ofBits .f32 0x00000000#32) (point0 V c t) ∧
      outsAt0 V c t cell1 = Cert.Depth.poseSum (iblk0 V c 7 t) (iblk0 V c 8 t) := by
  unfold outsAt0
  unfold out0_A_9
  rw [View.read_writes_eq_canon _ _ _ (cover0_A_9 c _ _ _ _ _ _ _ _ _ _ _ _ _ _ _ _ _ _ _ _ _ _ _ _ _ _ _ _ _ _ _)]
  unfold kernelRun0_A
  dsimp only
  have e0 : cell0 = (Rect.unit (s := S1x2) ![0, 0] S1x1.size inb_S1x2_S1x1_0_0).emb (Shape.Idx.first (by decide)) := by
    funext a; revert a; decide
  constructor
  · rw [e0, View.canon_cons_emb]
    sl_unfold_words
    sl_unfold_words
    unfold k0_pay2
    dsimp only
    refine congrArg₂ Scalar.addf rfl ?_
    simp only [View.readAt_eq_ld, (hs0_0 t).read_unread, (hs0_1 t).read_unread, (hs0_2 t).read_unread, (hs0_3 t).read_unread, (hs0_4 t).read_unread, (hs0_5 t).read_unread, (hs0_6 t).read_unread]
    simp only [View.ld_unit_zero (S := S40x1920) zero_pair]
    simp only [View.ld_unit]
    unfold point0
    sl_kernel_rfl
  · rw [View.canon_cons_of_not_mem, View.canon_cons_emb]
    · sl_unfold_words
      sl_unfold_words
      simp only [View.readAt_eq_ld, (hs0_7 t).read_unread, (hs0_8 t).read_unread]
      sl_kernel_rfl
    · intro h
      have h1 := (Rect.mem_set_unit (inb := inb_S1x2_S1x1_0_0)).1 h (1 : Fin 2)
      exact absurd h1.2 (by decide)

end Cert.KernelIdeal.Gen
-- ==== Proof.Total0.lean ====
/- Call 0 of the kernel at the reals: its output after its 1 grid point. -/
module

public import proofs.«01_k».proof.Proof.Block0
public import proofs.«01_k».proof.Proof.Rows

@[expose] public section

set_option maxRecDepth 16384

noncomputable section

namespace Cert.KernelIdeal.Gen

open Idealize.ShloMosaic Idealize.ShloMosaic.TcCoe Idealize.ShloMosaic.Tactic
open Idealize.SL.Sem
open Idealize.ShloMosaic.ValueIdx
open Idealize.ShloMosaic.Pipeline (Dat Cfg Window BodyObligation cellOf)

/-- Where the blocks of call 0 lie, and the word of its first row. -/
theorem index0 : ∀ t : Fin cfg0.N, win0_1.index t = ![t.val + 0, 0] ∧ win0_4.index t = ![t.val + 0, 0] ∧ win0_6.index t = ![0, 0] ∧ win0_9.index t = ![0, 0] ∧
      Scalar.muli (Scalar.addi (BitVec.ofNat 32 ((grid0.coords t) 0).val) 0#32) 40#32 = BitVec.ofNat 32 (40 * (t.val + 0)) :=
  (by decide +kernel : ∀ t : Fin grid0.N, win0_1.index t = ![t.val + 0, 0] ∧ win0_4.index t = ![t.val + 0, 0] ∧ win0_6.index t = ![0, 0] ∧ win0_9.index t = ![0, 0] ∧
      Scalar.muli (Scalar.addi (BitVec.ofNat 32 ((grid0.coords t) 0).val) 0#32) 40#32 = BitVec.ofNat 32 (40 * (t.val + 0)))

variable (V : (c : Dev nD) → (b : Ref sig .tc) → Buf (Elt Ideal) ((c : Thread nD τ).loc b))

/-- What a grid point of call 0 adds, of real images: the squares over its block. -/
theorem gap0 (c : Dev nD) (dl dc : S1080x1920.Idx → ℝ) (K : S3x3.Idx → ℝ)
    (hl : V c main_arg0 = fun i => (dl i : EReal)) (hc : V c main_arg1 = fun i => (dc i : EReal)) (hK : Cert.Depth.Reads (V c main_arg2) K)
    (hfx : K (ix2 0 0) ≠ 0) (hfy : K (ix2 1 1) ≠ 0) (t : Fin cfg0.N) :
    point0 V c t = (Cert.Depth.blockGap dl dc (t.val + 0) : EReal) := by
  obtain ⟨e1, e4, e6, -, ew⟩ := index0 t
  have ht : t.val < 1 := Nat.lt_of_lt_of_eq t.isLt N_0
  have i0 : iblk0 V c 0 t = fun i => (dl (((cfg0.win 0).blk t).view.emb i) : EReal) := funext fun i => congrFun hl _
  have i1 : iblk0 V c 1 t = fun i => (dl (((cfg0.win 1).blk t).view.emb i) : EReal) := funext fun i => congrFun hl _
  have i2 : iblk0 V c 2 t = fun i => (dl (((cfg0.win 2).blk t).view.emb i) : EReal) := funext fun i => congrFun hl _
  have i3 : iblk0 V c 3 t = fun i => (dc (((cfg0.win 3).blk t).view.emb i) : EReal) := funext fun i => congrFun hc _
  have i4 : iblk0 V c 4 t = fun i => (dc (((cfg0.win 4).blk t).view.emb i) : EReal) := funext fun i => congrFun hc _
  have i5 : iblk0 V c 5 t = fun i => (dc (((cfg0.win 5).blk t).view.emb i) : EReal) := funext fun i => congrFun hc _
  have i6 : iblk0 V c 6 t = V c main_arg2 := funext fun i => congrArg (V c main_arg2) (funext fun a => Fin.ext (by
    refine (Pipeline.Window.rect_emb_val_off win0_6 t i a).trans ?_
    rw [e6]
    fin_cases a <;> exact Nat.zero_add _))
  unfold point0
  rw [ew, i0, i1, i2, i3, i4, i5, i6]
  refine Cert.Depth.point_gap 5 5 (t.val + 0) (by omega) _ _ dl dc _ K hK hfx hfy _ _ _ _ _ _ (fun i => ⟨?_, ?_⟩) (fun i => ⟨?_, ?_⟩)
  · refine (Pipeline.Window.rect_emb_val_off win0_1 t i 0).trans ?_
    rw [e1]; rfl
  · refine (Pipeline.Window.rect_emb_val_off win0_1 t i 1).trans ?_
    rw [e1]; exact Nat.zero_add _
  · refine (Pipeline.Window.rect_emb_val_off win0_4 t i 0).trans ?_
    rw [e4]; rfl
  · refine (Pipeline.Window.rect_emb_val_off win0_4 t i 1).trans ?_
    rw [e4]; exact Nat.zero_add _

/-- The one block of call 0's output is the whole output. -/
theorem place0 (t : Fin cfg0.N) (y : S1x2.Idx) : ((cfg0.win 9).blk t).view.emb y = y := by
  funext a
  refine Fin.ext ((Pipeline.Window.rect_emb_val_off win0_9 t y a).trans ?_)
  rw [(index0 t).2.2.2.1]
  fin_cases a <;> exact Nat.zero_add _

/-- The output of call 0 ends at what its one point leaves. -/
theorem final0 (c : Dev nD) : (dat0 V c).arrAt 9 cfg0.N = outsAt0 V c t0_0 := by
  refine (dat0 V c).arrAt_eq_of_cover 9 _ (fun t _ => ?_) fun i => ⟨t0_0, flush0_9 _, ?_⟩
  · have h1 : t.val < 1 := Nat.lt_of_lt_of_eq t.isLt N_0
    obtain rfl : t = t0_0 := Fin.ext (show t.val = 0 by omega)
    show (cfg0.win 9).cut (grid0.coords t0_0) ((dat0 V c).after 9 t0_0) = _
    rw [after0_9]
    exact funext fun y => (congrArg (outsAt0 V c t0_0) (place0 t0_0 y)).symm
  · have h := ((cfg0.win 9).blk t0_0).view.emb_mem_set i
    rw [place0 t0_0 i] at h
    exact h

/-- The output of call 0, of real images and poses: the squares over the first block, and the poses' term. -/
theorem total0 (c : Dev nD) (dl dc : S1080x1920.Idx → ℝ) (K : S3x3.Idx → ℝ)
    (hl : V c main_arg0 = fun i => (dl i : EReal)) (hc : V c main_arg1 = fun i => (dc i : EReal)) (hK : Cert.Depth.Reads (V c main_arg2) K)
    (hfx : K (ix2 0 0) ≠ 0) (hfy : K (ix2 1 1) ≠ 0)
    (pl pc : S4x4.Idx → ℝ) (h3 : V c main_arg3 = fun i => (pl i : EReal)) (h4 : V c main_arg4 = fun i => (pc i : EReal)) :
    (dat0 V c).arrAt 9 cfg0.N cell0 = (Cert.Depth.blockGap dl dc 0 : EReal) ∧
    (dat0 V c).arrAt 9 cfg0.N cell1 =
      ((∑ r : Fin 4, ∑ q : Fin 4, (pc (ix2 r q) - pl (ix2 r q)) * (pc (ix2 r q) - pl (ix2 r q)) : ℝ) : EReal) := by
  have e : ∀ t : Fin cfg0.N, win0_7.index t = ![0, 0] ∧ win0_8.index t = ![0, 0] :=
    (by decide +kernel : ∀ t : Fin grid0.N, win0_7.index t = ![0, 0] ∧ win0_8.index t = ![0, 0])
  obtain ⟨e7, e8⟩ := e t0_0
  have i7 : iblk0 V c 7 t0_0 = fun i => (pl i : EReal) := funext fun i => (congrFun h3 _).trans (congrArg (fun j => (pl j : EReal)) (funext fun a => Fin.ext (by
    refine (Pipeline.Window.rect_emb_val_off win0_7 t0_0 i a).trans ?_
    rw [e7]
    fin_cases a <;> exact Nat.zero_add _)))
  have i8 : iblk0 V c 8 t0_0 = fun i => (pc i : EReal) := funext fun i => (congrFun h4 _).trans (congrArg (fun j => (pc j : EReal)) (funext fun a => Fin.ext (by
    refine (Pipeline.Window.rect_emb_val_off win0_8 t0_0 i a).trans ?_
    rw [e8]
    fin_cases a <;> exact Nat.zero_add _)))
  rw [final0]
  refine ⟨(outs0 V c t0_0).1.trans ?_, (outs0 V c t0_0).2.trans ?_⟩
  · rw [gap0 V c dl dc K hl hc hK hfx hfy]
    show Ideal.ofBits .f32 0x00000000#32 + _ = _
    rw [Ideal.ofBits_zero_f32, zero_add]
    rfl
  · rw [i7, i8]
    exact Cert.Depth.poseSum_real pl pc

end Cert.KernelIdeal.Gen

end
-- ==== Proof.Block1.lean ====
/- What each grid point of call 1 leaves in its output, by the block function. -/
module

public import proofs.«01_k».proof.Proof.Gen.KernelIdeal.Frame.Region1
public import Idealize.ShloMosaic.Lib.Pipeline.Value
public import proofs.«01_k».proof.Proof.Model
public import proofs.«01_k».proof.Proof.Loads

@[expose] public section

set_option maxRecDepth 16384

noncomputable section

namespace Cert.KernelIdeal.Gen

open Idealize.ShloMosaic Idealize.ShloMosaic.TcCoe Idealize.ShloMosaic.Tactic
open Idealize.SL.Sem
open Idealize.ShloMosaic.Pipeline (Dat Cfg Window BodyObligation cellOf)

variable {F : FTy → Type} [FloatOps F]
variable (V : (c : Dev nD) → (b : Ref sig .tc) → Buf (Elt F) ((c : Thread nD τ).loc b))

/-- What grid point `t` of call 1 adds. -/
def point1 (c : Dev nD) (t : Fin cfg1.N) : F .f32 :=
  Cert.Depth.pointSum 4 4 (by decide) (by decide) (Scalar.muli (Scalar.addi (BitVec.ofNat 32 ((grid1.coords t) 0).val) 1#32) 40#32)
      (iblk1 V c 0 t) (iblk1 V c 1 t) (iblk1 V c 2 t) (iblk1 V c 3 t) (iblk1 V c 4 t) (iblk1 V c 5 t) (iblk1 V c 6 t)

/-- The first point of call 1 leaves its own sum over zero. -/
theorem outs1_A (c : Dev nD) (t : Fin cfg1.N) (h0 : t.val % 3 = 0) :
    outsAt1 V c t.val t.isLt = fun _ => Scalar.addf (Scalar.ofBits .f32 0x00000000#32) (point1 V c t) := by
  rw [outsAt1_A V c t h0]
  unfold out1_A_9
  rw [View.read_writes_eq_canon _ _ _ (cover1_A_9 c _ _ _ _ _ _ _ _ _ _ _ _ _ _ _ _ _ _ _ _ _ _ _ _ _ _ _ _ _ _ _)]
  unfold kernelRun1_A
  dsimp only
  sl_unfold_words
  sl_unfold_words
  rw [View.canon_cons_unit_zero zero_pair]
  funext y
  unfold k1_pay1
  dsimp only
  refine congrArg₂ Scalar.addf ?_ ?_
  · rfl
  simp only [View.readAt_eq_ld, (hs1_0 t).read_unread, (hs1_1 t).read_unread, (hs1_2 t).read_unread, (hs1_3 t).read_unread, (hs1_4 t).read_unread, (hs1_5 t).read_unread, (hs1_6 t).read_unread]
  simp only [View.ld_unit_zero (S := S40x1920) zero_pair]
  simp only [View.ld_unit]
  unfold point1
  sl_kernel_rfl

/-- A later point of call 1 adds its own sum to what the point before left. -/
theorem outs1_B (c : Dev nD) (t : Fin cfg1.N) (h0 : ¬t.val % 3 = 0) :
    outsAt1 V c t.val t.isLt = fun _ => Scalar.addf (outsAt1 V c (t.val - 1) (Nat.lt_of_le_of_lt (Nat.sub_le _ _) t.isLt) (Shape.Idx.first (by decide))) (point1 V c t) := by
  rw [outsAt1_B V c t h0]
  unfold out1_B_9
  rw [View.read_writes_eq_canon _ _ _ (cover1_B_9 c _ _ _ _ _ _ _ _ _ _ _ _ _ _ _ _ _ _ _ _ _ _ _ _ _ _ _ _ _ _ _ _)]
  unfold kernelRun1_B
  dsimp only
  sl_unfold_words
  sl_unfold_words
  rw [View.canon_cons_unit_zero zero_pair]
  funext y
  unfold k1_pay1
  dsimp only
  refine congrArg₂ Scalar.addf ?_ ?_
  · rw [load_all (hs1_9 t) _ _ _ zero_pair]
  simp only [View.readAt_eq_ld, (hs1_0 t).read_unread, (hs1_1 t).read_unread, (hs1_2 t).read_unread, (hs1_3 t).read_unread, (hs1_4 t).read_unread, (hs1_5 t).read_unread, (hs1_6 t).read_unread]
  simp only [View.ld_unit_zero (S := S40x1920) zero_pair]
  simp only [View.ld_unit]
  unfold point1
  sl_kernel_rfl

end Cert.KernelIdeal.Gen
-- ==== Proof.Total1.lean ====
/- Call 1 of the kernel at the reals: its output after its 3 grid points. -/
module

public import proofs.«01_k».proof.Proof.Block1
public import proofs.«01_k».proof.Proof.Rows

@[expose] public section

set_option maxRecDepth 16384

noncomputable section

namespace Cert.KernelIdeal.Gen

open Idealize.ShloMosaic Idealize.ShloMosaic.TcCoe Idealize.ShloMosaic.Tactic
open Idealize.SL.Sem
open Idealize.ShloMosaic.ValueIdx
open Idealize.ShloMosaic.Pipeline (Dat Cfg Window BodyObligation cellOf)

/-- Where the blocks of call 1 lie, and the word of its first row. -/
theorem index1 : ∀ t : Fin cfg1.N, win1_1.index t = ![t.val + 1, 0] ∧ win1_4.index t = ![t.val + 1, 0] ∧ win1_6.index t = ![0, 0] ∧ win1_9.index t = ![0, 0] ∧
      Scalar.muli (Scalar.addi (BitVec.ofNat 32 ((grid1.coords t) 0).val) 1#32) 40#32 = BitVec.ofNat 32 (40 * (t.val + 1)) :=
  (by decide +kernel : ∀ t : Fin grid1.N, win1_1.index t = ![t.val + 1, 0] ∧ win1_4.index t = ![t.val + 1, 0] ∧ win1_6.index t = ![0, 0] ∧ win1_9.index t = ![0, 0] ∧
      Scalar.muli (Scalar.addi (BitVec.ofNat 32 ((grid1.coords t) 0).val) 1#32) 40#32 = BitVec.ofNat 32 (40 * (t.val + 1)))

variable (V : (c : Dev nD) → (b : Ref sig .tc) → Buf (Elt Ideal) ((c : Thread nD τ).loc b))

/-- What a grid point of call 1 adds, of real images: the squares over its block. -/
theorem gap1 (c : Dev nD) (dl dc : S1080x1920.Idx → ℝ) (K : S3x3.Idx → ℝ)
    (hl : V c main_arg0 = fun i => (dl i : EReal)) (hc : V c main_arg1 = fun i => (dc i : EReal)) (hK : Cert.Depth.Reads (V c main_arg2) K)
    (hfx : K (ix2 0 0) ≠ 0) (hfy : K (ix2 1 1) ≠ 0) (t : Fin cfg1.N) :
    point1 V c t = (Cert.Depth.blockGap dl dc (t.val + 1) : EReal) := by
  obtain ⟨e1, e4, e6, -, ew⟩ := index1 t
  have ht : t.val < 3 := Nat.lt_of_lt_of_eq t.isLt N_1
  have i0 : iblk1 V c 0 t = fun i => (dl (((cfg1.win 0).blk t).view.emb i) : EReal) := funext fun i => congrFun hl _
  have i1 : iblk1 V c 1 t = fun i => (dl (((cfg1.win 1).blk t).view.emb i) : EReal) := funext fun i => congrFun hl _
  have i2 : iblk1 V c 2 t = fun i => (dl (((cfg1.win 2).blk t).view.emb i) : EReal) := funext fun i => congrFun hl _
  have i3 : iblk1 V c 3 t = fun i => (dc (((cfg1.win 3).blk t).view.emb i) : EReal) := funext fun i => congrFun hc _
  have i4 : iblk1 V c 4 t = fun i => (dc (((cfg1.win 4).blk t).view.emb i) : EReal) := funext fun i => congrFun hc _
  have i5 : iblk1 V c 5 t = fun i => (dc (((cfg1.win 5).blk t).view.emb i) : EReal) := funext fun i => congrFun hc _
  have i6 : iblk1 V c 6 t = V c main_arg2 := funext fun i => congrArg (V c main_arg2) (funext fun a => Fin.ext (by
    refine (Pipeline.Window.rect_emb_val_off win1_6 t i a).trans ?_
    rw [e6]
    fin_cases a <;> exact Nat.zero_add _))
  unfold point1
  rw [ew, i0, i1, i2, i3, i4, i5, i6]
  refine Cert.Depth.point_gap 4 4 (t.val + 1) (by omega) _ _ dl dc _ K hK hfx hfy _ _ _ _ _ _ (fun i => ⟨?_, ?_⟩) (fun i => ⟨?_, ?_⟩)
  · refine (Pipeline.Window.rect_emb_val_off win1_1 t i 0).trans ?_
    rw [e1]; rfl
  · refine (Pipeline.Window.rect_emb_val_off win1_1 t i 1).trans ?_
    rw [e1]; exact Nat.zero_add _
  · refine (Pipeline.Window.rect_emb_val_off win1_4 t i 0).trans ?_
    rw [e4]; rfl
  · refine (Pipeline.Window.rect_emb_val_off win1_4 t i 1).trans ?_
    rw [e4]; exact Nat.zero_add _

/-- The one block of call 1's output is the whole output. -/
theorem place1 (t : Fin cfg1.N) (y : S1x1.Idx) : ((cfg1.win 9).blk t).view.emb y = y := by
  funext a
  refine Fin.ext ((Pipeline.Window.rect_emb_val_off win1_9 t y a).trans ?_)
  rw [(index1 t).2.2.2.1]
  fin_cases a <;> exact Nat.zero_add _

/-- The output of call 1 ends at what its last point leaves. -/
theorem final1 (c : Dev nD) : (dat1 V c).arrAt 9 cfg1.N = outsAt1 V c 2 (by decide) := by
  refine (dat1 V c).arrAt_eq_of_cover 9 _ (fun t ht => ?_) fun i => ⟨⟨2, by decide⟩, (flush1_9 _).2 (by decide), ?_⟩
  · have ht' := (flush1_9 t).1 ht
    have hn : t.val < 3 := Nat.lt_of_lt_of_eq t.isLt N_1
    obtain rfl : t = ⟨2, by decide⟩ := Fin.ext (by dsimp only; omega)
    show (cfg1.win 9).cut (grid1.coords ⟨2, _⟩) ((dat1 V c).after 9 ⟨2, _⟩) = _
    rw [after1_9]
    exact funext fun y => (congrArg (outsAt1 V c 2 (by decide)) (place1 ⟨2, by decide⟩ y)).symm
  · have h := ((cfg1.win 9).blk ⟨2, by decide⟩).view.emb_mem_set i
    rw [place1 ⟨2, by decide⟩ i] at h
    exact h

/-- The output of call 1, of real images: the squares over its blocks. -/
theorem total1 (c : Dev nD) (dl dc : S1080x1920.Idx → ℝ) (K : S3x3.Idx → ℝ)
    (hl : V c main_arg0 = fun i => (dl i : EReal)) (hc : V c main_arg1 = fun i => (dc i : EReal)) (hK : Cert.Depth.Reads (V c main_arg2) K)
    (hfx : K (ix2 0 0) ≠ 0) (hfy : K (ix2 1 1) ≠ 0) :
    (dat1 V c).arrAt 9 cfg1.N = fun _ => ((∑ k ∈ Finset.range 3, Cert.Depth.blockGap dl dc (k + 1) : ℝ) : EReal) := by
  rw [final1]
  exact Cert.Depth.running (fun n h => outsAt1 V c n h) (point1 V c) (fun k => Cert.Depth.blockGap dl dc (k + 1)) (Shape.Idx.first (by decide))
    (gap1 V c dl dc K hl hc hK hfx hfy) (fun h => outs1_A V c ⟨0, h⟩ rfl)
    (fun n h => outs1_B V c ⟨n + 1, h⟩ (by have := Nat.lt_of_lt_of_eq h N_1; dsimp only; omega)) 2 (by decide)

end Cert.KernelIdeal.Gen

end
-- ==== Proof.Block2.lean ====
/- What each grid point of call 2 leaves in its output, by the block function. -/
module

public import proofs.«01_k».proof.Proof.Gen.KernelIdeal.Frame.Region2
public import Idealize.ShloMosaic.Lib.Pipeline.Value
public import proofs.«01_k».proof.Proof.Model
public import proofs.«01_k».proof.Proof.Loads

@[expose] public section

set_option maxRecDepth 16384

noncomputable section

namespace Cert.KernelIdeal.Gen

open Idealize.ShloMosaic Idealize.ShloMosaic.TcCoe Idealize.ShloMosaic.Tactic
open Idealize.SL.Sem
open Idealize.ShloMosaic.Pipeline (Dat Cfg Window BodyObligation cellOf)

variable {F : FTy → Type} [FloatOps F]
variable (V : (c : Dev nD) → (b : Ref sig .tc) → Buf (Elt F) ((c : Thread nD τ).loc b))

/-- What grid point `t` of call 2 adds. -/
def point2 (c : Dev nD) (t : Fin cfg2.N) : F .f32 :=
  Cert.Depth.pointSum 3 3 (by decide) (by decide) (Scalar.muli (Scalar.addi (BitVec.ofNat 32 ((grid2.coords t) 0).val) 4#32) 40#32)
      (iblk2 V c 0 t) (iblk2 V c 1 t) (iblk2 V c 2 t) (iblk2 V c 3 t) (iblk2 V c 4 t) (iblk2 V c 5 t) (iblk2 V c 6 t)

set_option maxHeartbeats 4000000 in
/-- The first point of call 2 leaves its own sum over zero. -/
theorem outs2_A (c : Dev nD) (t : Fin cfg2.N) (h0 : t.val % 4 = 0) :
    outsAt2 V c t.val t.isLt = fun _ => Scalar.addf (Scalar.ofBits .f32 0x00000000#32) (point2 V c t) := by
  rw [outsAt2_A V c t h0]
  unfold out2_A_9
  rw [View.read_writes_eq_canon _ _ _ (cover2_A_9 c _ _ _ _ _ _ _ _ _ _ _ _ _ _ _ _ _ _ _ _ _ _ _ _ _ _ _ _ _ _ _)]
  unfold kernelRun2_A
  dsimp only
  sl_unfold_words
  sl_unfold_words
  rw [View.canon_cons_unit_zero zero_pair]
  funext y
  unfold k2_pay1
  dsimp only
  refine congrArg₂ Scalar.addf ?_ ?_
  · rfl
  rw [load_block (hs2_0 t), load_all (hs2_1 t) _ _ _ zero_pair, load_block (hs2_2 t), load_block (hs2_3 t),
    load_all (hs2_4 t) _ _ _ zero_pair, load_block (hs2_5 t), load_block (hs2_6 t), load_block (hs2_6 t), load_block (hs2_6 t),
    load_block (hs2_6 t)]
  unfold point2
  sl_kernel_rfl

set_option maxHeartbeats 4000000 in
/-- A later point of call 2 adds its own sum to what the point before left. -/
theorem outs2_B (c : Dev nD) (t : Fin cfg2.N) (h0 : ¬t.val % 4 = 0) :
    outsAt2 V c t.val t.isLt = fun _ => Scalar.addf (outsAt2 V c (t.val - 1) (Nat.lt_of_le_of_lt (Nat.sub_le _ _) t.isLt) (Shape.Idx.first (by decide))) (point2 V c t) := by
  rw [outsAt2_B V c t h0]
  unfold out2_B_9
  rw [View.read_writes_eq_canon _ _ _ (cover2_B_9 c _ _ _ _ _ _ _ _ _ _ _ _ _ _ _ _ _ _ _ _ _ _ _ _ _ _ _ _ _ _ _ _)]
  unfold kernelRun2_B
  dsimp only
  sl_unfold_words
  sl_unfold_words
  rw [View.canon_cons_unit_zero zero_pair]
  funext y
  unfold k2_pay1
  dsimp only
  refine congrArg₂ Scalar.addf ?_ ?_
  · rw [load_all (hs2_9 t) _ _ _ zero_pair]
  rw [load_block (hs2_0 t), load_all (hs2_1 t) _ _ _ zero_pair, load_block (hs2_2 t), load_block (hs2_3 t),
    load_all (hs2_4 t) _ _ _ zero_pair, load_block (hs2_5 t), load_block (hs2_6 t), load_block (hs2_6 t), load_block (hs2_6 t),
    load_block (hs2_6 t)]
  unfold point2
  sl_kernel_rfl

end Cert.KernelIdeal.Gen
-- ==== Proof.Total2.lean ====
/- Call 2 of the kernel at the reals: its output after its 4 grid points. -/
module

public import proofs.«01_k».proof.Proof.Block2
public import proofs.«01_k».proof.Proof.Rows

@[expose] public section

set_option maxRecDepth 16384

noncomputable section

namespace Cert.KernelIdeal.Gen

open Idealize.ShloMosaic Idealize.ShloMosaic.TcCoe Idealize.ShloMosaic.Tactic
open Idealize.SL.Sem
open Idealize.ShloMosaic.ValueIdx
open Idealize.ShloMosaic.Pipeline (Dat Cfg Window BodyObligation cellOf)

/-- Where the blocks of call 2 lie, and the word of its first row. -/
theorem index2 : ∀ t : Fin cfg2.N, win2_1.index t = ![t.val + 4, 0] ∧ win2_4.index t = ![t.val + 4, 0] ∧ win2_6.index t = ![0, 0] ∧ win2_9.index t = ![0, 0] ∧
      Scalar.muli (Scalar.addi (BitVec.ofNat 32 ((grid2.coords t) 0).val) 4#32) 40#32 = BitVec.ofNat 32 (40 * (t.val + 4)) :=
  (by decide +kernel : ∀ t : Fin grid2.N, win2_1.index t = ![t.val + 4, 0] ∧ win2_4.index t = ![t.val + 4, 0] ∧ win2_6.index t = ![0, 0] ∧ win2_9.index t = ![0, 0] ∧
      Scalar.muli (Scalar.addi (BitVec.ofNat 32 ((grid2.coords t) 0).val) 4#32) 40#32 = BitVec.ofNat 32 (40 * (t.val + 4)))

variable (V : (c : Dev nD) → (b : Ref sig .tc) → Buf (Elt Ideal) ((c : Thread nD τ).loc b))

/-- What a grid point of call 2 adds, of real images: the squares over its block. -/
theorem gap2 (c : Dev nD) (dl dc : S1080x1920.Idx → ℝ) (K : S3x3.Idx → ℝ)
    (hl : V c main_arg0 = fun i => (dl i : EReal)) (hc : V c main_arg1 = fun i => (dc i : EReal)) (hK : Cert.Depth.Reads (V c main_arg2) K)
    (hfx : K (ix2 0 0) ≠ 0) (hfy : K (ix2 1 1) ≠ 0) (t : Fin cfg2.N) :
    point2 V c t = (Cert.Depth.blockGap dl dc (t.val + 4) : EReal) := by
  obtain ⟨e1, e4, e6, -, ew⟩ := index2 t
  have ht : t.val < 4 := Nat.lt_of_lt_of_eq t.isLt N_2
  have i0 : iblk2 V c 0 t = fun i => (dl (((cfg2.win 0).blk t).view.emb i) : EReal) := funext fun i => congrFun hl _
  have i1 : iblk2 V c 1 t = fun i => (dl (((cfg2.win 1).blk t).view.emb i) : EReal) := funext fun i => congrFun hl _
  have i2 : iblk2 V c 2 t = fun i => (dl (((cfg2.win 2).blk t).view.emb i) : EReal) := funext fun i => congrFun hl _
  have i3 : iblk2 V c 3 t = fun i => (dc (((cfg2.win 3).blk t).view.emb i) : EReal) := funext fun i => congrFun hc _
  have i4 : iblk2 V c 4 t = fun i => (dc (((cfg2.win 4).blk t).view.emb i) : EReal) := funext fun i => congrFun hc _
  have i5 : iblk2 V c 5 t = fun i => (dc (((cfg2.win 5).blk t).view.emb i) : EReal) := funext fun i => congrFun hc _
  have i6 : iblk2 V c 6 t = V c main_arg2 := funext fun i => congrArg (V c main_arg2) (funext fun a => Fin.ext (by
    refine (Pipeline.Window.rect_emb_val_off win2_6 t i a).trans ?_
    rw [e6]
    fin_cases a <;> exact Nat.zero_add _))
  unfold point2
  rw [ew, i0, i1, i2, i3, i4, i5, i6]
  refine Cert.Depth.point_gap 3 3 (t.val + 4) (by omega) _ _ dl dc _ K hK hfx hfy _ _ _ _ _ _ (fun i => ⟨?_, ?_⟩) (fun i => ⟨?_, ?_⟩)
  · refine (Pipeline.Window.rect_emb_val_off win2_1 t i 0).trans ?_
    rw [e1]; rfl
  · refine (Pipeline.Window.rect_emb_val_off win2_1 t i 1).trans ?_
    rw [e1]; exact Nat.zero_add _
  · refine (Pipeline.Window.rect_emb_val_off win2_4 t i 0).trans ?_
    rw [e4]; rfl
  · refine (Pipeline.Window.rect_emb_val_off win2_4 t i 1).trans ?_
    rw [e4]; exact Nat.zero_add _

/-- The one block of call 2's output is the whole output. -/
theorem place2 (t : Fin cfg2.N) (y : S1x1.Idx) : ((cfg2.win 9).blk t).view.emb y = y := by
  funext a
  refine Fin.ext ((Pipeline.Window.rect_emb_val_off win2_9 t y a).trans ?_)
  rw [(index2 t).2.2.2.1]
  fin_cases a <;> exact Nat.zero_add _

/-- The output of call 2 ends at what its last point leaves. -/
theorem final2 (c : Dev nD) : (dat2 V c).arrAt 9 cfg2.N = outsAt2 V c 3 (by decide) := by
  refine (dat2 V c).arrAt_eq_of_cover 9 _ (fun t ht => ?_) fun i => ⟨⟨3, by decide⟩, (flush2_9 _).2 (by decide), ?_⟩
  · have ht' := (flush2_9 t).1 ht
    have hn : t.val < 4 := Nat.lt_of_lt_of_eq t.isLt N_2
    obtain rfl : t = ⟨3, by decide⟩ := Fin.ext (by dsimp only; omega)
    show (cfg2.win 9).cut (grid2.coords ⟨3, _⟩) ((dat2 V c).after 9 ⟨3, _⟩) = _
    rw [after2_9]
    exact funext fun y => (congrArg (outsAt2 V c 3 (by decide)) (place2 ⟨3, by decide⟩ y)).symm
  · have h := ((cfg2.win 9).blk ⟨3, by decide⟩).view.emb_mem_set i
    rw [place2 ⟨3, by decide⟩ i] at h
    exact h

/-- The output of call 2, of real images: the squares over its blocks. -/
theorem total2 (c : Dev nD) (dl dc : S1080x1920.Idx → ℝ) (K : S3x3.Idx → ℝ)
    (hl : V c main_arg0 = fun i => (dl i : EReal)) (hc : V c main_arg1 = fun i => (dc i : EReal)) (hK : Cert.Depth.Reads (V c main_arg2) K)
    (hfx : K (ix2 0 0) ≠ 0) (hfy : K (ix2 1 1) ≠ 0) :
    (dat2 V c).arrAt 9 cfg2.N = fun _ => ((∑ k ∈ Finset.range 4, Cert.Depth.blockGap dl dc (k + 4) : ℝ) : EReal) := by
  rw [final2]
  exact Cert.Depth.running (fun n h => outsAt2 V c n h) (point2 V c) (fun k => Cert.Depth.blockGap dl dc (k + 4)) (Shape.Idx.first (by decide))
    (gap2 V c dl dc K hl hc hK hfx hfy) (fun h => outs2_A V c ⟨0, h⟩ rfl)
    (fun n h => outs2_B V c ⟨n + 1, h⟩ (by have := Nat.lt_of_lt_of_eq h N_2; dsimp only; omega)) 3 (by decide)

end Cert.KernelIdeal.Gen

end
-- ==== Proof.Block3.lean ====
/- What each grid point of call 3 leaves in its output, by the block function. -/
module

public import proofs.«01_k».proof.Proof.Gen.KernelIdeal.Frame.Region3
public import Idealize.ShloMosaic.Lib.Pipeline.Value
public import proofs.«01_k».proof.Proof.Model
public import proofs.«01_k».proof.Proof.Loads

@[expose] public section

set_option maxRecDepth 16384

noncomputable section

namespace Cert.KernelIdeal.Gen

open Idealize.ShloMosaic Idealize.ShloMosaic.TcCoe Idealize.ShloMosaic.Tactic
open Idealize.SL.Sem
open Idealize.ShloMosaic.Pipeline (Dat Cfg Window BodyObligation cellOf)

variable {F : FTy → Type} [FloatOps F]
variable (V : (c : Dev nD) → (b : Ref sig .tc) → Buf (Elt F) ((c : Thread nD τ).loc b))

/-- What grid point `t` of call 3 adds. -/
def point3 (c : Dev nD) (t : Fin cfg3.N) : F .f32 :=
  Cert.Depth.pointSum 2 2 (by decide) (by decide) (Scalar.muli (Scalar.addi (BitVec.ofNat 32 ((grid3.coords t) 0).val) 8#32) 40#32)
      (iblk3 V c 0 t) (iblk3 V c 1 t) (iblk3 V c 2 t) (iblk3 V c 3 t) (iblk3 V c 4 t) (iblk3 V c 5 t) (iblk3 V c 6 t)

/-- The first point of call 3 leaves its own sum over zero. -/
theorem outs3_A (c : Dev nD) (t : Fin cfg3.N) (h0 : t.val % 3 = 0) :
    outsAt3 V c t.val t.isLt = fun _ => Scalar.addf (Scalar.ofBits .f32 0x00000000#32) (point3 V c t) := by
  rw [outsAt3_A V c t h0]
  unfold out3_A_9
  rw [View.read_writes_eq_canon _ _ _ (cover3_A_9 c _ _ _ _ _ _ _ _ _ _ _ _ _ _ _ _ _ _ _ _ _ _ _ _ _ _ _ _ _ _ _)]
  unfold kernelRun3_A
  dsimp only
  sl_unfold_words
  sl_unfold_words
  rw [View.canon_cons_unit_zero zero_pair]
  funext y
  unfold k3_pay1
  dsimp only
  refine congrArg₂ Scalar.addf ?_ ?_
  · rfl
  simp only [View.readAt_eq_ld, (hs3_0 t).read_unread, (hs3_1 t).read_unread, (hs3_2 t).read_unread, (hs3_3 t).read_unread, (hs3_4 t).read_unread, (hs3_5 t).read_unread, (hs3_6 t).read_unread]
  simp only [View.ld_unit_zero (S := S40x1920) zero_pair]
  simp only [View.ld_unit]
  unfold point3
  sl_kernel_rfl

/-- A later point of call 3 adds its own sum to what the point before left. -/
theorem outs3_B (c : Dev nD) (t : Fin cfg3.N) (h0 : ¬t.val % 3 = 0) :
    outsAt3 V c t.val t.isLt = fun _ => Scalar.addf (outsAt3 V c (t.val - 1) (Nat.lt_of_le_of_lt (Nat.sub_le _ _) t.isLt) (Shape.Idx.first (by decide))) (point3 V c t) := by
  rw [outsAt3_B V c t h0]
  unfold out3_B_9
  rw [View.read_writes_eq_canon _ _ _ (cover3_B_9 c _ _ _ _ _ _ _ _ _ _ _ _ _ _ _ _ _ _ _ _ _ _ _ _ _ _ _ _ _ _ _ _)]
  unfold kernelRun3_B
  dsimp only
  sl_unfold_words
  sl_unfold_words
  rw [View.canon_cons_unit_zero zero_pair]
  funext y
  unfold k3_pay1
  dsimp only
  refine congrArg₂ Scalar.addf ?_ ?_
  · rw [load_all (hs3_9 t) _ _ _ zero_pair]
  simp only [View.readAt_eq_ld, (hs3_0 t).read_unread, (hs3_1 t).read_unread, (hs3_2 t).read_unread, (hs3_3 t).read_unread, (hs3_4 t).read_unread, (hs3_5 t).read_unread, (hs3_6 t).read_unread]
  simp only [View.ld_unit_zero (S := S40x1920) zero_pair]
  simp only [View.ld_unit]
  unfold point3
  sl_kernel_rfl

end Cert.KernelIdeal.Gen
-- ==== Proof.Total3.lean ====
/- Call 3 of the kernel at the reals: its output after its 3 grid points. -/
module

public import proofs.«01_k».proof.Proof.Block3
public import proofs.«01_k».proof.Proof.Rows

@[expose] public section

set_option maxRecDepth 16384

noncomputable section

namespace Cert.KernelIdeal.Gen

open Idealize.ShloMosaic Idealize.ShloMosaic.TcCoe Idealize.ShloMosaic.Tactic
open Idealize.SL.Sem
open Idealize.ShloMosaic.ValueIdx
open Idealize.ShloMosaic.Pipeline (Dat Cfg Window BodyObligation cellOf)

/-- Where the blocks of call 3 lie, and the word of its first row. -/
theorem index3 : ∀ t : Fin cfg3.N, win3_1.index t = ![t.val + 8, 0] ∧ win3_4.index t = ![t.val + 8, 0] ∧ win3_6.index t = ![0, 0] ∧ win3_9.index t = ![0, 0] ∧
      Scalar.muli (Scalar.addi (BitVec.ofNat 32 ((grid3.coords t) 0).val) 8#32) 40#32 = BitVec.ofNat 32 (40 * (t.val + 8)) :=
  (by decide +kernel : ∀ t : Fin grid3.N, win3_1.index t = ![t.val + 8, 0] ∧ win3_4.index t = ![t.val + 8, 0] ∧ win3_6.index t = ![0, 0] ∧ win3_9.index t = ![0, 0] ∧
      Scalar.muli (Scalar.addi (BitVec.ofNat 32 ((grid3.coords t) 0).val) 8#32) 40#32 = BitVec.ofNat 32 (40 * (t.val + 8)))

variable (V : (c : Dev nD) → (b : Ref sig .tc) → Buf (Elt Ideal) ((c : Thread nD τ).loc b))

/-- What a grid point of call 3 adds, of real images: the squares over its block. -/
theorem gap3 (c : Dev nD) (dl dc : S1080x1920.Idx → ℝ) (K : S3x3.Idx → ℝ)
    (hl : V c main_arg0 = fun i => (dl i : EReal)) (hc : V c main_arg1 = fun i => (dc i : EReal)) (hK : Cert.Depth.Reads (V c main_arg2) K)
    (hfx : K (ix2 0 0) ≠ 0) (hfy : K (ix2 1 1) ≠ 0) (t : Fin cfg3.N) :
    point3 V c t = (Cert.Depth.blockGap dl dc (t.val + 8) : EReal) := by
  obtain ⟨e1, e4, e6, -, ew⟩ := index3 t
  have ht : t.val < 3 := Nat.lt_of_lt_of_eq t.isLt N_3
  have i0 : iblk3 V c 0 t = fun i => (dl (((cfg3.win 0).blk t).view.emb i) : EReal) := funext fun i => congrFun hl _
  have i1 : iblk3 V c 1 t = fun i => (dl (((cfg3.win 1).blk t).view.emb i) : EReal) := funext fun i => congrFun hl _
  have i2 : iblk3 V c 2 t = fun i => (dl (((cfg3.win 2).blk t).view.emb i) : EReal) := funext fun i => congrFun hl _
  have i3 : iblk3 V c 3 t = fun i => (dc (((cfg3.win 3).blk t).view.emb i) : EReal) := funext fun i => congrFun hc _
  have i4 : iblk3 V c 4 t = fun i => (dc (((cfg3.win 4).blk t).view.emb i) : EReal) := funext fun i => congrFun hc _
  have i5 : iblk3 V c 5 t = fun i => (dc (((cfg3.win 5).blk t).view.emb i) : EReal) := funext fun i => congrFun hc _
  have i6 : iblk3 V c 6 t = V c main_arg2 := funext fun i => congrArg (V c main_arg2) (funext fun a => Fin.ext (by
    refine (Pipeline.Window.rect_emb_val_off win3_6 t i a).trans ?_
    rw [e6]
    fin_cases a <;> exact Nat.zero_add _))
  unfold point3
  rw [ew, i0, i1, i2, i3, i4, i5, i6]
  refine Cert.Depth.point_gap 2 2 (t.val + 8) (by omega) _ _ dl dc _ K hK hfx hfy _ _ _ _ _ _ (fun i => ⟨?_, ?_⟩) (fun i => ⟨?_, ?_⟩)
  · refine (Pipeline.Window.rect_emb_val_off win3_1 t i 0).trans ?_
    rw [e1]; rfl
  · refine (Pipeline.Window.rect_emb_val_off win3_1 t i 1).trans ?_
    rw [e1]; exact Nat.zero_add _
  · refine (Pipeline.Window.rect_emb_val_off win3_4 t i 0).trans ?_
    rw [e4]; rfl
  · refine (Pipeline.Window.rect_emb_val_off win3_4 t i 1).trans ?_
    rw [e4]; exact Nat.zero_add _

/-- The one block of call 3's output is the whole output. -/
theorem place3 (t : Fin cfg3.N) (y : S1x1.Idx) : ((cfg3.win 9).blk t).view.emb y = y := by
  funext a
  refine Fin.ext ((Pipeline.Window.rect_emb_val_off win3_9 t y a).trans ?_)
  rw [(index3 t).2.2.2.1]
  fin_cases a <;> exact Nat.zero_add _

/-- The output of call 3 ends at what its last point leaves. -/
theorem final3 (c : Dev nD) : (dat3 V c).arrAt 9 cfg3.N = outsAt3 V c 2 (by decide) := by
  refine (dat3 V c).arrAt_eq_of_cover 9 _ (fun t ht => ?_) fun i => ⟨⟨2, by decide⟩, (flush3_9 _).2 (by decide), ?_⟩
  · have ht' := (flush3_9 t).1 ht
    have hn : t.val < 3 := Nat.lt_of_lt_of_eq t.isLt N_3
    obtain rfl : t = ⟨2, by decide⟩ := Fin.ext (by dsimp only; omega)
    show (cfg3.win 9).cut (grid3.coords ⟨2, _⟩) ((dat3 V c).after 9 ⟨2, _⟩) = _
    rw [after3_9]
    exact funext fun y => (congrArg (outsAt3 V c 2 (by decide)) (place3 ⟨2, by decide⟩ y)).symm
  · have h := ((cfg3.win 9).blk ⟨2, by decide⟩).view.emb_mem_set i
    rw [place3 ⟨2, by decide⟩ i] at h
    exact h

/-- The output of call 3, of real images: the squares over its blocks. -/
theorem total3 (c : Dev nD) (dl dc : S1080x1920.Idx → ℝ) (K : S3x3.Idx → ℝ)
    (hl : V c main_arg0 = fun i => (dl i : EReal)) (hc : V c main_arg1 = fun i => (dc i : EReal)) (hK : Cert.Depth.Reads (V c main_arg2) K)
    (hfx : K (ix2 0 0) ≠ 0) (hfy : K (ix2 1 1) ≠ 0) :
    (dat3 V c).arrAt 9 cfg3.N = fun _ => ((∑ k ∈ Finset.range 3, Cert.Depth.blockGap dl dc (k + 8) : ℝ) : EReal) := by
  rw [final3]
  exact Cert.Depth.running (fun n h => outsAt3 V c n h) (point3 V c) (fun k => Cert.Depth.blockGap dl dc (k + 8)) (Shape.Idx.first (by decide))
    (gap3 V c dl dc K hl hc hK hfx hfy) (fun h => outs3_A V c ⟨0, h⟩ rfl)
    (fun n h => outs3_B V c ⟨n + 1, h⟩ (by have := Nat.lt_of_lt_of_eq h N_3; dsimp only; omega)) 2 (by decide)

end Cert.KernelIdeal.Gen

end
-- ==== Proof.Block4.lean ====
/- What each grid point of call 4 leaves in its output, by the block function. -/
module

public import proofs.«01_k».proof.Proof.Gen.KernelIdeal.Frame.Region4
public import Idealize.ShloMosaic.Lib.Pipeline.Value
public import proofs.«01_k».proof.Proof.Model
public import proofs.«01_k».proof.Proof.Loads

@[expose] public section

set_option maxRecDepth 16384

noncomputable section

namespace Cert.KernelIdeal.Gen

open Idealize.ShloMosaic Idealize.ShloMosaic.TcCoe Idealize.ShloMosaic.Tactic
open Idealize.SL.Sem
open Idealize.ShloMosaic.Pipeline (Dat Cfg Window BodyObligation cellOf)

variable {F : FTy → Type} [FloatOps F]
variable (V : (c : Dev nD) → (b : Ref sig .tc) → Buf (Elt F) ((c : Thread nD τ).loc b))

/-- What grid point `t` of call 4 adds. -/
def point4 (c : Dev nD) (t : Fin cfg4.N) : F .f32 :=
  Cert.Depth.pointSum 1 1 (by decide) (by decide) (Scalar.muli (Scalar.addi (BitVec.ofNat 32 ((grid4.coords t) 0).val) 11#32) 40#32)
      (iblk4 V c 0 t) (iblk4 V c 1 t) (iblk4 V c 2 t) (iblk4 V c 3 t) (iblk4 V c 4 t) (iblk4 V c 5 t) (iblk4 V c 6 t)

/-- The first point of call 4 leaves its own sum over zero. -/
theorem outs4_A (c : Dev nD) (t : Fin cfg4.N) (h0 : t.val % 5 = 0) :
    outsAt4 V c t.val t.isLt = fun _ => Scalar.addf (Scalar.ofBits .f32 0x00000000#32) (point4 V c t) := by
  rw [outsAt4_A V c t h0]
  unfold out4_A_9
  rw [View.read_writes_eq_canon _ _ _ (cover4_A_9 c _ _ _ _ _ _ _ _ _ _ _ _ _ _ _ _ _ _ _ _ _ _ _ _ _ _ _ _ _ _ _)]
  unfold kernelRun4_A
  dsimp only
  sl_unfold_words
  sl_unfold_words
  rw [View.canon_cons_unit_zero zero_pair]
  funext y
  unfold k4_pay1
  dsimp only
  refine congrArg₂ Scalar.addf ?_ ?_
  · rfl
  simp only [View.readAt_eq_ld, (hs4_0 t).read_unread, (hs4_1 t).read_unread, (hs4_2 t).read_unread, (hs4_3 t).read_unread, (hs4_4 t).read_unread, (hs4_5 t).read_unread, (hs4_6 t).read_unread]
  simp only [View.ld_unit_zero (S := S40x1920) zero_pair]
  simp only [View.ld_unit]
  unfold point4
  sl_kernel_rfl

/-- A later point of call 4 adds its own sum to what the point before left. -/
theorem outs4_B (c : Dev nD) (t : Fin cfg4.N) (h0 : ¬t.val % 5 = 0) :
    outsAt4 V c t.val t.isLt = fun _ => Scalar.addf (outsAt4 V c (t.val - 1) (Nat.lt_of_le_of_lt (Nat.sub_le _ _) t.isLt) (Shape.Idx.first (by decide))) (point4 V c t) := by
  rw [outsAt4_B V c t h0]
  unfold out4_B_9
  rw [View.read_writes_eq_canon _ _ _ (cover4_B_9 c _ _ _ _ _ _ _ _ _ _ _ _ _ _ _ _ _ _ _ _ _ _ _ _ _ _ _ _ _ _ _ _)]
  unfold kernelRun4_B
  dsimp only
  sl_unfold_words
  sl_unfold_words
  rw [View.canon_cons_unit_zero zero_pair]
  funext y
  unfold k4_pay1
  dsimp only
  refine congrArg₂ Scalar.addf ?_ ?_
  · rw [load_all (hs4_9 t) _ _ _ zero_pair]
  simp only [View.readAt_eq_ld, (hs4_0 t).read_unread, (hs4_1 t).read_unread, (hs4_2 t).read_unread, (hs4_3 t).read_unread, (hs4_4 t).read_unread, (hs4_5 t).read_unread, (hs4_6 t).read_unread]
  simp only [View.ld_unit_zero (S := S40x1920) zero_pair]
  simp only [View.ld_unit]
  unfold point4
  sl_kernel_rfl

end Cert.KernelIdeal.Gen
-- ==== Proof.Total4.lean ====
/- Call 4 of the kernel at the reals: its output after its 5 grid points. -/
module

public import proofs.«01_k».proof.Proof.Block4
public import proofs.«01_k».proof.Proof.Rows

@[expose] public section

set_option maxRecDepth 16384

noncomputable section

namespace Cert.KernelIdeal.Gen

open Idealize.ShloMosaic Idealize.ShloMosaic.TcCoe Idealize.ShloMosaic.Tactic
open Idealize.SL.Sem
open Idealize.ShloMosaic.ValueIdx
open Idealize.ShloMosaic.Pipeline (Dat Cfg Window BodyObligation cellOf)

/-- Where the blocks of call 4 lie, and the word of its first row. -/
theorem index4 : ∀ t : Fin cfg4.N, win4_1.index t = ![t.val + 11, 0] ∧ win4_4.index t = ![t.val + 11, 0] ∧ win4_6.index t = ![0, 0] ∧ win4_9.index t = ![0, 0] ∧
      Scalar.muli (Scalar.addi (BitVec.ofNat 32 ((grid4.coords t) 0).val) 11#32) 40#32 = BitVec.ofNat 32 (40 * (t.val + 11)) :=
  (by decide +kernel : ∀ t : Fin grid4.N, win4_1.index t = ![t.val + 11, 0] ∧ win4_4.index t = ![t.val + 11, 0] ∧ win4_6.index t = ![0, 0] ∧ win4_9.index t = ![0, 0] ∧
      Scalar.muli (Scalar.addi (BitVec.ofNat 32 ((grid4.coords t) 0).val) 11#32) 40#32 = BitVec.ofNat 32 (40 * (t.val + 11)))

variable (V : (c : Dev nD) → (b : Ref sig .tc) → Buf (Elt Ideal) ((c : Thread nD τ).loc b))

/-- What a grid point of call 4 adds, of real images: the squares over its block. -/
theorem gap4 (c : Dev nD) (dl dc : S1080x1920.Idx → ℝ) (K : S3x3.Idx → ℝ)
    (hl : V c main_arg0 = fun i => (dl i : EReal)) (hc : V c main_arg1 = fun i => (dc i : EReal)) (hK : Cert.Depth.Reads (V c main_arg2) K)
    (hfx : K (ix2 0 0) ≠ 0) (hfy : K (ix2 1 1) ≠ 0) (t : Fin cfg4.N) :
    point4 V c t = (Cert.Depth.blockGap dl dc (t.val + 11) : EReal) := by
  obtain ⟨e1, e4, e6, -, ew⟩ := index4 t
  have ht : t.val < 5 := Nat.lt_of_lt_of_eq t.isLt N_4
  have i0 : iblk4 V c 0 t = fun i => (dl (((cfg4.win 0).blk t).view.emb i) : EReal) := funext fun i => congrFun hl _
  have i1 : iblk4 V c 1 t = fun i => (dl (((cfg4.win 1).blk t).view.emb i) : EReal) := funext fun i => congrFun hl _
  have i2 : iblk4 V c 2 t = fun i => (dl (((cfg4.win 2).blk t).view.emb i) : EReal) := funext fun i => congrFun hl _
  have i3 : iblk4 V c 3 t = fun i => (dc (((cfg4.win 3).blk t).view.emb i) : EReal) := funext fun i => congrFun hc _
  have i4 : iblk4 V c 4 t = fun i => (dc (((cfg4.win 4).blk t).view.emb i) : EReal) := funext fun i => congrFun hc _
  have i5 : iblk4 V c 5 t = fun i => (dc (((cfg4.win 5).blk t).view.emb i) : EReal) := funext fun i => congrFun hc _
  have i6 : iblk4 V c 6 t = V c main_arg2 := funext fun i => congrArg (V c main_arg2) (funext fun a => Fin.ext (by
    refine (Pipeline.Window.rect_emb_val_off win4_6 t i a).trans ?_
    rw [e6]
    fin_cases a <;> exact Nat.zero_add _))
  unfold point4
  rw [ew, i0, i1, i2, i3, i4, i5, i6]
  refine Cert.Depth.point_gap 1 1 (t.val + 11) (by omega) _ _ dl dc _ K hK hfx hfy _ _ _ _ _ _ (fun i => ⟨?_, ?_⟩) (fun i => ⟨?_, ?_⟩)
  · refine (Pipeline.Window.rect_emb_val_off win4_1 t i 0).trans ?_
    rw [e1]; rfl
  · refine (Pipeline.Window.rect_emb_val_off win4_1 t i 1).trans ?_
    rw [e1]; exact Nat.zero_add _
  · refine (Pipeline.Window.rect_emb_val_off win4_4 t i 0).trans ?_
    rw [e4]; rfl
  · refine (Pipeline.Window.rect_emb_val_off win4_4 t i 1).trans ?_
    rw [e4]; exact Nat.zero_add _

/-- The one block of call 4's output is the whole output. -/
theorem place4 (t : Fin cfg4.N) (y : S1x1.Idx) : ((cfg4.win 9).blk t).view.emb y = y := by
  funext a
  refine Fin.ext ((Pipeline.Window.rect_emb_val_off win4_9 t y a).trans ?_)
  rw [(index4 t).2.2.2.1]
  fin_cases a <;> exact Nat.zero_add _

/-- The output of call 4 ends at what its last point leaves. -/
theorem final4 (c : Dev nD) : (dat4 V c).arrAt 9 cfg4.N = outsAt4 V c 4 (by decide) := by
  refine (dat4 V c).arrAt_eq_of_cover 9 _ (fun t ht => ?_) fun i => ⟨⟨4, by decide⟩, (flush4_9 _).2 (by decide), ?_⟩
  · have ht' := (flush4_9 t).1 ht
    have hn : t.val < 5 := Nat.lt_of_lt_of_eq t.isLt N_4
    obtain rfl : t = ⟨4, by decide⟩ := Fin.ext (by dsimp only; omega)
    show (cfg4.win 9).cut (grid4.coords ⟨4, _⟩) ((dat4 V c).after 9 ⟨4, _⟩) = _
    rw [after4_9]
    exact funext fun y => (congrArg (outsAt4 V c 4 (by decide)) (place4 ⟨4, by decide⟩ y)).symm
  · have h := ((cfg4.win 9).blk ⟨4, by decide⟩).view.emb_mem_set i
    rw [place4 ⟨4, by decide⟩ i] at h
    exact h

/-- The output of call 4, of real images: the squares over its blocks. -/
theorem total4 (c : Dev nD) (dl dc : S1080x1920.Idx → ℝ) (K : S3x3.Idx → ℝ)
    (hl : V c main_arg0 = fun i => (dl i : EReal)) (hc : V c main_arg1 = fun i => (dc i : EReal)) (hK : Cert.Depth.Reads (V c main_arg2) K)
    (hfx : K (ix2 0 0) ≠ 0) (hfy : K (ix2 1 1) ≠ 0) :
    (dat4 V c).arrAt 9 cfg4.N = fun _ => ((∑ k ∈ Finset.range 5, Cert.Depth.blockGap dl dc (k + 11) : ℝ) : EReal) := by
  rw [final4]
  exact Cert.Depth.running (fun n h => outsAt4 V c n h) (point4 V c) (fun k => Cert.Depth.blockGap dl dc (k + 11)) (Shape.Idx.first (by decide))
    (gap4 V c dl dc K hl hc hK hfx hfy) (fun h => outs4_A V c ⟨0, h⟩ rfl)
    (fun n h => outs4_B V c ⟨n + 1, h⟩ (by have := Nat.lt_of_lt_of_eq h N_4; dsimp only; omega)) 4 (by decide)

end Cert.KernelIdeal.Gen

end
-- ==== Proof.Block5.lean ====
/- What each grid point of call 5 leaves in its output, by the block function. -/
module

public import proofs.«01_k».proof.Proof.Gen.KernelIdeal.Frame.Region5
public import Idealize.ShloMosaic.Lib.Pipeline.Value
public import proofs.«01_k».proof.Proof.Model
public import proofs.«01_k».proof.Proof.Loads

@[expose] public section

set_option maxRecDepth 16384

noncomputable section

namespace Cert.KernelIdeal.Gen

open Idealize.ShloMosaic Idealize.ShloMosaic.TcCoe Idealize.ShloMosaic.Tactic
open Idealize.SL.Sem
open Idealize.ShloMosaic.Pipeline (Dat Cfg Window BodyObligation cellOf)

variable {F : FTy → Type} [FloatOps F]
variable (V : (c : Dev nD) → (b : Ref sig .tc) → Buf (Elt F) ((c : Thread nD τ).loc b))

/-- What grid point `t` of call 5 adds. -/
def point5 (c : Dev nD) (t : Fin cfg5.N) : F .f32 :=
  Cert.Depth.pointSum 2 2 (by decide) (by decide) (Scalar.muli (Scalar.addi (BitVec.ofNat 32 ((grid5.coords t) 0).val) 16#32) 40#32)
      (iblk5 V c 0 t) (iblk5 V c 1 t) (iblk5 V c 2 t) (iblk5 V c 3 t) (iblk5 V c 4 t) (iblk5 V c 5 t) (iblk5 V c 6 t)

/-- The first point of call 5 leaves its own sum over zero. -/
theorem outs5_A (c : Dev nD) (t : Fin cfg5.N) (h0 : t.val % 3 = 0) :
    outsAt5 V c t.val t.isLt = fun _ => Scalar.addf (Scalar.ofBits .f32 0x00000000#32) (point5 V c t) := by
  rw [outsAt5_A V c t h0]
  unfold out5_A_9
  rw [View.read_writes_eq_canon _ _ _ (cover5_A_9 c _ _ _ _ _ _ _ _ _ _ _ _ _ _ _ _ _ _ _ _ _ _ _ _ _ _ _ _ _ _ _)]
  unfold kernelRun5_A
  dsimp only
  sl_unfold_words
  sl_unfold_words
  rw [View.canon_cons_unit_zero zero_pair]
  funext y
  unfold k5_pay1
  dsimp only
  refine congrArg₂ Scalar.addf ?_ ?_
  · rfl
  simp only [View.readAt_eq_ld, (hs5_0 t).read_unread, (hs5_1 t).read_unread, (hs5_2 t).read_unread, (hs5_3 t).read_unread, (hs5_4 t).read_unread, (hs5_5 t).read_unread, (hs5_6 t).read_unread]
  simp only [View.ld_unit_zero (S := S40x1920) zero_pair]
  simp only [View.ld_unit]
  unfold point5
  sl_kernel_rfl

/-- A later point of call 5 adds its own sum to what the point before left. -/
theorem outs5_B (c : Dev nD) (t : Fin cfg5.N) (h0 : ¬t.val % 3 = 0) :
    outsAt5 V c t.val t.isLt = fun _ => Scalar.addf (outsAt5 V c (t.val - 1) (Nat.lt_of_le_of_lt (Nat.sub_le _ _) t.isLt) (Shape.Idx.first (by decide))) (point5 V c t) := by
  rw [outsAt5_B V c t h0]
  unfold out5_B_9
  rw [View.read_writes_eq_canon _ _ _ (cover5_B_9 c _ _ _ _ _ _ _ _ _ _ _ _ _ _ _ _ _ _ _ _ _ _ _ _ _ _ _ _ _ _ _ _)]
  unfold kernelRun5_B
  dsimp only
  sl_unfold_words
  sl_unfold_words
  rw [View.canon_cons_unit_zero zero_pair]
  funext y
  unfold k5_pay1
  dsimp only
  refine congrArg₂ Scalar.addf ?_ ?_
  · rw [load_all (hs5_9 t) _ _ _ zero_pair]
  simp only [View.readAt_eq_ld, (hs5_0 t).read_unread, (hs5_1 t).read_unread, (hs5_2 t).read_unread, (hs5_3 t).read_unread, (hs5_4 t).read_unread, (hs5_5 t).read_unread, (hs5_6 t).read_unread]
  simp only [View.ld_unit_zero (S := S40x1920) zero_pair]
  simp only [View.ld_unit]
  unfold point5
  sl_kernel_rfl

end Cert.KernelIdeal.Gen
-- ==== Proof.Total5.lean ====
/- Call 5 of the kernel at the reals: its output after its 3 grid points. -/
module

public import proofs.«01_k».proof.Proof.Block5
public import proofs.«01_k».proof.Proof.Rows

@[expose] public section

set_option maxRecDepth 16384

noncomputable section

namespace Cert.KernelIdeal.Gen

open Idealize.ShloMosaic Idealize.ShloMosaic.TcCoe Idealize.ShloMosaic.Tactic
open Idealize.SL.Sem
open Idealize.ShloMosaic.ValueIdx
open Idealize.ShloMosaic.Pipeline (Dat Cfg Window BodyObligation cellOf)

/-- Where the blocks of call 5 lie, and the word of its first row. -/
theorem index5 : ∀ t : Fin cfg5.N, win5_1.index t = ![t.val + 16, 0] ∧ win5_4.index t = ![t.val + 16, 0] ∧ win5_6.index t = ![0, 0] ∧ win5_9.index t = ![0, 0] ∧
      Scalar.muli (Scalar.addi (BitVec.ofNat 32 ((grid5.coords t) 0).val) 16#32) 40#32 = BitVec.ofNat 32 (40 * (t.val + 16)) :=
  (by decide +kernel : ∀ t : Fin grid5.N, win5_1.index t = ![t.val + 16, 0] ∧ win5_4.index t = ![t.val + 16, 0] ∧ win5_6.index t = ![0, 0] ∧ win5_9.index t = ![0, 0] ∧
      Scalar.muli (Scalar.addi (BitVec.ofNat 32 ((grid5.coords t) 0).val) 16#32) 40#32 = BitVec.ofNat 32 (40 * (t.val + 16)))

variable (V : (c : Dev nD) → (b : Ref sig .tc) → Buf (Elt Ideal) ((c : Thread nD τ).loc b))

/-- What a grid point of call 5 adds, of real images: the squares over its block. -/
theorem gap5 (c : Dev nD) (dl dc : S1080x1920.Idx → ℝ) (K : S3x3.Idx → ℝ)
    (hl : V c main_arg0 = fun i => (dl i : EReal)) (hc : V c main_arg1 = fun i => (dc i : EReal)) (hK : Cert.Depth.Reads (V c main_arg2) K)
    (hfx : K (ix2 0 0) ≠ 0) (hfy : K (ix2 1 1) ≠ 0) (t : Fin cfg5.N) :
    point5 V c t = (Cert.Depth.blockGap dl dc (t.val + 16) : EReal) := by
  obtain ⟨e1, e4, e6, -, ew⟩ := index5 t
  have ht : t.val < 3 := Nat.lt_of_lt_of_eq t.isLt N_5
  have i0 : iblk5 V c 0 t = fun i => (dl (((cfg5.win 0).blk t).view.emb i) : EReal) := funext fun i => congrFun hl _
  have i1 : iblk5 V c 1 t = fun i => (dl (((cfg5.win 1).blk t).view.emb i) : EReal) := funext fun i => congrFun hl _
  have i2 : iblk5 V c 2 t = fun i => (dl (((cfg5.win 2).blk t).view.emb i) : EReal) := funext fun i => congrFun hl _
  have i3 : iblk5 V c 3 t = fun i => (dc (((cfg5.win 3).blk t).view.emb i) : EReal) := funext fun i => congrFun hc _
  have i4 : iblk5 V c 4 t = fun i => (dc (((cfg5.win 4).blk t).view.emb i) : EReal) := funext fun i => congrFun hc _
  have i5 : iblk5 V c 5 t = fun i => (dc (((cfg5.win 5).blk t).view.emb i) : EReal) := funext fun i => congrFun hc _
  have i6 : iblk5 V c 6 t = V c main_arg2 := funext fun i => congrArg (V c main_arg2) (funext fun a => Fin.ext (by
    refine (Pipeline.Window.rect_emb_val_off win5_6 t i a).trans ?_
    rw [e6]
    fin_cases a <;> exact Nat.zero_add _))
  unfold point5
  rw [ew, i0, i1, i2, i3, i4, i5, i6]
  refine Cert.Depth.point_gap 2 2 (t.val + 16) (by omega) _ _ dl dc _ K hK hfx hfy _ _ _ _ _ _ (fun i => ⟨?_, ?_⟩) (fun i => ⟨?_, ?_⟩)
  · refine (Pipeline.Window.rect_emb_val_off win5_1 t i 0).trans ?_
    rw [e1]; rfl
  · refine (Pipeline.Window.rect_emb_val_off win5_1 t i 1).trans ?_
    rw [e1]; exact Nat.zero_add _
  · refine (Pipeline.Window.rect_emb_val_off win5_4 t i 0).trans ?_
    rw [e4]; rfl
  · refine (Pipeline.Window.rect_emb_val_off win5_4 t i 1).trans ?_
    rw [e4]; exact Nat.zero_add _

/-- The one block of call 5's output is the whole output. -/
theorem place5 (t : Fin cfg5.N) (y : S1x1.Idx) : ((cfg5.win 9).blk t).view.emb y = y := by
  funext a
  refine Fin.ext ((Pipeline.Window.rect_emb_val_off win5_9 t y a).trans ?_)
  rw [(index5 t).2.2.2.1]
  fin_cases a <;> exact Nat.zero_add _

/-- The output of call 5 ends at what its last point leaves. -/
theorem final5 (c : Dev nD) : (dat5 V c).arrAt 9 cfg5.N = outsAt5 V c 2 (by decide) := by
  refine (dat5 V c).arrAt_eq_of_cover 9 _ (fun t ht => ?_) fun i => ⟨⟨2, by decide⟩, (flush5_9 _).2 (by decide), ?_⟩
  · have ht' := (flush5_9 t).1 ht
    have hn : t.val < 3 := Nat.lt_of_lt_of_eq t.isLt N_5
    obtain rfl : t = ⟨2, by decide⟩ := Fin.ext (by dsimp only; omega)
    show (cfg5.win 9).cut (grid5.coords ⟨2, _⟩) ((dat5 V c).after 9 ⟨2, _⟩) = _
    rw [after5_9]
    exact funext fun y => (congrArg (outsAt5 V c 2 (by decide)) (place5 ⟨2, by decide⟩ y)).symm
  · have h := ((cfg5.win 9).blk ⟨2, by decide⟩).view.emb_mem_set i
    rw [place5 ⟨2, by decide⟩ i] at h
    exact h

/-- The output of call 5, of real images: the squares over its blocks. -/
theorem total5 (c : Dev nD) (dl dc : S1080x1920.Idx → ℝ) (K : S3x3.Idx → ℝ)
    (hl : V c main_arg0 = fun i => (dl i : EReal)) (hc : V c main_arg1 = fun i => (dc i : EReal)) (hK : Cert.Depth.Reads (V c main_arg2) K)
    (hfx : K (ix2 0 0) ≠ 0) (hfy : K (ix2 1 1) ≠ 0) :
    (dat5 V c).arrAt 9 cfg5.N = fun _ => ((∑ k ∈ Finset.range 3, Cert.Depth.blockGap dl dc (k + 16) : ℝ) : EReal) := by
  rw [final5]
  exact Cert.Depth.running (fun n h => outsAt5 V c n h) (point5 V c) (fun k => Cert.Depth.blockGap dl dc (k + 16)) (Shape.Idx.first (by decide))
    (gap5 V c dl dc K hl hc hK hfx hfy) (fun h => outs5_A V c ⟨0, h⟩ rfl)
    (fun n h => outs5_B V c ⟨n + 1, h⟩ (by have := Nat.lt_of_lt_of_eq h N_5; dsimp only; omega)) 2 (by decide)

end Cert.KernelIdeal.Gen

end
-- ==== Proof.Block6.lean ====
/- What each grid point of call 6 leaves in its output, by the block function. -/
module

public import proofs.«01_k».proof.Proof.Gen.KernelIdeal.Frame.Region6
public import Idealize.ShloMosaic.Lib.Pipeline.Value
public import proofs.«01_k».proof.Proof.Model
public import proofs.«01_k».proof.Proof.Loads

@[expose] public section

set_option maxRecDepth 16384

noncomputable section

namespace Cert.KernelIdeal.Gen

open Idealize.ShloMosaic Idealize.ShloMosaic.TcCoe Idealize.ShloMosaic.Tactic
open Idealize.SL.Sem
open Idealize.ShloMosaic.Pipeline (Dat Cfg Window BodyObligation cellOf)

variable {F : FTy → Type} [FloatOps F]
variable (V : (c : Dev nD) → (b : Ref sig .tc) → Buf (Elt F) ((c : Thread nD τ).loc b))

/-- What grid point `t` of call 6 adds. -/
def point6 (c : Dev nD) (t : Fin cfg6.N) : F .f32 :=
  Cert.Depth.pointSum 3 3 (by decide) (by decide) (Scalar.muli (Scalar.addi (BitVec.ofNat 32 ((grid6.coords t) 0).val) 19#32) 40#32)
      (iblk6 V c 0 t) (iblk6 V c 1 t) (iblk6 V c 2 t) (iblk6 V c 3 t) (iblk6 V c 4 t) (iblk6 V c 5 t) (iblk6 V c 6 t)

set_option maxHeartbeats 4000000 in
/-- The first point of call 6 leaves its own sum over zero. -/
theorem outs6_A (c : Dev nD) (t : Fin cfg6.N) (h0 : t.val % 4 = 0) :
    outsAt6 V c t.val t.isLt = fun _ => Scalar.addf (Scalar.ofBits .f32 0x00000000#32) (point6 V c t) := by
  rw [outsAt6_A V c t h0]
  unfold out6_A_9
  rw [View.read_writes_eq_canon _ _ _ (cover6_A_9 c _ _ _ _ _ _ _ _ _ _ _ _ _ _ _ _ _ _ _ _ _ _ _ _ _ _ _ _ _ _ _)]
  unfold kernelRun6_A
  dsimp only
  sl_unfold_words
  sl_unfold_words
  rw [View.canon_cons_unit_zero zero_pair]
  funext y
  unfold k6_pay1
  dsimp only
  refine congrArg₂ Scalar.addf ?_ ?_
  · rfl
  rw [load_block (hs6_0 t), load_all (hs6_1 t) _ _ _ zero_pair, load_block (hs6_2 t), load_block (hs6_3 t),
    load_all (hs6_4 t) _ _ _ zero_pair, load_block (hs6_5 t), load_block (hs6_6 t), load_block (hs6_6 t), load_block (hs6_6 t),
    load_block (hs6_6 t)]
  unfold point6
  sl_kernel_rfl

set_option maxHeartbeats 4000000 in
/-- A later point of call 6 adds its own sum to what the point before left. -/
theorem outs6_B (c : Dev nD) (t : Fin cfg6.N) (h0 : ¬t.val % 4 = 0) :
    outsAt6 V c t.val t.isLt = fun _ => Scalar.addf (outsAt6 V c (t.val - 1) (Nat.lt_of_le_of_lt (Nat.sub_le _ _) t.isLt) (Shape.Idx.first (by decide))) (point6 V c t) := by
  rw [outsAt6_B V c t h0]
  unfold out6_B_9
  rw [View.read_writes_eq_canon _ _ _ (cover6_B_9 c _ _ _ _ _ _ _ _ _ _ _ _ _ _ _ _ _ _ _ _ _ _ _ _ _ _ _ _ _ _ _ _)]
  unfold kernelRun6_B
  dsimp only
  sl_unfold_words
  sl_unfold_words
  rw [View.canon_cons_unit_zero zero_pair]
  funext y
  unfold k6_pay1
  dsimp only
  refine congrArg₂ Scalar.addf ?_ ?_
  · rw [load_all (hs6_9 t) _ _ _ zero_pair]
  rw [load_block (hs6_0 t), load_all (hs6_1 t) _ _ _ zero_pair, load_block (hs6_2 t), load_block (hs6_3 t),
    load_all (hs6_4 t) _ _ _ zero_pair, load_block (hs6_5 t), load_block (hs6_6 t), load_block (hs6_6 t), load_block (hs6_6 t),
    load_block (hs6_6 t)]
  unfold point6
  sl_kernel_rfl

end Cert.KernelIdeal.Gen
-- ==== Proof.Total6.lean ====
/- Call 6 of the kernel at the reals: its output after its 4 grid points. -/
module

public import proofs.«01_k».proof.Proof.Block6
public import proofs.«01_k».proof.Proof.Rows

@[expose] public section

set_option maxRecDepth 16384

noncomputable section

namespace Cert.KernelIdeal.Gen

open Idealize.ShloMosaic Idealize.ShloMosaic.TcCoe Idealize.ShloMosaic.Tactic
open Idealize.SL.Sem
open Idealize.ShloMosaic.ValueIdx
open Idealize.ShloMosaic.Pipeline (Dat Cfg Window BodyObligation cellOf)

/-- Where the blocks of call 6 lie, and the word of its first row. -/
theorem index6 : ∀ t : Fin cfg6.N, win6_1.index t = ![t.val + 19, 0] ∧ win6_4.index t = ![t.val + 19, 0] ∧ win6_6.index t = ![0, 0] ∧ win6_9.index t = ![0, 0] ∧
      Scalar.muli (Scalar.addi (BitVec.ofNat 32 ((grid6.coords t) 0).val) 19#32) 40#32 = BitVec.ofNat 32 (40 * (t.val + 19)) :=
  (by decide +kernel : ∀ t : Fin grid6.N, win6_1.index t = ![t.val + 19, 0] ∧ win6_4.index t = ![t.val + 19, 0] ∧ win6_6.index t = ![0, 0] ∧ win6_9.index t = ![0, 0] ∧
      Scalar.muli (Scalar.addi (BitVec.ofNat 32 ((grid6.coords t) 0).val) 19#32) 40#32 = BitVec.ofNat 32 (40 * (t.val + 19)))

variable (V : (c : Dev nD) → (b : Ref sig .tc) → Buf (Elt Ideal) ((c : Thread nD τ).loc b))

/-- What a grid point of call 6 adds, of real images: the squares over its block. -/
theorem gap6 (c : Dev nD) (dl dc : S1080x1920.Idx → ℝ) (K : S3x3.Idx → ℝ)
    (hl : V c main_arg0 = fun i => (dl i : EReal)) (hc : V c main_arg1 = fun i => (dc i : EReal)) (hK : Cert.Depth.Reads (V c main_arg2) K)
    (hfx : K (ix2 0 0) ≠ 0) (hfy : K (ix2 1 1) ≠ 0) (t : Fin cfg6.N) :
    point6 V c t = (Cert.Depth.blockGap dl dc (t.val + 19) : EReal) := by
  obtain ⟨e1, e4, e6, -, ew⟩ := index6 t
  have ht : t.val < 4 := Nat.lt_of_lt_of_eq t.isLt N_6
  have i0 : iblk6 V c 0 t = fun i => (dl (((cfg6.win 0).blk t).view.emb i) : EReal) := funext fun i => congrFun hl _
  have i1 : iblk6 V c 1 t = fun i => (dl (((cfg6.win 1).blk t).view.emb i) : EReal) := funext fun i => congrFun hl _
  have i2 : iblk6 V c 2 t = fun i => (dl (((cfg6.win 2).blk t).view.emb i) : EReal) := funext fun i => congrFun hl _
  have i3 : iblk6 V c 3 t = fun i => (dc (((cfg6.win 3).blk t).view.emb i) : EReal) := funext fun i => congrFun hc _
  have i4 : iblk6 V c 4 t = fun i => (dc (((cfg6.win 4).blk t).view.emb i) : EReal) := funext fun i => congrFun hc _
  have i5 : iblk6 V c 5 t = fun i => (dc (((cfg6.win 5).blk t).view.emb i) : EReal) := funext fun i => congrFun hc _
  have i6 : iblk6 V c 6 t = V c main_arg2 := funext fun i => congrArg (V c main_arg2) (funext fun a => Fin.ext (by
    refine (Pipeline.Window.rect_emb_val_off win6_6 t i a).trans ?_
    rw [e6]
    fin_cases a <;> exact Nat.zero_add _))
  unfold point6
  rw [ew, i0, i1, i2, i3, i4, i5, i6]
  refine Cert.Depth.point_gap 3 3 (t.val + 19) (by omega) _ _ dl dc _ K hK hfx hfy _ _ _ _ _ _ (fun i => ⟨?_, ?_⟩) (fun i => ⟨?_, ?_⟩)
  · refine (Pipeline.Window.rect_emb_val_off win6_1 t i 0).trans ?_
    rw [e1]; rfl
  · refine (Pipeline.Window.rect_emb_val_off win6_1 t i 1).trans ?_
    rw [e1]; exact Nat.zero_add _
  · refine (Pipeline.Window.rect_emb_val_off win6_4 t i 0).trans ?_
    rw [e4]; rfl
  · refine (Pipeline.Window.rect_emb_val_off win6_4 t i 1).trans ?_
    rw [e4]; exact Nat.zero_add _

/-- The one block of call 6's output is the whole output. -/
theorem place6 (t : Fin cfg6.N) (y : S1x1.Idx) : ((cfg6.win 9).blk t).view.emb y = y := by
  funext a
  refine Fin.ext ((Pipeline.Window.rect_emb_val_off win6_9 t y a).trans ?_)
  rw [(index6 t).2.2.2.1]
  fin_cases a <;> exact Nat.zero_add _

/-- The output of call 6 ends at what its last point leaves. -/
theorem final6 (c : Dev nD) : (dat6 V c).arrAt 9 cfg6.N = outsAt6 V c 3 (by decide) := by
  refine (dat6 V c).arrAt_eq_of_cover 9 _ (fun t ht => ?_) fun i => ⟨⟨3, by decide⟩, (flush6_9 _).2 (by decide), ?_⟩
  · have ht' := (flush6_9 t).1 ht
    have hn : t.val < 4 := Nat.lt_of_lt_of_eq t.isLt N_6
    obtain rfl : t = ⟨3, by decide⟩ := Fin.ext (by dsimp only; omega)
    show (cfg6.win 9).cut (grid6.coords ⟨3, _⟩) ((dat6 V c).after 9 ⟨3, _⟩) = _
    rw [after6_9]
    exact funext fun y => (congrArg (outsAt6 V c 3 (by decide)) (place6 ⟨3, by decide⟩ y)).symm
  · have h := ((cfg6.win 9).blk ⟨3, by decide⟩).view.emb_mem_set i
    rw [place6 ⟨3, by decide⟩ i] at h
    exact h

/-- The output of call 6, of real images: the squares over its blocks. -/
theorem total6 (c : Dev nD) (dl dc : S1080x1920.Idx → ℝ) (K : S3x3.Idx → ℝ)
    (hl : V c main_arg0 = fun i => (dl i : EReal)) (hc : V c main_arg1 = fun i => (dc i : EReal)) (hK : Cert.Depth.Reads (V c main_arg2) K)
    (hfx : K (ix2 0 0) ≠ 0) (hfy : K (ix2 1 1) ≠ 0) :
    (dat6 V c).arrAt 9 cfg6.N = fun _ => ((∑ k ∈ Finset.range 4, Cert.Depth.blockGap dl dc (k + 19) : ℝ) : EReal) := by
  rw [final6]
  exact Cert.Depth.running (fun n h => outsAt6 V c n h) (point6 V c) (fun k => Cert.Depth.blockGap dl dc (k + 19)) (Shape.Idx.first (by decide))
    (gap6 V c dl dc K hl hc hK hfx hfy) (fun h => outs6_A V c ⟨0, h⟩ rfl)
    (fun n h => outs6_B V c ⟨n + 1, h⟩ (by have := Nat.lt_of_lt_of_eq h N_6; dsimp only; omega)) 3 (by decide)

end Cert.KernelIdeal.Gen

end
-- ==== Proof.Block7.lean ====
/- What each grid point of call 7 leaves in its output, by the block function. -/
module

public import proofs.«01_k».proof.Proof.Gen.KernelIdeal.Frame.Region7
public import Idealize.ShloMosaic.Lib.Pipeline.Value
public import proofs.«01_k».proof.Proof.Model
public import proofs.«01_k».proof.Proof.Loads

@[expose] public section

set_option maxRecDepth 16384

noncomputable section

namespace Cert.KernelIdeal.Gen

open Idealize.ShloMosaic Idealize.ShloMosaic.TcCoe Idealize.ShloMosaic.Tactic
open Idealize.SL.Sem
open Idealize.ShloMosaic.Pipeline (Dat Cfg Window BodyObligation cellOf)

variable {F : FTy → Type} [FloatOps F]
variable (V : (c : Dev nD) → (b : Ref sig .tc) → Buf (Elt F) ((c : Thread nD τ).loc b))

/-- What grid point `t` of call 7 adds. -/
def point7 (c : Dev nD) (t : Fin cfg7.N) : F .f32 :=
  Cert.Depth.pointSum 4 4 (by decide) (by decide) (Scalar.muli (Scalar.addi (BitVec.ofNat 32 ((grid7.coords t) 0).val) 23#32) 40#32)
      (iblk7 V c 0 t) (iblk7 V c 1 t) (iblk7 V c 2 t) (iblk7 V c 3 t) (iblk7 V c 4 t) (iblk7 V c 5 t) (iblk7 V c 6 t)

/-- The first point of call 7 leaves its own sum over zero. -/
theorem outs7_A (c : Dev nD) (t : Fin cfg7.N) (h0 : t.val % 3 = 0) :
    outsAt7 V c t.val t.isLt = fun _ => Scalar.addf (Scalar.ofBits .f32 0x00000000#32) (point7 V c t) := by
  rw [outsAt7_A V c t h0]
  unfold out7_A_9
  rw [View.read_writes_eq_canon _ _ _ (cover7_A_9 c _ _ _ _ _ _ _ _ _ _ _ _ _ _ _ _ _ _ _ _ _ _ _ _ _ _ _ _ _ _ _)]
  unfold kernelRun7_A
  dsimp only
  sl_unfold_words
  sl_unfold_words
  rw [View.canon_cons_unit_zero zero_pair]
  funext y
  unfold k7_pay1
  dsimp only
  refine congrArg₂ Scalar.addf ?_ ?_
  · rfl
  simp only [View.readAt_eq_ld, (hs7_0 t).read_unread, (hs7_1 t).read_unread, (hs7_2 t).read_unread, (hs7_3 t).read_unread, (hs7_4 t).read_unread, (hs7_5 t).read_unread, (hs7_6 t).read_unread]
  simp only [View.ld_unit_zero (S := S40x1920) zero_pair]
  simp only [View.ld_unit]
  unfold point7
  sl_kernel_rfl

/-- A later point of call 7 adds its own sum to what the point before left. -/
theorem outs7_B (c : Dev nD) (t : Fin cfg7.N) (h0 : ¬t.val % 3 = 0) :
    outsAt7 V c t.val t.isLt = fun _ => Scalar.addf (outsAt7 V c (t.val - 1) (Nat.lt_of_le_of_lt (Nat.sub_le _ _) t.isLt) (Shape.Idx.first (by decide))) (point7 V c t) := by
  rw [outsAt7_B V c t h0]
  unfold out7_B_9
  rw [View.read_writes_eq_canon _ _ _ (cover7_B_9 c _ _ _ _ _ _ _ _ _ _ _ _ _ _ _ _ _ _ _ _ _ _ _ _ _ _ _ _ _ _ _ _)]
  unfold kernelRun7_B
  dsimp only
  sl_unfold_words
  sl_unfold_words
  rw [View.canon_cons_unit_zero zero_pair]
  funext y
  unfold k7_pay1
  dsimp only
  refine congrArg₂ Scalar.addf ?_ ?_
  · rw [load_all (hs7_9 t) _ _ _ zero_pair]
  simp only [View.readAt_eq_ld, (hs7_0 t).read_unread, (hs7_1 t).read_unread, (hs7_2 t).read_unread, (hs7_3 t).read_unread, (hs7_4 t).read_unread, (hs7_5 t).read_unread, (hs7_6 t).read_unread]
  simp only [View.ld_unit_zero (S := S40x1920) zero_pair]
  simp only [View.ld_unit]
  unfold point7
  sl_kernel_rfl

end Cert.KernelIdeal.Gen
-- ==== Proof.Total7.lean ====
/- Call 7 of the kernel at the reals: its output after its 3 grid points. -/
module

public import proofs.«01_k».proof.Proof.Block7
public import proofs.«01_k».proof.Proof.Rows

@[expose] public section

set_option maxRecDepth 16384

noncomputable section

namespace Cert.KernelIdeal.Gen

open Idealize.ShloMosaic Idealize.ShloMosaic.TcCoe Idealize.ShloMosaic.Tactic
open Idealize.SL.Sem
open Idealize.ShloMosaic.ValueIdx
open Idealize.ShloMosaic.Pipeline (Dat Cfg Window BodyObligation cellOf)

/-- Where the blocks of call 7 lie, and the word of its first row. -/
theorem index7 : ∀ t : Fin cfg7.N, win7_1.index t = ![t.val + 23, 0] ∧ win7_4.index t = ![t.val + 23, 0] ∧ win7_6.index t = ![0, 0] ∧ win7_9.index t = ![0, 0] ∧
      Scalar.muli (Scalar.addi (BitVec.ofNat 32 ((grid7.coords t) 0).val) 23#32) 40#32 = BitVec.ofNat 32 (40 * (t.val + 23)) :=
  (by decide +kernel : ∀ t : Fin grid7.N, win7_1.index t = ![t.val + 23, 0] ∧ win7_4.index t = ![t.val + 23, 0] ∧ win7_6.index t = ![0, 0] ∧ win7_9.index t = ![0, 0] ∧
      Scalar.muli (Scalar.addi (BitVec.ofNat 32 ((grid7.coords t) 0).val) 23#32) 40#32 = BitVec.ofNat 32 (40 * (t.val + 23)))

variable (V : (c : Dev nD) → (b : Ref sig .tc) → Buf (Elt Ideal) ((c : Thread nD τ).loc b))

/-- What a grid point of call 7 adds, of real images: the squares over its block. -/
theorem gap7 (c : Dev nD) (dl dc : S1080x1920.Idx → ℝ) (K : S3x3.Idx → ℝ)
    (hl : V c main_arg0 = fun i => (dl i : EReal)) (hc : V c main_arg1 = fun i => (dc i : EReal)) (hK : Cert.Depth.Reads (V c main_arg2) K)
    (hfx : K (ix2 0 0) ≠ 0) (hfy : K (ix2 1 1) ≠ 0) (t : Fin cfg7.N) :
    point7 V c t = (Cert.Depth.blockGap dl dc (t.val + 23) : EReal) := by
  obtain ⟨e1, e4, e6, -, ew⟩ := index7 t
  have ht : t.val < 3 := Nat.lt_of_lt_of_eq t.isLt N_7
  have i0 : iblk7 V c 0 t = fun i => (dl (((cfg7.win 0).blk t).view.emb i) : EReal) := funext fun i => congrFun hl _
  have i1 : iblk7 V c 1 t = fun i => (dl (((cfg7.win 1).blk t).view.emb i) : EReal) := funext fun i => congrFun hl _
  have i2 : iblk7 V c 2 t = fun i => (dl (((cfg7.win 2).blk t).view.emb i) : EReal) := funext fun i => congrFun hl _
  have i3 : iblk7 V c 3 t = fun i => (dc (((cfg7.win 3).blk t).view.emb i) : EReal) := funext fun i => congrFun hc _
  have i4 : iblk7 V c 4 t = fun i => (dc (((cfg7.win 4).blk t).view.emb i) : EReal) := funext fun i => congrFun hc _
  have i5 : iblk7 V c 5 t = fun i => (dc (((cfg7.win 5).blk t).view.emb i) : EReal) := funext fun i => congrFun hc _
  have i6 : iblk7 V c 6 t = V c main_arg2 := funext fun i => congrArg (V c main_arg2) (funext fun a => Fin.ext (by
    refine (Pipeline.Window.rect_emb_val_off win7_6 t i a).trans ?_
    rw [e6]
    fin_cases a <;> exact Nat.zero_add _))
  unfold point7
  rw [ew, i0, i1, i2, i3, i4, i5, i6]
  refine Cert.Depth.point_gap 4 4 (t.val + 23) (by omega) _ _ dl dc _ K hK hfx hfy _ _ _ _ _ _ (fun i => ⟨?_, ?_⟩) (fun i => ⟨?_, ?_⟩)
  · refine (Pipeline.Window.rect_emb_val_off win7_1 t i 0).trans ?_
    rw [e1]; rfl
  · refine (Pipeline.Window.rect_emb_val_off win7_1 t i 1).trans ?_
    rw [e1]; exact Nat.zero_add _
  · refine (Pipeline.Window.rect_emb_val_off win7_4 t i 0).trans ?_
    rw [e4]; rfl
  · refine (Pipeline.Window.rect_emb_val_off win7_4 t i 1).trans ?_
    rw [e4]; exact Nat.zero_add _

/-- The one block of call 7's output is the whole output. -/
theorem place7 (t : Fin cfg7.N) (y : S1x1.Idx) : ((cfg7.win 9).blk t).view.emb y = y := by
  funext a
  refine Fin.ext ((Pipeline.Window.rect_emb_val_off win7_9 t y a).trans ?_)
  rw [(index7 t).2.2.2.1]
  fin_cases a <;> exact Nat.zero_add _

/-- The output of call 7 ends at what its last point leaves. -/
theorem final7 (c : Dev nD) : (dat7 V c).arrAt 9 cfg7.N = outsAt7 V c 2 (by decide) := by
  refine (dat7 V c).arrAt_eq_of_cover 9 _ (fun t ht => ?_) fun i => ⟨⟨2, by decide⟩, (flush7_9 _).2 (by decide), ?_⟩
  · have ht' := (flush7_9 t).1 ht
    have hn : t.val < 3 := Nat.lt_of_lt_of_eq t.isLt N_7
    obtain rfl : t = ⟨2, by decide⟩ := Fin.ext (by dsimp only; omega)
    show (cfg7.win 9).cut (grid7.coords ⟨2, _⟩) ((dat7 V c).after 9 ⟨2, _⟩) = _
    rw [after7_9]
    exact funext fun y => (congrArg (outsAt7 V c 2 (by decide)) (place7 ⟨2, by decide⟩ y)).symm
  · have h := ((cfg7.win 9).blk ⟨2, by decide⟩).view.emb_mem_set i
    rw [place7 ⟨2, by decide⟩ i] at h
    exact h

/-- The output of call 7, of real images: the squares over its blocks. -/
theorem total7 (c : Dev nD) (dl dc : S1080x1920.Idx → ℝ) (K : S3x3.Idx → ℝ)
    (hl : V c main_arg0 = fun i => (dl i : EReal)) (hc : V c main_arg1 = fun i => (dc i : EReal)) (hK : Cert.Depth.Reads (V c main_arg2) K)
    (hfx : K (ix2 0 0) ≠ 0) (hfy : K (ix2 1 1) ≠ 0) :
    (dat7 V c).arrAt 9 cfg7.N = fun _ => ((∑ k ∈ Finset.range 3, Cert.Depth.blockGap dl dc (k + 23) : ℝ) : EReal) := by
  rw [final7]
  exact Cert.Depth.running (fun n h => outsAt7 V c n h) (point7 V c) (fun k => Cert.Depth.blockGap dl dc (k + 23)) (Shape.Idx.first (by decide))
    (gap7 V c dl dc K hl hc hK hfx hfy) (fun h => outs7_A V c ⟨0, h⟩ rfl)
    (fun n h => outs7_B V c ⟨n + 1, h⟩ (by have := Nat.lt_of_lt_of_eq h N_7; dsimp only; omega)) 2 (by decide)

end Cert.KernelIdeal.Gen

end
-- ==== Proof.Block8.lean ====
/- What each grid point of call 8 leaves in its output, by the block function. -/
module

public import proofs.«01_k».proof.Proof.Gen.KernelIdeal.Frame.Region8
public import Idealize.ShloMosaic.Lib.Pipeline.Value
public import proofs.«01_k».proof.Proof.Model
public import proofs.«01_k».proof.Proof.Loads

@[expose] public section

set_option maxRecDepth 16384

noncomputable section

namespace Cert.KernelIdeal.Gen

open Idealize.ShloMosaic Idealize.ShloMosaic.TcCoe Idealize.ShloMosaic.Tactic
open Idealize.SL.Sem
open Idealize.ShloMosaic.Pipeline (Dat Cfg Window BodyObligation cellOf)

variable {F : FTy → Type} [FloatOps F]
variable (V : (c : Dev nD) → (b : Ref sig .tc) → Buf (Elt F) ((c : Thread nD τ).loc b))

/-- What grid point `t` of call 8 adds. -/
def point8 (c : Dev nD) (t : Fin cfg8.N) : F .f32 :=
  Cert.Depth.pointSum 5 5 (by decide) (by decide) (Scalar.muli (Scalar.addi (BitVec.ofNat 32 ((grid8.coords t) 0).val) 26#32) 40#32)
      (iblk8 V c 0 t) (iblk8 V c 1 t) (iblk8 V c 2 t) (iblk8 V c 3 t) (iblk8 V c 4 t) (iblk8 V c 5 t) (iblk8 V c 6 t)

/-- The one point of call 8 leaves its own sum over zero. -/
theorem outs8_A (c : Dev nD) (t : Fin cfg8.N) :
    outsAt8 V c t = fun _ => Scalar.addf (Scalar.ofBits .f32 0x00000000#32) (point8 V c t) := by
  unfold outsAt8
  unfold out8_A_9
  rw [View.read_writes_eq_canon _ _ _ (cover8_A_9 c _ _ _ _ _ _ _ _ _ _ _ _ _ _ _ _ _ _ _ _ _ _ _ _ _ _ _ _ _ _ _)]
  unfold kernelRun8_A
  dsimp only
  sl_unfold_words
  sl_unfold_words
  rw [View.canon_cons_unit_zero zero_pair]
  funext y
  unfold k8_pay1
  dsimp only
  refine congrArg₂ Scalar.addf ?_ ?_
  · rfl
  simp only [View.readAt_eq_ld, (hs8_0 t).read_unread, (hs8_1 t).read_unread, (hs8_2 t).read_unread, (hs8_3 t).read_unread, (hs8_4 t).read_unread, (hs8_5 t).read_unread, (hs8_6 t).read_unread]
  simp only [View.ld_unit_zero (S := S40x1920) zero_pair]
  simp only [View.ld_unit]
  unfold point8
  sl_kernel_rfl

end Cert.KernelIdeal.Gen
-- ==== Proof.Total8.lean ====
/- Call 8 of the kernel at the reals: its output after its 1 grid point. -/
module

public import proofs.«01_k».proof.Proof.Block8
public import proofs.«01_k».proof.Proof.Rows

@[expose] public section

set_option maxRecDepth 16384

noncomputable section

namespace Cert.KernelIdeal.Gen

open Idealize.ShloMosaic Idealize.ShloMosaic.TcCoe Idealize.ShloMosaic.Tactic
open Idealize.SL.Sem
open Idealize.ShloMosaic.ValueIdx
open Idealize.ShloMosaic.Pipeline (Dat Cfg Window BodyObligation cellOf)

/-- Where the blocks of call 8 lie, and the word of its first row. -/
theorem index8 : ∀ t : Fin cfg8.N, win8_1.index t = ![t.val + 26, 0] ∧ win8_4.index t = ![t.val + 26, 0] ∧ win8_6.index t = ![0, 0] ∧ win8_9.index t = ![0, 0] ∧
      Scalar.muli (Scalar.addi (BitVec.ofNat 32 ((grid8.coords t) 0).val) 26#32) 40#32 = BitVec.ofNat 32 (40 * (t.val + 26)) :=
  (by decide +kernel : ∀ t : Fin grid8.N, win8_1.index t = ![t.val + 26, 0] ∧ win8_4.index t = ![t.val + 26, 0] ∧ win8_6.index t = ![0, 0] ∧ win8_9.index t = ![0, 0] ∧
      Scalar.muli (Scalar.addi (BitVec.ofNat 32 ((grid8.coords t) 0).val) 26#32) 40#32 = BitVec.ofNat 32 (40 * (t.val + 26)))

variable (V : (c : Dev nD) → (b : Ref sig .tc) → Buf (Elt Ideal) ((c : Thread nD τ).loc b))

/-- What a grid point of call 8 adds, of real images: the squares over its block. -/
theorem gap8 (c : Dev nD) (dl dc : S1080x1920.Idx → ℝ) (K : S3x3.Idx → ℝ)
    (hl : V c main_arg0 = fun i => (dl i : EReal)) (hc : V c main_arg1 = fun i => (dc i : EReal)) (hK : Cert.Depth.Reads (V c main_arg2) K)
    (hfx : K (ix2 0 0) ≠ 0) (hfy : K (ix2 1 1) ≠ 0) (t : Fin cfg8.N) :
    point8 V c t = (Cert.Depth.blockGap dl dc (t.val + 26) : EReal) := by
  obtain ⟨e1, e4, e6, -, ew⟩ := index8 t
  have ht : t.val < 1 := Nat.lt_of_lt_of_eq t.isLt N_8
  have i0 : iblk8 V c 0 t = fun i => (dl (((cfg8.win 0).blk t).view.emb i) : EReal) := funext fun i => congrFun hl _
  have i1 : iblk8 V c 1 t = fun i => (dl (((cfg8.win 1).blk t).view.emb i) : EReal) := funext fun i => congrFun hl _
  have i2 : iblk8 V c 2 t = fun i => (dl (((cfg8.win 2).blk t).view.emb i) : EReal) := funext fun i => congrFun hl _
  have i3 : iblk8 V c 3 t = fun i => (dc (((cfg8.win 3).blk t).view.emb i) : EReal) := funext fun i => congrFun hc _
  have i4 : iblk8 V c 4 t = fun i => (dc (((cfg8.win 4).blk t).view.emb i) : EReal) := funext fun i => congrFun hc _
  have i5 : iblk8 V c 5 t = fun i => (dc (((cfg8.win 5).blk t).view.emb i) : EReal) := funext fun i => congrFun hc _
  have i6 : iblk8 V c 6 t = V c main_arg2 := funext fun i => congrArg (V c main_arg2) (funext fun a => Fin.ext (by
    refine (Pipeline.Window.rect_emb_val_off win8_6 t i a).trans ?_
    rw [e6]
    fin_cases a <;> exact Nat.zero_add _))
  unfold point8
  rw [ew, i0, i1, i2, i3, i4, i5, i6]
  refine Cert.Depth.point_gap 5 5 (t.val + 26) (by omega) _ _ dl dc _ K hK hfx hfy _ _ _ _ _ _ (fun i => ⟨?_, ?_⟩) (fun i => ⟨?_, ?_⟩)
  · refine (Pipeline.Window.rect_emb_val_off win8_1 t i 0).trans ?_
    rw [e1]; rfl
  · refine (Pipeline.Window.rect_emb_val_off win8_1 t i 1).trans ?_
    rw [e1]; exact Nat.zero_add _
  · refine (Pipeline.Window.rect_emb_val_off win8_4 t i 0).trans ?_
    rw [e4]; rfl
  · refine (Pipeline.Window.rect_emb_val_off win8_4 t i 1).trans ?_
    rw [e4]; exact Nat.zero_add _

/-- The one block of call 8's output is the whole output. -/
theorem place8 (t : Fin cfg8.N) (y : S1x1.Idx) : ((cfg8.win 9).blk t).view.emb y = y := by
  funext a
  refine Fin.ext ((Pipeline.Window.rect_emb_val_off win8_9 t y a).trans ?_)
  rw [(index8 t).2.2.2.1]
  fin_cases a <;> exact Nat.zero_add _

/-- The output of call 8 ends at what its one point leaves. -/
theorem final8 (c : Dev nD) : (dat8 V c).arrAt 9 cfg8.N = outsAt8 V c t8_0 := by
  refine (dat8 V c).arrAt_eq_of_cover 9 _ (fun t _ => ?_) fun i => ⟨t8_0, flush8_9 _, ?_⟩
  · have h1 : t.val < 1 := Nat.lt_of_lt_of_eq t.isLt N_8
    obtain rfl : t = t8_0 := Fin.ext (show t.val = 0 by omega)
    show (cfg8.win 9).cut (grid8.coords t8_0) ((dat8 V c).after 9 t8_0) = _
    rw [after8_9]
    exact funext fun y => (congrArg (outsAt8 V c t8_0) (place8 t8_0 y)).symm
  · have h := ((cfg8.win 9).blk t8_0).view.emb_mem_set i
    rw [place8 t8_0 i] at h
    exact h

/-- The output of call 8, of real images: the squares over the last block. -/
theorem total8 (c : Dev nD) (dl dc : S1080x1920.Idx → ℝ) (K : S3x3.Idx → ℝ)
    (hl : V c main_arg0 = fun i => (dl i : EReal)) (hc : V c main_arg1 = fun i => (dc i : EReal)) (hK : Cert.Depth.Reads (V c main_arg2) K)
    (hfx : K (ix2 0 0) ≠ 0) (hfy : K (ix2 1 1) ≠ 0) :
    (dat8 V c).arrAt 9 cfg8.N = fun _ => (Cert.Depth.blockGap dl dc 26 : EReal) := by
  rw [final8, outs8_A, gap8 V c dl dc K hl hc hK hfx hfy]
  funext _
  show Ideal.ofBits .f32 0x00000000#32 + _ = _
  rw [Ideal.ofBits_zero_f32, zero_add]
  rfl

end Cert.KernelIdeal.Gen

end
-- ==== Proof.Sum.lean ====
/- The kernel's result at the reals: the nine calls' outputs added, and the sum over the blocks as the sum over the pixels. -/
module

public import proofs.«01_k».proof.Proof.Result
public import proofs.«01_k».proof.Proof.Total0
public import proofs.«01_k».proof.Proof.Total1
public import proofs.«01_k».proof.Proof.Total2
public import proofs.«01_k».proof.Proof.Total3
public import proofs.«01_k».proof.Proof.Total4
public import proofs.«01_k».proof.Proof.Total5
public import proofs.«01_k».proof.Proof.Total6
public import proofs.«01_k».proof.Proof.Total7
public import proofs.«01_k».proof.Proof.Total8

@[expose] public section

set_option maxRecDepth 16384

noncomputable section

namespace Cert.Depth

open Idealize.ShloMosaic Idealize.ShloMosaic.ValueIdx

/-- The squares over the whole image. -/
def imageGap (dl dc : (Mat 1080 1920).Idx → ℝ) : ℝ :=
  ∑ n : Fin 1080, ∑ q : Fin 1920, gap (dl (ix2 n q)) (dc (ix2 n q))

/-- The squares of the poses' differences. -/
def poseGaps (pl pc : (Mat 4 4).Idx → ℝ) : ℝ :=
  ∑ r : Fin 4, ∑ q : Fin 4, (pc (ix2 r q) - pl (ix2 r q)) * (pc (ix2 r q) - pl (ix2 r q))

/-- A sum over blocks of forty is the sum over all. -/
theorem sum_blocks (g : ℕ → ℝ) : ∀ B : ℕ, ∑ b ∈ Finset.range B, ∑ r : Fin 40, g (40 * b + r.val) = ∑ n ∈ Finset.range (40 * B), g n
  | 0 => rfl
  | B + 1 => by
    rw [Finset.sum_range_succ, sum_blocks g B, Nat.mul_succ, Finset.sum_range_add, Finset.sum_range (fun x => g (40 * B + x))]

/-- The squares over the 27 blocks are the squares over the image. -/
theorem sum_blockGap (dl dc : (Mat 1080 1920).Idx → ℝ) : ∑ b ∈ Finset.range 27, blockGap dl dc b = imageGap dl dc := by
  unfold blockGap imageGap
  rw [sum_blocks (fun n => ∑ q : Fin 1920, gap (rowAt dl n q) (rowAt dc n q)) 27, Finset.sum_range]
  refine Finset.sum_congr rfl fun n _ => Finset.sum_congr rfl fun q _ => ?_
  have h : n.val < 1080 := n.isLt
  unfold rowAt
  rw [dif_pos h, dif_pos h]

end Cert.Depth

namespace Cert.KernelIdeal.Gen

open Idealize.ShloMosaic Idealize.ShloMosaic.TcCoe Idealize.ShloMosaic.Tactic
open Idealize.SL.Sem
open Idealize.ShloMosaic.ValueIdx

/-- An array of one entry everywhere, as an array of no axes. -/
theorem one_const (x : EReal) : one (F := Ideal) (fun _ => x) = fun _ => x := rfl

/-- Two real entries added. -/
theorem addf_real (a b : ℝ) : addf (F := Ideal) (s := S_) (φ := .f32) (fun _ => (a : EReal)) (fun _ => (b : EReal)) = fun _ => ((a + b : ℝ) : EReal) :=
  funext fun _ => (EReal.coe_add a b).symm

/-- A 1×1 array has one place. -/
theorem place_zero (j : S1x1.Idx) (a : Fin 2) : (j a).val = 0 := by
  have h : ∀ b : Fin 2, S1x1.size b = 1 := by decide
  have := (j a).isLt
  have := h a
  omega

/-- The first entry of the first call's output. -/
theorem one_cell0 (f : FVec Ideal S1x2 .f32) : one (extractStridedSlice S1x1 ![0, 0] f slices_S1x2_S1x1_0_0) = fun _ => f cell0 := by
  funext i
  unfold one shapeCast extractStridedSlice
  refine congrArg f (funext fun a => Fin.ext ?_)
  fin_cases a
  · exact (congrArg (0 + ·) (place_zero _ 0))
  · exact (congrArg (0 + ·) (place_zero _ 1))

/-- The second entry of the first call's output. -/
theorem one_cell1 (f : FVec Ideal S1x2 .f32) : one (extractStridedSlice S1x1 ![0, 1] f slices_S1x2_S1x1_0_1) = fun _ => f cell1 := by
  funext i
  unfold one shapeCast extractStridedSlice
  refine congrArg f (funext fun a => Fin.ext ?_)
  fin_cases a
  · exact (congrArg (0 + ·) (place_zero _ 0))
  · exact (congrArg (1 + ·) (place_zero _ 1))

variable (m : (ℓ : Loc nD τ sig) → Buf (Elt Ideal) ℓ) (ρ : Dev nD → PrngReg)

/-- The kernel's result of real images, intrinsics and poses. -/
theorem kernel_value (c : Dev nD) (dl dc : S1080x1920.Idx → ℝ) (K : S3x3.Idx → ℝ) (pl pc : S4x4.Idx → ℝ)
    (hl : m (c.tc.loc main_arg0) = fun i => (dl i : EReal)) (hc : m (c.tc.loc main_arg1) = fun i => (dc i : EReal))
    (hK : Cert.Depth.Reads (m (c.tc.loc main_arg2)) K) (hfx : K (ix2 0 0) ≠ 0) (hfy : K (ix2 1 1) ≠ 0)
    (h3 : m (c.tc.loc main_arg3) = fun i => (pl i : EReal)) (h4 : m (c.tc.loc main_arg4) = fun i => (pc i : EReal)) :
    W18 m ρ c (Proc.devRef .tc main_v31) =
      addf (F := Ideal) (s := S_) (φ := .f32) (Host.divf (fun _ => (Cert.Depth.imageGap dl dc : EReal)) (constant S_ .f32 0x49FD2000#32))
        (mulf (constant S_ .f32 0x3A83126F#32) (fun _ => (Cert.Depth.poseGaps pl pc : EReal))) := by
  have t0 := total0 (V0 m ρ) c dl dc K ((W0_args m ρ c main_arg0 (by decide)).trans hl) ((W0_args m ρ c main_arg1 (by decide)).trans hc)
    (by rw [show V0 m ρ c main_arg2 = _ from W0_args m ρ c main_arg2 (by decide)]; exact hK) hfx hfy pl pc
    ((W0_args m ρ c main_arg3 (by decide)).trans h3) ((W0_args m ρ c main_arg4 (by decide)).trans h4)
  have t1 := total1 (V2 m ρ) c dl dc K ((W2_args m ρ c main_arg0 (by decide)).trans hl) ((W2_args m ρ c main_arg1 (by decide)).trans hc)
    (by rw [show V2 m ρ c main_arg2 = _ from W2_args m ρ c main_arg2 (by decide)]; exact hK) hfx hfy
  have t2 := total2 (V4 m ρ) c dl dc K ((W4_args m ρ c main_arg0 (by decide)).trans hl) ((W4_args m ρ c main_arg1 (by decide)).trans hc)
    (by rw [show V4 m ρ c main_arg2 = _ from W4_args m ρ c main_arg2 (by decide)]; exact hK) hfx hfy
  have t3 := total3 (V6 m ρ) c dl dc K ((W6_args m ρ c main_arg0 (by decide)).trans hl) ((W6_args m ρ c main_arg1 (by decide)).trans hc)
    (by rw [show V6 m ρ c main_arg2 = _ from W6_args m ρ c main_arg2 (by decide)]; exact hK) hfx hfy
  have t4 := total4 (V8 m ρ) c dl dc K ((W8_args m ρ c main_arg0 (by decide)).trans hl) ((W8_args m ρ c main_arg1 (by decide)).trans hc)
    (by rw [show V8 m ρ c main_arg2 = _ from W8_args m ρ c main_arg2 (by decide)]; exact hK) hfx hfy
  have t5 := total5 (V10 m ρ) c dl dc K ((W10_args m ρ c main_arg0 (by decide)).trans hl) ((W10_args m ρ c main_arg1 (by decide)).trans hc)
    (by rw [show V10 m ρ c main_arg2 = _ from W10_args m ρ c main_arg2 (by decide)]; exact hK) hfx hfy
  have t6 := total6 (V12 m ρ) c dl dc K ((W12_args m ρ c main_arg0 (by decide)).trans hl) ((W12_args m ρ c main_arg1 (by decide)).trans hc)
    (by rw [show V12 m ρ c main_arg2 = _ from W12_args m ρ c main_arg2 (by decide)]; exact hK) hfx hfy
  have t7 := total7 (V14 m ρ) c dl dc K ((W14_args m ρ c main_arg0 (by decide)).trans hl) ((W14_args m ρ c main_arg1 (by decide)).trans hc)
    (by rw [show V14 m ρ c main_arg2 = _ from W14_args m ρ c main_arg2 (by decide)]; exact hK) hfx hfy
  have t8 := total8 (V16 m ρ) c dl dc K ((W16_args m ρ c main_arg0 (by decide)).trans hl) ((W16_args m ρ c main_arg1 (by decide)).trans hc)
    (by rw [show V16 m ρ c main_arg2 = _ from W16_args m ρ c main_arg2 (by decide)]; exact hK) hfx hfy
  have s0 := (sum2 m ρ c).trans ((one_cell0 _).trans (congrArg (fun x _ => x) t0.1))
  have p0 := (pose2 m ρ c).trans ((one_cell1 _).trans (congrArg (fun x _ => x) t0.2))
  have s1 := (sum4 m ρ c).trans ((congrArg₂ addf s0 (congrArg one t1)).trans (addf_real _ _))
  have s2 := (sum6 m ρ c).trans ((congrArg₂ addf s1 (congrArg one t2)).trans (addf_real _ _))
  have s3 := (sum8 m ρ c).trans ((congrArg₂ addf s2 (congrArg one t3)).trans (addf_real _ _))
  have s4 := (sum10 m ρ c).trans ((congrArg₂ addf s3 (congrArg one t4)).trans (addf_real _ _))
  have s5 := (sum12 m ρ c).trans ((congrArg₂ addf s4 (congrArg one t5)).trans (addf_real _ _))
  have s6 := (sum14 m ρ c).trans ((congrArg₂ addf s5 (congrArg one t6)).trans (addf_real _ _))
  have s7 := (sum16 m ρ c).trans ((congrArg₂ addf s6 (congrArg one t7)).trans (addf_real _ _))
  have s8 := (congrArg₂ addf s7 (congrArg one t8)).trans (addf_real _ _)
  refine (result m ρ c).trans (congrArg₂ addf (congrArg (fun x => Host.divf x (constant S_ .f32 0x49FD2000#32)) (s8.trans ?_))
    (congrArg (mulf (constant S_ .f32 0x3A83126F#32)) p0))
  rw [← Cert.Depth.sum_blockGap]
  have e : ∑ b ∈ Finset.range 27, Cert.Depth.blockGap dl dc b = Cert.Depth.blockGap dl dc 0
      + ∑ k ∈ Finset.range 3, Cert.Depth.blockGap dl dc (k + 1) + ∑ k ∈ Finset.range 4, Cert.Depth.blockGap dl dc (k + 4)
      + ∑ k ∈ Finset.range 3, Cert.Depth.blockGap dl dc (k + 8) + ∑ k ∈ Finset.range 5, Cert.Depth.blockGap dl dc (k + 11)
      + ∑ k ∈ Finset.range 3, Cert.Depth.blockGap dl dc (k + 16) + ∑ k ∈ Finset.range 4, Cert.Depth.blockGap dl dc (k + 19)
      + ∑ k ∈ Finset.range 3, Cert.Depth.blockGap dl dc (k + 23) + Cert.Depth.blockGap dl dc 26 := by
    simp only [Finset.sum_range_succ, Finset.sum_range_zero]
    ring
  rw [e]

end Cert.KernelIdeal.Gen

end
-- ==== Proof.RefValue.lean ====
/- The reference's result at the reals. -/
module

public import proofs.«01_k».proof.Proof.RefScatter
public import proofs.«01_k».proof.Proof.Sum

@[expose] public section

set_option maxRecDepth 16384

noncomputable section

namespace Cert.ReferenceIdeal.Read

open Cert.ReferenceIdeal Cert.ReferenceIdeal.Gen Idealize.ShloMosaic Idealize.ShloMosaic.TcCoe Idealize.SL.Sem Idealize.ShloMosaic.StableHlo
open Idealize.ShloMosaic.ValueIdx
open Cert.Depth

/-- The second frame is scattered as the first is. -/
theorem same_scatter (x1 : S1080x1920.Idx → EReal) (x2 : S3x3.Idx → EReal) (x4 : S4x4.Idx → EReal) :
    val_main_v233 (F := Ideal) x1 x2 x4 = val_main_v145 (F := Ideal) x1 x2 x4 x4 := rfl

/-- The squares of the poses' differences, added. -/
theorem poses_lift (p c : M4) : val_main_v245 (F := Ideal) (lift p) (lift c)
    = fun _ => (poseGaps (fun i => p (i 0) (i 1)) (fun i => c (i 0) (i 1)) : EReal) := funext fun i => by
  have e : ∀ j : S4x4.Idx, val_main_v244 (F := Ideal) (lift p) (lift c) j
      = (((c (j 0) (j 1) - p (j 0) (j 1)) * (c (j 0) (j 1) - p (j 0) (j 1)) : ℝ) : EReal) := fun j => by
    rw [val_main_v244_apply, val_main_v243_apply, EReal.coe_mul, EReal.coe_sub]
    rfl
  have s : ∑ j : S4x4.Idx, (c (j 0) (j 1) - p (j 0) (j 1)) * (c (j 0) (j 1) - p (j 0) (j 1))
      = poseGaps (fun i => p (i 0) (i 1)) (fun i => c (i 0) (i 1)) := sum_idx2 _
  have z : val_main_cst_43 (F := Ideal) (Shape.Idx.first h_S_) = (0 : EReal) := Ideal.ofBits_zero_f32
  rw [val_main_v245_apply, Finset.sum_congr rfl fun j _ => e j, coe_sum, s, z, zero_add]

/-- The host's sum of real entries over the image. -/
theorem image_sum (g : S1080x1920.Idx → ℝ) : Host.reduceAdd (F := Ideal) (φ := .f32) (fun j => (g j : EReal)) (val_main_cst_41 (F := Ideal)) reducesTo_S1080x1920_S_d0_1 h_S_
    = fun _ => ((∑ j : S1080x1920.Idx, g j : ℝ) : EReal) := funext fun i => by
  have z : val_main_cst_41 (F := Ideal) (Shape.Idx.first h_S_) = (0 : EReal) := Ideal.ofBits_zero_f32
  simp only [Host.reduceAdd, Ideal.hostReduceAdd_def]
  refine (Ideal.hostReduceAdd_total reducesTo_S1080x1920_S_d0_1 (fun b => b.elim0) _ _ i).trans ?_
  rw [z, zero_add]
  exact coe_sum _ _

variable (x2 : S3x3.Idx → EReal) (K : S3x3.Idx → ℝ) (hK : Reads x2 K) (hfx : K (ix2 0 0) ≠ 0) (hfy : K (ix2 1 1) ≠ 0)
  (P : M4) (hP : laplace P ≠ 0) (dl dc : S1080x1920.Idx → ℝ)

include hK hfx hfy hP

/-- One pixel's square. -/
theorem square_lift (j : S1080x1920.Idx) : val_main_v240 (F := Ideal) (fun i => (dl i : EReal)) (fun i => (dc i : EReal)) x2 (lift P) (lift P) j
    = (gap (dl j) (dc j) : EReal) := by
  rw [val_main_v240_apply, val_main_v239_apply, val_main_v238_apply, val_main_v236_apply, val_main_v237_apply, val_main_v234_apply, same_scatter,
    scatter_lift dl x2 K hK hfx hfy P hP, scatter_lift dc x2 K hK hfx hfy P hP, val_main_v235_apply, val_main_cst_40_apply]
  have z : (FloatOps.ofBits .f32 0x00000000#32 : Ideal .f32) = (0 : EReal) := Ideal.ofBits_zero_f32
  rw [z]
  have e := merged_coe (dl j) (dc j)
  unfold gap
  rw [EReal.coe_mul, EReal.coe_sub, ← e]
  rfl

/-- The squares of the pixels, added. -/
theorem image_lift : val_main_v241 (F := Ideal) (fun i => (dl i : EReal)) (fun i => (dc i : EReal)) x2 (lift P) (lift P)
    = fun _ => (imageGap dl dc : EReal) := by
  have e : val_main_v240 (F := Ideal) (fun i => (dl i : EReal)) (fun i => (dc i : EReal)) x2 (lift P) (lift P)
      = fun j => (gap (dl j) (dc j) : EReal) := funext fun j => square_lift x2 K hK hfx hfy P hP dl dc j
  have s : ∑ j : S1080x1920.Idx, gap (dl j) (dc j) = imageGap dl dc := sum_idx2 _
  unfold val_main_v241
  rw [e, image_sum fun j => gap (dl j) (dc j), s]

/-- The reference's result. -/
theorem reference_value : val_main_v247 (F := Ideal) (fun i => (dl i : EReal)) (fun i => (dc i : EReal)) x2 (lift P) (lift P)
    = addf (F := Ideal) (s := S_) (φ := .f32) (Host.divf (fun _ => (imageGap dl dc : EReal)) (constant S_ .f32 0x49FD2000#32))
        (mulf (constant S_ .f32 0x3A83126F#32) (fun _ => (poseGaps (fun i => P (i 0) (i 1)) (fun i => P (i 0) (i 1)) : EReal))) := by
  unfold val_main_v247 val_main_v242 val_main_v246
  rw [image_lift x2 K hK hfx hfy P hP dl dc, poses_lift]
  rfl

end Cert.ReferenceIdeal.Read

end
-- ==== Proof.Reals.lean ====
/- What the precondition says: the arrays that are read hold reals, the focal lengths are not zero, the two poses are one
   and its determinant is not zero. -/
module

public import proofs.«01_k».proof.Defs
public import proofs.«01_k».proof.Proof.Gen.Pre_same_invertible_pose
public import proofs.«01_k».proof.Proof.RefPoint

@[expose] public section

set_option maxRecDepth 16384

noncomputable section

namespace Cert.Pre_same_invertible_pose

open Idealize.ShloMosaic Idealize.ShloMosaic.ValueIdx
open Cert.Depth (M4 laplace minor Reads)
open Cert.ReferenceIdeal.Read (lift)

/-- A word of one bit made of a truth is one just where it is true. -/
theorem bit_true {b : Bool} (h : BitVec.ofBool b = 1#1) : b = true := by
  cases b
  · exact absurd h (by decide)
  · rfl

/-- An extended real whose absolute value is below infinity is a real. -/
theorem real_of_below (x : EReal) (h : Ideal.cmp .olt (max x (-x)) (Ideal.ofBits .f32 0x7F800000#32) = 1#1) : x = (x.toReal : EReal) := by
  have top : Ideal.ofBits .f32 0x7F800000#32 = ⊤ := by simp [Ideal.ofBits, Ideal.ieee]
  rw [top] at h
  have l := of_decide_eq_true (bit_true h)
  refine (EReal.coe_toReal (fun e => ?_) fun e => ?_).symm
  · rw [e] at l
    simp at l
  · rw [e] at l
    simp at l

/-- Two extended reals compared equal are equal. -/
theorem eq_of_cmp (x y : EReal) (h : Ideal.cmp .oeq x y = 1#1) : x = y := of_decide_eq_true (bit_true h)

/-- An extended real compared unequal to zero is not zero. -/
theorem ne_of_cmp (x : EReal) (h : Ideal.cmp .une x (Ideal.ofBits .f32 0x00000000#32) = 1#1) : x ≠ 0 := by
  rw [Ideal.ofBits_zero_f32] at h
  exact of_decide_eq_true (bit_true h)

/-- A slice of one entry, read at its place. -/
theorem slice_at {n k : ℕ} (A : (⟨2, ![n, k]⟩ : Shape).Idx → EReal) (r c : ℕ) (h : (⟨2, ![n, k]⟩ : Shape).Slices ![r, c] S1x1) (hr : r < n) (hc : c < k) :
    extractStridedSlice S1x1 ![r, c] A h (ix2 0 0) = A (ix2 ⟨r, hr⟩ ⟨c, hc⟩) := by
  unfold extractStridedSlice
  refine congrArg A (funext fun a => Fin.ext ?_)
  fin_cases a <;> rfl

/-- Every entry of a 4×4 matrix is a slice. -/
theorem slices : ∀ r s : Fin 4, S4x4.Slices ![r.val, s.val] S1x1 := by decide

/-- One entry of a 4×4 matrix, sliced out. -/
def cell (A : S4x4.Idx → EReal) (r s : Fin 4) : EReal :=
  shapeCast S_ (extractStridedSlice S1x1 ![r.val, s.val] A (slices r s)) Gen.facts.shapeCasts_S1x1_S_ (fun a => a.elim0)

theorem cell_lift (P : M4) (r s : Fin 4) : cell (lift P) r s = (P r s : EReal) :=
  (Cert.ReferenceIdeal.Read.scalar_of _ _).trans (slice_at (lift P) r.val s.val (slices r s) r.isLt s.isLt)

/-- A 2×2 minor of sliced entries. -/
def cellMinor (A : S4x4.Idx → EReal) (r s i j : Fin 4) : EReal := cell A r i * cell A s j - cell A r j * cell A s i

theorem cellMinor_lift (P : M4) (r s i j : Fin 4) : cellMinor (lift P) r s i j = (minor P r s i j : EReal) := by
  unfold cellMinor minor
  rw [cell_lift, cell_lift, cell_lift, cell_lift, EReal.coe_sub, EReal.coe_mul, EReal.coe_mul]

/-- The determinant of sliced entries. -/
def cellDet (A : S4x4.Idx → EReal) : EReal :=
  cellMinor A 0 1 0 1 * cellMinor A 2 3 2 3 - cellMinor A 0 1 0 2 * cellMinor A 2 3 1 3 + cellMinor A 0 1 0 3 * cellMinor A 2 3 1 2
    + cellMinor A 0 1 1 2 * cellMinor A 2 3 0 3 - cellMinor A 0 1 1 3 * cellMinor A 2 3 0 2 + cellMinor A 0 1 2 3 * cellMinor A 2 3 0 1

theorem cellDet_lift (P : M4) : cellDet (lift P) = (laplace P : EReal) := by
  unfold cellDet laplace
  simp only [cellMinor_lift, EReal.coe_add, EReal.coe_sub, EReal.coe_mul]

variable (x0 x1 : S1080x1920.Idx → EReal) (x2 : S3x3.Idx → EReal) (x3 x4 : S4x4.Idx → EReal)

/-- The precondition over five arrays: each of its answers is yes. -/
def Holds : Prop :=
  (fn (F := Ideal) x0 x1 x2 x3 x4).1 = (fun _ => 1#1)
  ∧ (fn (F := Ideal) x0 x1 x2 x3 x4).2.1 = (fun _ => 1#1)
  ∧ (fn (F := Ideal) x0 x1 x2 x3 x4).2.2.1 = (fun _ => 1#1)
  ∧ (fn (F := Ideal) x0 x1 x2 x3 x4).2.2.2.1 = (fun _ => 1#1)
  ∧ (fn (F := Ideal) x0 x1 x2 x3 x4).2.2.2.2.1 = (fun _ => 1#1)
  ∧ (fn (F := Ideal) x0 x1 x2 x3 x4).2.2.2.2.2.1 = (fun _ => 1#1)
  ∧ (fn (F := Ideal) x0 x1 x2 x3 x4).2.2.2.2.2.2.1 = (fun _ => 1#1)
  ∧ (fn (F := Ideal) x0 x1 x2 x3 x4).2.2.2.2.2.2.2.1 = (fun _ => 1#1)
  ∧ (fn (F := Ideal) x0 x1 x2 x3 x4).2.2.2.2.2.2.2.2.1 = (fun _ => 1#1)
  ∧ (fn (F := Ideal) x0 x1 x2 x3 x4).2.2.2.2.2.2.2.2.2.1 = (fun _ => 1#1)
  ∧ (fn (F := Ideal) x0 x1 x2 x3 x4).2.2.2.2.2.2.2.2.2.2 = (fun _ => 1#1)

/-- One entry of the intrinsics that is finite is a real. -/
theorem entry_real (r c : Fin 3) (h : S3x3.Slices ![r.val, c.val] S1x1)
    (hf : Ideal.cmp .olt (max (extractStridedSlice S1x1 ![r.val, c.val] x2 h (ix2 0 0)) (-(extractStridedSlice S1x1 ![r.val, c.val] x2 h (ix2 0 0))))
      (Ideal.ofBits .f32 0x7F800000#32) = 1#1) : x2 (ix2 r c) = ((x2 (ix2 r c)).toReal : EReal) := by
  rw [slice_at x2 r.val c.val h r.isLt c.isLt] at hf
  exact real_of_below _ hf

/-- One entry of the intrinsics that is not zero, and is a real. -/
theorem entry_ne (r c : Fin 3) (h : S3x3.Slices ![r.val, c.val] S1x1) (e : x2 (ix2 r c) = ((x2 (ix2 r c)).toReal : EReal))
    (hf : Ideal.cmp .une (extractStridedSlice S1x1 ![r.val, c.val] x2 h (ix2 0 0)) (Ideal.ofBits .f32 0x00000000#32) = 1#1) :
    (x2 (ix2 r c)).toReal ≠ 0 := by
  rw [slice_at x2 r.val c.val h r.isLt c.isLt] at hf
  intro hz
  rw [hz, EReal.coe_zero] at e
  exact ne_of_cmp _ hf e

/-- What the precondition says of the five arrays. -/
theorem reals (h : Holds x0 x1 x2 x3 x4) : ∃ (dl dc : S1080x1920.Idx → ℝ) (K : S3x3.Idx → ℝ) (P : M4),
    x0 = (fun i => (dl i : EReal)) ∧ x1 = (fun i => (dc i : EReal)) ∧ Reads x2 K ∧ K (ix2 0 0) ≠ 0 ∧ K (ix2 1 1) ≠ 0
      ∧ x3 = lift P ∧ x4 = lift P ∧ laplace P ≠ 0 := by
  obtain ⟨h0, h1, h2, h3, h4, h5, h6, h7, h8, h9, h10⟩ := h
  have e0 := entry_real x2 0 0 Gen.facts.slices_S3x3_S1x1_0_0 (congrFun h2 (ix2 0 0))
  have e1 := entry_real x2 0 2 Gen.facts.slices_S3x3_S1x1_0_2 (congrFun h4 (ix2 0 0))
  have e2 := entry_real x2 1 1 Gen.facts.slices_S3x3_S1x1_1_1 (congrFun h5 (ix2 0 0))
  have e3 := entry_real x2 1 2 Gen.facts.slices_S3x3_S1x1_1_2 (congrFun h7 (ix2 0 0))
  have p4 : x4 = lift fun r s => (x4 (ix2 r s)).toReal := funext fun i => by
    have e := real_of_below (x4 i) (congrFun h8 i)
    have hi : i = ix2 (i 0) (i 1) := eq_ix2 i
    exact e.trans (congrArg (fun j => ((x4 j).toReal : EReal)) hi)
  have p3 : x3 = x4 := funext fun i => eq_of_cmp _ _ (congrFun h9 i)
  refine ⟨fun i => (x0 i).toReal, fun i => (x1 i).toReal, fun i => (x2 i).toReal, fun r s => (x4 (ix2 r s)).toReal,
    funext fun i => real_of_below (x0 i) (congrFun h0 i), funext fun i => real_of_below (x1 i) (congrFun h1 i), ⟨e0, e1, e2, e3⟩,
    entry_ne x2 0 0 Gen.facts.slices_S3x3_S1x1_0_0 e0 (congrFun h3 (ix2 0 0)),
    entry_ne x2 1 1 Gen.facts.slices_S3x3_S1x1_1_1 e2 (congrFun h6 (ix2 0 0)), p3.trans p4, p4, ?_⟩
  have d := ne_of_cmp (cellDet x4) (congrFun h10 fun a => a.elim0)
  exact fun z => d ((congrArg cellDet p4).trans ((cellDet_lift _).trans ((congrArg (fun t : ℝ => (t : EReal)) z).trans EReal.coe_zero)))

end Cert.Pre_same_invertible_pose

end
-- ==== Proof.lean ====
/- The proof of every claim: the frames, and the kernel's result equal to the reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_same_invertible_pose
public import proofs.«01_k».proof.Proof.Gen.ReferenceIdeal.Run
public import proofs.«01_k».proof.Proof.Gen.ReferenceIdeal.Read
public import proofs.«01_k».proof.Proof.Valued
public import proofs.«01_k».proof.Proof.RefValue
public import proofs.«01_k».proof.Proof.Reals
public import Idealize.ShloMosaic.Adequacy
public import Idealize.ShloMosaic.Init

@[expose] public section

noncomputable section

namespace Cert.Proof

open Idealize.ShloMosaic Idealize.SL.Sem Idealize.ShloMosaic.StableHlo

/-- The reference's run leaves its arguments as they were and every counter at zero. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0) :=
  (θ_run _ _ _).mono (fun r h => ⟨fun c => (h c).2, sem_eq_zero_of_no_sems (by decide) r.2⟩) (Cert.ReferenceIdeal.Value.run m g)

/-- The kernel's result is the reference's, of arguments the precondition holds of. -/
theorem same_result (m : (ℓ : Loc Cert.KernelIdeal.nD Cert.KernelIdeal.τ Cert.KernelIdeal.sig) → Buf (Elt Ideal) ℓ) (g : Dev Cert.KernelIdeal.nD → PrngReg)
    (c : Dev Cert.KernelIdeal.nD)
    (h : Cert.Pre_same_invertible_pose.Holds (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4))) :
    Cert.ReferenceIdeal.Read.val_main_v247 (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4))
      = Cert.KernelIdeal.Gen.W18 m g c (Proc.devRef .tc Cert.KernelIdeal.main_v31) := by
  obtain ⟨dl, dc, K, P, e0, e1, hK, hfx, hfy, e3, e4, hP⟩ := Cert.Pre_same_invertible_pose.reals _ _ _ _ _ h
  have k := Cert.KernelIdeal.Gen.kernel_value m g c dl dc K (fun i => P (i 0) (i 1)) (fun i => P (i 0) (i 1)) e0 e1 hK hfx hfy e3 e4
  have r := Cert.ReferenceIdeal.Read.reference_value (m ((c.tc : Thread Cert.KernelIdeal.nD Cert.KernelIdeal.τ).loc Cert.KernelIdeal.main_arg2)) K hK hfx hfy P hP dl dc
  rw [e0, e1, e3, e4]
  exact r.trans k.symm

/-- Every claim. -/
theorem claim : Cert.Claim := by
  refine ⟨Cert.Kernel.Gen.facts, Cert.KernelIdeal.Gen.facts, Cert.ReferenceIdeal.Gen.facts, Cert.Pre_same_invertible_pose.Gen.facts,
    fun m g _ => Cert.Kernel.Gen.frame m g, fun m g _ => Cert.KernelIdeal.Gen.frame m g, fun m g _ => Cert.KernelIdeal.Gen.frame m g,
    fun m g _ => reference_frame m g, fun m g _ => reference_frame m g, trivial, fun m g m' g' hpre hagree => ?_⟩
  refine ⟨fun c => Cert.KernelIdeal.Gen.W18 m g c (Proc.devRef .tc Cert.KernelIdeal.main_v31), Cert.KernelIdeal.Gen.valued m g, ?_⟩
  refine (θ_run _ _ _).mono (fun r h c => ⟨((h c).1.trans (Cert.ReferenceIdeal.Read.val_main_v247_eq (launchContents m' c))).trans ?_, (h c).2⟩)
    (Cert.ReferenceIdeal.Value.run m' g')
  show Cert.ReferenceIdeal.Read.val_main_v247 (F := Ideal) (m' ((c.tc : Thread Cert.ReferenceIdeal.nD Cert.ReferenceIdeal.τ).loc Cert.ReferenceIdeal.main_arg0))
    (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2))
    (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) = _
  rw [(hagree c).1, (hagree c).2.1, (hagree c).2.2.1, (hagree c).2.2.2.1, (hagree c).2.2.2.2]
  exact same_result m g c (hpre c)

end Cert.Proof

end
